-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S1000000x64 : Shape := ⟨2, ![1000000, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 1 := constantI S_ 1 1#1
  let main_v2 : IVec S_ 1 := (fun x v => Host.reduce IntOp.andi x v reducesTo_S4096x200_S_d0_1 h_S_) main_v1 main_c_0
  let main_c_1 : IVec S_ 32 := constantI S_ 32 1000000#32
  let main_v3 : IVec S4096x200 32 := broadcastInDim S4096x200 ![] bcast_S_S4096x200 main_c_1
  let main_v4 : IVec S4096x200 1 := cmpi .slt main_arg0 main_v3
  let main_c_2 : IVec S_ 1 := constantI S_ 1 1#1
  let main_v5 : IVec S_ 1 := (fun x v => Host.reduce IntOp.andi x v reducesTo_S4096x200_S_d0_1 h_S_) main_v4 main_c_2
  let main_v6 : IVec S_ 1 := andi main_v2 main_v5
  main_v6
-- ==== Kernel.lean ====
abbrev S4096x200 : Shape := ⟨2, ![4096, 200]⟩
abbrev S1000000x64 : Shape := ⟨2, ![1000000, 64]⟩
abbrev S200x4096 : Shape := ⟨2, ![200, 4096]⟩
abbrev S500000x128 : Shape := ⟨2, ![500000, 128]⟩
abbrev S200x64x4096 : Shape := ⟨3, ![200, 64, 4096]⟩
abbrev S200x128 : Shape := ⟨2, ![200, 128]⟩
abbrev S128 : Shape := ⟨1, ![128]⟩
abbrev S128x128 : Shape := ⟨2, ![128, 128]⟩
abbrev S64x128 : Shape := ⟨2, ![64, 128]⟩
abbrev S_ : Shape := ⟨0, ![]⟩
abbrev S16 : Shape := ⟨1, ![16]⟩
abbrev S1x16 : Shape := ⟨2, ![1, 16]⟩
abbrev S1x64x128 : Shape := ⟨3, ![1, 64, 128]⟩
abbrev S4096x200x64 : Shape := ⟨3, ![4096, 200, 64]⟩

abbrev nBuf : Table → Nat
  | .hbm => 6
  | .local .scVector .vmem => 13
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S200x4096, .i32⟩
  | .hbm, ⟨3, _⟩ => ⟨S500000x128, .f32⟩
  | .hbm, ⟨4, _⟩ => ⟨S200x64x4096, .f32⟩
  | .hbm, ⟨5, _⟩ => ⟨S4096x200x64, .f32⟩
  | .local .scVector .vmem, ⟨0, _⟩ => ⟨S200x128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S64x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_155_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  ![0, v3.toNat]
def k0_off2 (c0_i32_0 : BitVec 32) : Fin 2 → Nat :=
  let c0_i32_1 : BitVec 32 := 0#32
  let v5 : Index := Scalar.indexCast c0_i32_1
  let c16_i32 : BitVec 32 := 16#32
  let v4 : BitVec 32 := Scalar.muli c16_i32 c0_i32_0
  let v6 : Index := Scalar.indexCast v4
  ![0, v6.toNat]
def k0_off3 (c0_i32_0 : BitVec 32) : Fin 1 → Nat :=
  let c16_i32 : BitVec 32 := 16#32
  let v4 : BitVec 32 := Scalar.muli c16_i32 c0_i32_0
  let v10 : Index := Scalar.indexCast v4
  ![v10.toNat]
def k0_off4 (c0_i32_28 : BitVec 32) : Fin 2 → Nat :=
  let c1_i32_30 : BitVec 32 := 1#32
  let v70 : Index := Scalar.indexCast c1_i32_30
  let c16_i32_29 : BitVec 32 := 16#32
  let v69 : BitVec 32 := Scalar.muli c16_i32_29 c0_i32_28
  let v71 : Index := Scalar.indexCast v69
  ![1, v71.toNat]
def k0_off5 (c0_i32_64 : BitVec 32) : Fin 2 → Nat :=
  let c2_i32_66 : BitVec 32 := 2#32
  let v135 : Index := Scalar.indexCast c2_i32_66
  let c16_i32_65 : BitVec 32 := 16#32
  let v134 : BitVec 32 := Scalar.muli c16_i32_65 c0_i32_64
  let v136 : Index := Scalar.indexCast v134
  ![2, v136.toNat]
def k0_off6 (c0_i32_100 : BitVec 32) : Fin 2 → Nat :=
  let c3_i32_102 : BitVec 32 := 3#32
  let v200 : Index := Scalar.indexCast c3_i32_102
  let c16_i32_101 : BitVec 32 := 16#32
  let v199 : BitVec 32 := Scalar.muli c16_i32_101 c0_i32_100
  let v201 : Index := Scalar.indexCast v199
  ![3, v201.toNat]
@[reducible] def k0_t1_loop : Scf.Loop 32 :=
  let c0_i32_136 : BitVec 32 := 0#32
  let c50_i32 : BitVec 32 := 50#32
  let v264 : BitVec 32 := Scalar.addi c0_i32_136 c50_i32
  let c1_i32_137 : BitVec 32 := 1#32
  ⟨c0_i32_136, v264, c1_i32_137⟩
def k0_cond1 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c0_i32_159 : BitVec 32 := 0#32
  let v288 : BitVec 1 := Scalar.cmpi .sgt arg26 c0_i32_159
  let v289 : BitVec 32 := Scalar.extui v288
  let c0_i32_160 : BitVec 32 := 0#32
  let v290 : BitVec 1 := Scalar.cmpi .ne v289 c0_i32_160
  v290

def k0_off7 (i : grid0.Coords) : Fin 3 → Nat :=
  let c0_i32_219 : BitVec 32 := 0#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_218 : BitVec 32 := 128#32
  let v345 : BitVec 32 := Scalar.muli v1 c128_i32_218
  ![0, 0, v345.toNat]
@[reducible] def k0_t2_loop : Scf.Loop 32 :=
  let c0_i32_162 : BitVec 32 := 0#32
  let c8_i32_163 : BitVec 32 := 8#32
  let v291 : BitVec 32 := Scalar.addi c0_i32_162 c8_i32_163
  let c1_i32_164 : BitVec 32 := 1#32
  ⟨c0_i32_162, v291, c1_i32_164⟩
def k0_off8 (k0_t1 : Fin k0_t1_loop.trips) (k0_t2 : Fin k0_t2_loop.trips) : Fin 2 → Nat :=
  let c0_i32_136 : BitVec 32 := 0#32
  let c1_i32_137 : BitVec 32 := 1#32
  let arg26 : BitVec 32 := Scf.iv c0_i32_136 c1_i32_137 k0_t1
  let c4_i32_155 : BitVec 32 := 4#32
  let v285 : BitVec 32 := Scalar.muli arg26 c4_i32_155
  let c0_i32_156 : BitVec 32 := 0#32
  let v286 : BitVec 32 := Scalar.addi v285 c0_i32_156
  let v349 : Index := Scalar.indexCast v286
  let c0_i32_162 : BitVec 32 := 0#32
  let c1_i32_164 : BitVec 32 := 1#32
  let arg27 : BitVec 32 := Scf.iv c0_i32_162 c1_i32_164 k0_t2
  let c16_i32_219 : BitVec 32 := 16#32
  let v348 : BitVec 32 := Scalar.muli arg27 c16_i32_219
  let v350 : Index := Scalar.indexCast v348
  ![v349.toNat, v350.toNat]

def k0_chk1 (v347 : IVec S16 32) (v362 : IVec S16 32) : Prop :=
  (∀ a x, ((![v347, v362] : Fin 2 → IVec S16 32) a x).toNat < S128x128.size a)
theorem k0_idx1_inb : ∀ (v347 : IVec S16 32) (v362 : IVec S16 32) (k0_hw1 : k0_chk1 v347 v362), ∀ a x, ((![v347, v362] : Fin 2 → IVec S16 32) a x).toNat < S128x128.size a := fun v347 v362 k0_hw1 => k0_hw1

def k0_chk2 (v347 : IVec S16 32) (v361 : IVec S16 32) : Prop :=
  (∀ a x, ((![v361, v347] : Fin 2 → IVec S16 32) a x).toNat < S64x128.size a)
theorem k0_idx2_inb : ∀ (v347 : IVec S16 32) (v361 : IVec S16 32) (k0_hw2 : k0_chk2 v347 v361), ∀ a x, ((![v361, v347] : Fin 2 → IVec S16 32) a x).toNat < S64x128.size a := fun v347 v361 k0_hw2 => k0_hw2

def k0_chk3 (v347 : IVec S16 32) (v372 : IVec S16 32) : Prop :=
  (∀ a x, ((![v347, v372] : Fin 2 → IVec S16 32) a x).toNat < S128x128.size a)
theorem k0_idx3_inb : ∀ (v347 : IVec S16 32) (v372 : IVec S16 32) (k0_hw3 : k0_chk3 v347 v372), ∀ a x, ((![v347, v372] : Fin 2 → IVec S16 32) a x).toNat < S128x128.size a := fun v347 v372 k0_hw3 => k0_hw3

def k0_chk4 (v347 : IVec S16 32) (v371 : IVec S16 32) : Prop :=
  (∀ a x, ((![v371, v347] : Fin 2 → IVec S16 32) a x).toNat < S64x128.size a)
theorem k0_idx4_inb : ∀ (v347 : IVec S16 32) (v371 : IVec S16 32) (k0_hw4 : k0_chk4 v347 v371), ∀ a x, ((![v371, v347] : Fin 2 → IVec S16 32) a x).toNat < S64x128.size a := fun v347 v371 k0_hw4 => k0_hw4

def k0_chk5 (v347 : IVec S16 32) (v382 : IVec S16 32) : Prop :=
  (∀ a x, ((![v347, v382] : Fin 2 → IVec S16 32) a x).toNat < S128x128.size a)
theorem k0_idx5_inb : ∀ (v347 : IVec S16 32) (v382 : IVec S16 32) (k0_hw5 : k0_chk5 v347 v382), ∀ a x, ((![v347, v382] : Fin 2 → IVec S16 32) a x).toNat < S128x128.size a := fun v347 v382 k0_hw5 => k0_hw5

def k0_chk6 (v347 : IVec S16 32) (v381 : IVec S16 32) : Prop :=
  (∀ a x, ((![v381, v347] : Fin 2 → IVec S16 32) a x).toNat < S64x128.size a)
theorem k0_idx6_inb : ∀ (v347 : IVec S16 32) (v381 : IVec S16 32) (k0_hw6 : k0_chk6 v347 v381), ∀ a x, ((![v381, v347] : Fin 2 → IVec S16 32) a x).toNat < S64x128.size a := fun v347 v381 k0_hw6 => k0_hw6

def k0_chk7 (v347 : IVec S16 32) (v392 : IVec S16 32) : Prop :=
  (∀ a x, ((![v347, v392] : Fin 2 → IVec S16 32) a x).toNat < S128x128.size a)
theorem k0_idx7_inb : ∀ (v347 : IVec S16 32) (v392 : IVec S16 32) (k0_hw7 : k0_chk7 v347 v392), ∀ a x, ((![v347, v392] : Fin 2 → IVec S16 32) a x).toNat < S128x128.size a := fun v347 v392 k0_hw7 => k0_hw7

def k0_chk8 (v347 : IVec S16 32) (v391 : IVec S16 32) : Prop :=
  (∀ a x, ((![v391, v347] : Fin 2 → IVec S16 32) a x).toNat < S64x128.size a)
theorem k0_idx8_inb : ∀ (v347 : IVec S16 32) (v391 : IVec S16 32) (k0_hw8 : k0_chk8 v347 v391), ∀ a x, ((![v391, v347] : Fin 2 → IVec S16 32) a x).toNat < S64x128.size a := fun v347 v391 k0_hw8 => k0_hw8

def k0_chk9 (v347 : IVec S16 32) (v402 : IVec S16 32) : Prop :=
  (∀ a x, ((![v347, v402] : Fin 2 → IVec S16 32) a x).toNat < S128x128.size a)
theorem k0_idx9_inb : ∀ (v347 : IVec S16 32) (v402 : IVec S16 32) (k0_hw9 : k0_chk9 v347 v402), ∀ a x, ((![v347, v402] : Fin 2 → IVec S16 32) a x).toNat < S128x128.size a := fun v347 v402 k0_hw9 => k0_hw9

def k0_chk10 (v347 : IVec S16 32) (v401 : IVec S16 32) : Prop :=
  (∀ a x, ((![v401, v347] : Fin 2 → IVec S16 32) a x).toNat < S64x128.size a)
theorem k0_idx10_inb : ∀ (v347 : IVec S16 32) (v401 : IVec S16 32) (k0_hw10 : k0_chk10 v347 v401), ∀ a x, ((![v401, v347] : Fin 2 → IVec S16 32) a x).toNat < S64x128.size a := fun v347 v401 k0_hw10 => k0_hw10

def k0_chk11 (v347 : IVec S16 32) (v412 : IVec S16 32) : Prop :=
  (∀ a x, ((![v347, v412] : Fin 2 → IVec S16 32) a x).toNat < S128x128.size a)
theorem k0_idx11_inb : ∀ (v347 : IVec S16 32) (v412 : IVec S16 32) (k0_hw11 : k0_chk11 v347 v412), ∀ a x, ((![v347, v412] : Fin 2 → IVec S16 32) a x).toNat < S128x128.size a := fun v347 v412 k0_hw11 => k0_hw11

def k0_chk12 (v347 : IVec S16 32) (v411 : IVec S16 32) : Prop :=
  (∀ a x, ((![v411, v347] : Fin 2 → IVec S16 32) a x).toNat < S64x128.size a)
theorem k0_idx12_inb : ∀ (v347 : IVec S16 32) (v411 : IVec S16 32) (k0_hw12 : k0_chk12 v347 v411), ∀ a x, ((![v411, v347] : Fin 2 → IVec S16 32) a x).toNat < S64x128.size a := fun v347 v411 k0_hw12 => k0_hw12

def k0_chk13 (v347 : IVec S16 32) (v422 : IVec S16 32) : Prop :=
  (∀ a x, ((![v347, v422] : Fin 2 → IVec S16 32) a x).toNat < S128x128.size a)
theorem k0_idx13_inb : ∀ (v347 : IVec S16 32) (v422 : IVec S16 32) (k0_hw13 : k0_chk13 v347 v422), ∀ a x, ((![v347, v422] : Fin 2 → IVec S16 32) a x).toNat < S128x128.size a := fun v347 v422 k0_hw13 => k0_hw13

def k0_chk14 (v347 : IVec S16 32) (v421 : IVec S16 32) : Prop :=
  (∀ a x, ((![v421, v347] : Fin 2 → IVec S16 32) a x).toNat < S64x128.size a)
theorem k0_idx14_inb : ∀ (v347 : IVec S16 32) (v421 : IVec S16 32) (k0_hw14 : k0_chk14 v347 v421), ∀ a x, ((![v421, v347] : Fin 2 → IVec S16 32) a x).toNat < S64x128.size a := fun v347 v421 k0_hw14 => k0_hw14

def k0_chk15 (v347 : IVec S16 32) (v432 : IVec S16 32) : Prop :=
  (∀ a x, ((![v347, v432] : Fin 2 → IVec S16 32) a x).toNat < S128x128.size a)
theorem k0_idx15_inb : ∀ (v347 : IVec S16 32) (v432 : IVec S16 32) (k0_hw15 : k0_chk15 v347 v432), ∀ a x, ((![v347, v432] : Fin 2 → IVec S16 32) a x).toNat < S128x128.size a := fun v347 v432 k0_hw15 => k0_hw15

def k0_chk16 (v347 : IVec S16 32) (v431 : IVec S16 32) : Prop :=
  (∀ a x, ((![v431, v347] : Fin 2 → IVec S16 32) a x).toNat < S64x128.size a)
theorem k0_idx16_inb : ∀ (v347 : IVec S16 32) (v431 : IVec S16 32) (k0_hw16 : k0_chk16 v347 v431), ∀ a x, ((![v431, v347] : Fin 2 → IVec S16 32) a x).toNat < S64x128.size a := fun v347 v431 k0_hw16 => k0_hw16

def k0_chk17 (v347 : IVec S16 32) (v442 : IVec S16 32) : Prop :=
  (∀ a x, ((![v347, v442] : Fin 2 → IVec S16 32) a x).toNat < S128x128.size a)
theorem k0_idx17_inb : ∀ (v347 : IVec S16 32) (v442 : IVec S16 32) (k0_hw17 : k0_chk17 v347 v442), ∀ a x, ((![v347, v442] : Fin 2 → IVec S16 32) a x).toNat < S128x128.size a := fun v347 v442 k0_hw17 => k0_hw17

def k0_chk18 (v347 : IVec S16 32) (v441 : IVec S16 32) : Prop :=
  (∀ a x, ((![v441, v347] : Fin 2 → IVec S16 32) a x).toNat < S64x128.size a)
theorem k0_idx18_inb : ∀ (v347 : IVec S16 32) (v441 : IVec S16 32) (k0_hw18 : k0_chk18 v347 v441), ∀ a x, ((![v441, v347] : Fin 2 → IVec S16 32) a x).toNat < S64x128.size a := fun v347 v441 k0_hw18 => k0_hw18

def k0_chk19 (v347 : IVec S16 32) (v452 : IVec S16 32) : Prop :=
  (∀ a x, ((![v347, v452] : Fin 2 → IVec S16 32) a x).toNat < S128x128.size a)
theorem k0_idx19_inb : ∀ (v347 : IVec S16 32) (v452 : IVec S16 32) (k0_hw19 : k0_chk19 v347 v452), ∀ a x, ((![v347, v452] : Fin 2 → IVec S16 32) a x).toNat < S128x128.size a := fun v347 v452 k0_hw19 => k0_hw19

def k0_chk20 (v347 : IVec S16 32) (v451 : IVec S16 32) : Prop :=
  (∀ a x, ((![v451, v347] : Fin 2 → IVec S16 32) a x).toNat < S64x128.size a)
theorem k0_idx20_inb : ∀ (v347 : IVec S16 32) (v451 : IVec S16 32) (k0_hw20 : k0_chk20 v347 v451), ∀ a x, ((![v451, v347] : Fin 2 → IVec S16 32) a x).toNat < S64x128.size a := fun v347 v451 k0_hw20 => k0_hw20

def k0_chk21 (v347 : IVec S16 32) (v462 : IVec S16 32) : Prop :=
  (∀ a x, ((![v347, v462] : Fin 2 → IVec S16 32) a x).toNat < S128x128.size a)
theorem k0_idx21_inb : ∀ (v347 : IVec S16 32) (v462 : IVec S16 32) (k0_hw21 : k0_chk21 v347 v462), ∀ a x, ((![v347, v462] : Fin 2 → IVec S16 32) a x).toNat < S128x128.size a := fun v347 v462 k0_hw21 => k0_hw21

def k0_chk22 (v347 : IVec S16 32) (v461 : IVec S16 32) : Prop :=
  (∀ a x, ((![v461, v347] : Fin 2 → IVec S16 32) a x).toNat < S64x128.size a)
theorem k0_idx22_inb : ∀ (v347 : IVec S16 32) (v461 : IVec S16 32) (k0_hw22 : k0_chk22 v347 v461), ∀ a x, ((![v461, v347] : Fin 2 → IVec S16 32) a x).toNat < S64x128.size a := fun v347 v461 k0_hw22 => k0_hw22

def k0_chk23 (v347 : IVec S16 32) (v472 : IVec S16 32) : Prop :=
  (∀ a x, ((![v347, v472] : Fin 2 → IVec S16 32) a x).toNat < S128x128.size a)
theorem k0_idx23_inb : ∀ (v347 : IVec S16 32) (v472 : IVec S16 32) (k0_hw23 : k0_chk23 v347 v472), ∀ a x, ((![v347, v472] : Fin 2 → IVec S16 32) a x).toNat < S128x128.size a := fun v347 v472 k0_hw23 => k0_hw23

def k0_chk24 (v347 : IVec S16 32) (v471 : IVec S16 32) : Prop :=
  (∀ a x, ((![v471, v347] : Fin 2 → IVec S16 32) a x).toNat < S64x128.size a)
theorem k0_idx24_inb : ∀ (v347 : IVec S16 32) (v471 : IVec S16 32) (k0_hw24 : k0_chk24 v347 v471), ∀ a x, ((![v471, v347] : Fin 2 → IVec S16 32) a x).toNat < S64x128.size a := fun v347 v471 k0_hw24 => k0_hw24

def k0_chk25 (v347 : IVec S16 32) (v482 : IVec S16 32) : Prop :=
  (∀ a x, ((![v347, v482] : Fin 2 → IVec S16 32) a x).toNat < S128x128.size a)
theorem k0_idx25_inb : ∀ (v347 : IVec S16 32) (v482 : IVec S16 32) (k0_hw25 : k0_chk25 v347 v482), ∀ a x, ((![v347, v482] : Fin 2 → IVec S16 32) a x).toNat < S128x128.size a := fun v347 v482 k0_hw25 => k0_hw25

def k0_chk26 (v347 : IVec S16 32) (v481 : IVec S16 32) : Prop :=
  (∀ a x, ((![v481, v347] : Fin 2 → IVec S16 32) a x).toNat < S64x128.size a)
theorem k0_idx26_inb : ∀ (v347 : IVec S16 32) (v481 : IVec S16 32) (k0_hw26 : k0_chk26 v347 v481), ∀ a x, ((![v481, v347] : Fin 2 → IVec S16 32) a x).toNat < S64x128.size a := fun v347 v481 k0_hw26 => k0_hw26

def k0_chk27 (v347 : IVec S16 32) (v492 : IVec S16 32) : Prop :=
  (∀ a x, ((![v347, v492] : Fin 2 → IVec S16 32) a x).toNat < S128x128.size a)
theorem k0_idx27_inb : ∀ (v347 : IVec S16 32) (v492 : IVec S16 32) (k0_hw27 : k0_chk27 v347 v492), ∀ a x, ((![v347, v492] : Fin 2 → IVec S16 32) a x).toNat < S128x128.size a := fun v347 v492 k0_hw27 => k0_hw27

def k0_chk28 (v347 : IVec S16 32) (v491 : IVec S16 32) : Prop :=
  (∀ a x, ((![v491, v347] : Fin 2 → IVec S16 32) a x).toNat < S64x128.size a)
theorem k0_idx28_inb : ∀ (v347 : IVec S16 32) (v491 : IVec S16 32) (k0_hw28 : k0_chk28 v347 v491), ∀ a x, ((![v491, v347] : Fin 2 → IVec S16 32) a x).toNat < S64x128.size a := fun v347 v491 k0_hw28 => k0_hw28

def k0_chk29 (v347 : IVec S16 32) (v502 : IVec S16 32) : Prop :=
  (∀ a x, ((![v347, v502] : Fin 2 → IVec S16 32) a x).toNat < S128x128.size a)
theorem k0_idx29_inb : ∀ (v347 : IVec S16 32) (v502 : IVec S16 32) (k0_hw29 : k0_chk29 v347 v502), ∀ a x, ((![v347, v502] : Fin 2 → IVec S16 32) a x).toNat < S128x128.size a := fun v347 v502 k0_hw29 => k0_hw29

def k0_chk30 (v347 : IVec S16 32) (v501 : IVec S16 32) : Prop :=
  (∀ a x, ((![v501, v347] : Fin 2 → IVec S16 32) a x).toNat < S64x128.size a)
theorem k0_idx30_inb : ∀ (v347 : IVec S16 32) (v501 : IVec S16 32) (k0_hw30 : k0_chk30 v347 v501), ∀ a x, ((![v501, v347] : Fin 2 → IVec S16 32) a x).toNat < S64x128.size a := fun v347 v501 k0_hw30 => k0_hw30

def k0_chk31 (v347 : IVec S16 32) (v512 : IVec S16 32) : Prop :=
  (∀ a x, ((![v347, v512] : Fin 2 → IVec S16 32) a x).toNat < S128x128.size a)
theorem k0_idx31_inb : ∀ (v347 : IVec S16 32) (v512 : IVec S16 32) (k0_hw31 : k0_chk31 v347 v512), ∀ a x, ((![v347, v512] : Fin 2 → IVec S16 32) a x).toNat < S128x128.size a := fun v347 v512 k0_hw31 => k0_hw31

def k0_chk32 (v347 : IVec S16 32) (v511 : IVec S16 32) : Prop :=
  (∀ a x, ((![v511, v347] : Fin 2 → IVec S16 32) a x).toNat < S64x128.size a)
theorem k0_idx32_inb : ∀ (v347 : IVec S16 32) (v511 : IVec S16 32) (k0_hw32 : k0_chk32 v347 v511), ∀ a x, ((![v511, v347] : Fin 2 → IVec S16 32) a x).toNat < S64x128.size a := fun v347 v511 k0_hw32 => k0_hw32

def k0_chk33 (v347 : IVec S16 32) (v522 : IVec S16 32) : Prop :=
  (∀ a x, ((![v347, v522] : Fin 2 → IVec S16 32) a x).toNat < S128x128.size a)
theorem k0_idx33_inb : ∀ (v347 : IVec S16 32) (v522 : IVec S16 32) (k0_hw33 : k0_chk33 v347 v522), ∀ a x, ((![v347, v522] : Fin 2 → IVec S16 32) a x).toNat < S128x128.size a := fun v347 v522 k0_hw33 => k0_hw33

def k0_chk34 (v347 : IVec S16 32) (v521 : IVec S16 32) : Prop :=
  (∀ a x, ((![v521, v347] : Fin 2 → IVec S16 32) a x).toNat < S64x128.size a)
theorem k0_idx34_inb : ∀ (v347 : IVec S16 32) (v521 : IVec S16 32) (k0_hw34 : k0_chk34 v347 v521), ∀ a x, ((![v521, v347] : Fin 2 → IVec S16 32) a x).toNat < S64x128.size a := fun v347 v521 k0_hw34 => k0_hw34

def k0_chk35 (v347 : IVec S16 32) (v532 : IVec S16 32) : Prop :=
  (∀ a x, ((![v347, v532] : Fin 2 → IVec S16 32) a x).toNat < S128x128.size a)
theorem k0_idx35_inb : ∀ (v347 : IVec S16 32) (v532 : IVec S16 32) (k0_hw35 : k0_chk35 v347 v532), ∀ a x, ((![v347, v532] : Fin 2 → IVec S16 32) a x).toNat < S128x128.size a := fun v347 v532 k0_hw35 => k0_hw35

def k0_chk36 (v347 : IVec S16 32) (v531 : IVec S16 32) : Prop :=
  (∀ a x, ((![v531, v347] : Fin 2 → IVec S16 32) a x).toNat < S64x128.size a)
theorem k0_idx36_inb : ∀ (v347 : IVec S16 32) (v531 : IVec S16 32) (k0_hw36 : k0_chk36 v347 v531), ∀ a x, ((![v531, v347] : Fin 2 → IVec S16 32) a x).toNat < S64x128.size a := fun v347 v531 k0_hw36 => k0_hw36

def k0_chk37 (v347 : IVec S16 32) (v542 : IVec S16 32) : Prop :=
  (∀ a x, ((![v347, v542] : Fin 2 → IVec S16 32) a x).toNat < S128x128.size a)
theorem k0_idx37_inb : ∀ (v347 : IVec S16 32) (v542 : IVec S16 32) (k0_hw37 : k0_chk37 v347 v542), ∀ a x, ((![v347, v542] : Fin 2 → IVec S16 32) a x).toNat < S128x128.size a := fun v347 v542 k0_hw37 => k0_hw37

def k0_chk38 (v347 : IVec S16 32) (v541 : IVec S16 32) : Prop :=
  (∀ a x, ((![v541, v347] : Fin 2 → IVec S16 32) a x).toNat < S64x128.size a)
theorem k0_idx38_inb : ∀ (v347 : IVec S16 32) (v541 : IVec S16 32) (k0_hw38 : k0_chk38 v347 v541), ∀ a x, ((![v541, v347] : Fin 2 → IVec S16 32) a x).toNat < S64x128.size a := fun v347 v541 k0_hw38 => k0_hw38

def k0_chk39 (v347 : IVec S16 32) (v552 : IVec S16 32) : Prop :=
  (∀ a x, ((![v347, v552] : Fin 2 → IVec S16 32) a x).toNat < S128x128.size a)
theorem k0_idx39_inb : ∀ (v347 : IVec S16 32) (v552 : IVec S16 32) (k0_hw39 : k0_chk39 v347 v552), ∀ a x, ((![v347, v552] : Fin 2 → IVec S16 32) a x).toNat < S128x128.size a := fun v347 v552 k0_hw39 => k0_hw39

def k0_chk40 (v347 : IVec S16 32) (v551 : IVec S16 32) : Prop :=
  (∀ a x, ((![v551, v347] : Fin 2 → IVec S16 32) a x).toNat < S64x128.size a)
theorem k0_idx40_inb : ∀ (v347 : IVec S16 32) (v551 : IVec S16 32) (k0_hw40 : k0_chk40 v347 v551), ∀ a x, ((![v551, v347] : Fin 2 → IVec S16 32) a x).toNat < S64x128.size a := fun v347 v551 k0_hw40 => k0_hw40

def k0_chk41 (v347 : IVec S16 32) (v562 : IVec S16 32) : Prop :=
  (∀ a x, ((![v347, v562] : Fin 2 → IVec S16 32) a x).toNat < S128x128.size a)
theorem k0_idx41_inb : ∀ (v347 : IVec S16 32) (v562 : IVec S16 32) (k0_hw41 : k0_chk41 v347 v562), ∀ a x, ((![v347, v562] : Fin 2 → IVec S16 32) a x).toNat < S128x128.size a := fun v347 v562 k0_hw41 => k0_hw41

def k0_chk42 (v347 : IVec S16 32) (v561 : IVec S16 32) : Prop :=
  (∀ a x, ((![v561, v347] : Fin 2 → IVec S16 32) a x).toNat < S64x128.size a)
theorem k0_idx42_inb : ∀ (v347 : IVec S16 32) (v561 : IVec S16 32) (k0_hw42 : k0_chk42 v347 v561), ∀ a x, ((![v561, v347] : Fin 2 → IVec S16 32) a x).toNat < S64x128.size a := fun v347 v561 k0_hw42 => k0_hw42

def k0_chk43 (v347 : IVec S16 32) (v572 : IVec S16 32) : Prop :=
  (∀ a x, ((![v347, v572] : Fin 2 → IVec S16 32) a x).toNat < S128x128.size a)
theorem k0_idx43_inb : ∀ (v347 : IVec S16 32) (v572 : IVec S16 32) (k0_hw43 : k0_chk43 v347 v572), ∀ a x, ((![v347, v572] : Fin 2 → IVec S16 32) a x).toNat < S128x128.size a := fun v347 v572 k0_hw43 => k0_hw43

def k0_chk44 (v347 : IVec S16 32) (v571 : IVec S16 32) : Prop :=
  (∀ a x, ((![v571, v347] : Fin 2 → IVec S16 32) a x).toNat < S64x128.size a)
theorem k0_idx44_inb : ∀ (v347 : IVec S16 32) (v571 : IVec S16 32) (k0_hw44 : k0_chk44 v347 v571), ∀ a x, ((![v571, v347] : Fin 2 → IVec S16 32) a x).toNat < S64x128.size a := fun v347 v571 k0_hw44 => k0_hw44

def k0_chk45 (v347 : IVec S16 32) (v582 : IVec S16 32) : Prop :=
  (∀ a x, ((![v347, v582] : Fin 2 → IVec S16 32) a x).toNat < S128x128.size a)
theorem k0_idx45_inb : ∀ (v347 : IVec S16 32) (v582 : IVec S16 32) (k0_hw45 : k0_chk45 v347 v582), ∀ a x, ((![v347, v582] : Fin 2 → IVec S16 32) a x).toNat < S128x128.size a := fun v347 v582 k0_hw45 => k0_hw45

def k0_chk46 (v347 : IVec S16 32) (v581 : IVec S16 32) : Prop :=
  (∀ a x, ((![v581, v347] : Fin 2 → IVec S16 32) a x).toNat < S64x128.size a)
theorem k0_idx46_inb : ∀ (v347 : IVec S16 32) (v581 : IVec S16 32) (k0_hw46 : k0_chk46 v347 v581), ∀ a x, ((![v581, v347] : Fin 2 → IVec S16 32) a x).toNat < S64x128.size a := fun v347 v581 k0_hw46 => k0_hw46

def k0_chk47 (v347 : IVec S16 32) (v592 : IVec S16 32) : Prop :=
  (∀ a x, ((![v347, v592] : Fin 2 → IVec S16 32) a x).toNat < S128x128.size a)
theorem k0_idx47_inb : ∀ (v347 : IVec S16 32) (v592 : IVec S16 32) (k0_hw47 : k0_chk47 v347 v592), ∀ a x, ((![v347, v592] : Fin 2 → IVec S16 32) a x).toNat < S128x128.size a := fun v347 v592 k0_hw47 => k0_hw47

def k0_chk48 (v347 : IVec S16 32) (v591 : IVec S16 32) : Prop :=
  (∀ a x, ((![v591, v347] : Fin 2 → IVec S16 32) a x).toNat < S64x128.size a)
theorem k0_idx48_inb : ∀ (v347 : IVec S16 32) (v591 : IVec S16 32) (k0_hw48 : k0_chk48 v347 v591), ∀ a x, ((![v591, v347] : Fin 2 → IVec S16 32) a x).toNat < S64x128.size a := fun v347 v591 k0_hw48 => k0_hw48

def k0_chk49 (v347 : IVec S16 32) (v602 : IVec S16 32) : Prop :=
  (∀ a x, ((![v347, v602] : Fin 2 → IVec S16 32) a x).toNat < S128x128.size a)
theorem k0_idx49_inb : ∀ (v347 : IVec S16 32) (v602 : IVec S16 32) (k0_hw49 : k0_chk49 v347 v602), ∀ a x, ((![v347, v602] : Fin 2 → IVec S16 32) a x).toNat < S128x128.size a := fun v347 v602 k0_hw49 => k0_hw49

def k0_chk50 (v347 : IVec S16 32) (v601 : IVec S16 32) : Prop :=
  (∀ a x, ((![v601, v347] : Fin 2 → IVec S16 32) a x).toNat < S64x128.size a)
theorem k0_idx50_inb : ∀ (v347 : IVec S16 32) (v601 : IVec S16 32) (k0_hw50 : k0_chk50 v347 v601), ∀ a x, ((![v601, v347] : Fin 2 → IVec S16 32) a x).toNat < S64x128.size a := fun v347 v601 k0_hw50 => k0_hw50

def k0_chk51 (v347 : IVec S16 32) (v612 : IVec S16 32) : Prop :=
  (∀ a x, ((![v347, v612] : Fin 2 → IVec S16 32) a x).toNat < S128x128.size a)
theorem k0_idx51_inb : ∀ (v347 : IVec S16 32) (v612 : IVec S16 32) (k0_hw51 : k0_chk51 v347 v612), ∀ a x, ((![v347, v612] : Fin 2 → IVec S16 32) a x).toNat < S128x128.size a := fun v347 v612 k0_hw51 => k0_hw51

def k0_chk52 (v347 : IVec S16 32) (v611 : IVec S16 32) : Prop :=
  (∀ a x, ((![v611, v347] : Fin 2 → IVec S16 32) a x).toNat < S64x128.size a)
theorem k0_idx52_inb : ∀ (v347 : IVec S16 32) (v611 : IVec S16 32) (k0_hw52 : k0_chk52 v347 v611), ∀ a x, ((![v611, v347] : Fin 2 → IVec S16 32) a x).toNat < S64x128.size a := fun v347 v611 k0_hw52 => k0_hw52

def k0_chk53 (v347 : IVec S16 32) (v622 : IVec S16 32) : Prop :=
  (∀ a x, ((![v347, v622] : Fin 2 → IVec S16 32) a x).toNat < S128x128.size a)
theorem k0_idx53_inb : ∀ (v347 : IVec S16 32) (v622 : IVec S16 32) (k0_hw53 : k0_chk53 v347 v622), ∀ a x, ((![v347, v622] : Fin 2 → IVec S16 32) a x).toNat < S128x128.size a := fun v347 v622 k0_hw53 => k0_hw53

def k0_chk54 (v347 : IVec S16 32) (v621 : IVec S16 32) : Prop :=
  (∀ a x, ((![v621, v347] : Fin 2 → IVec S16 32) a x).toNat < S64x128.size a)
theorem k0_idx54_inb : ∀ (v347 : IVec S16 32) (v621 : IVec S16 32) (k0_hw54 : k0_chk54 v347 v621), ∀ a x, ((![v621, v347] : Fin 2 → IVec S16 32) a x).toNat < S64x128.size a := fun v347 v621 k0_hw54 => k0_hw54

def k0_chk55 (v347 : IVec S16 32) (v632 : IVec S16 32) : Prop :=
  (∀ a x, ((![v347, v632] : Fin 2 → IVec S16 32) a x).toNat < S128x128.size a)
theorem k0_idx55_inb : ∀ (v347 : IVec S16 32) (v632 : IVec S16 32) (k0_hw55 : k0_chk55 v347 v632), ∀ a x, ((![v347, v632] : Fin 2 → IVec S16 32) a x).toNat < S128x128.size a := fun v347 v632 k0_hw55 => k0_hw55

def k0_chk56 (v347 : IVec S16 32) (v631 : IVec S16 32) : Prop :=
  (∀ a x, ((![v631, v347] : Fin 2 → IVec S16 32) a x).toNat < S64x128.size a)
theorem k0_idx56_inb : ∀ (v347 : IVec S16 32) (v631 : IVec S16 32) (k0_hw56 : k0_chk56 v347 v631), ∀ a x, ((![v631, v347] : Fin 2 → IVec S16 32) a x).toNat < S64x128.size a := fun v347 v631 k0_hw56 => k0_hw56

def k0_chk57 (v347 : IVec S16 32) (v642 : IVec S16 32) : Prop :=
  (∀ a x, ((![v347, v642] : Fin 2 → IVec S16 32) a x).toNat < S128x128.size a)
theorem k0_idx57_inb : ∀ (v347 : IVec S16 32) (v642 : IVec S16 32) (k0_hw57 : k0_chk57 v347 v642), ∀ a x, ((![v347, v642] : Fin 2 → IVec S16 32) a x).toNat < S128x128.size a := fun v347 v642 k0_hw57 => k0_hw57

def k0_chk58 (v347 : IVec S16 32) (v641 : IVec S16 32) : Prop :=
  (∀ a x, ((![v641, v347] : Fin 2 → IVec S16 32) a x).toNat < S64x128.size a)
theorem k0_idx58_inb : ∀ (v347 : IVec S16 32) (v641 : IVec S16 32) (k0_hw58 : k0_chk58 v347 v641), ∀ a x, ((![v641, v347] : Fin 2 → IVec S16 32) a x).toNat < S64x128.size a := fun v347 v641 k0_hw58 => k0_hw58

def k0_chk59 (v347 : IVec S16 32) (v652 : IVec S16 32) : Prop :=
  (∀ a x, ((![v347, v652] : Fin 2 → IVec S16 32) a x).toNat < S128x128.size a)
theorem k0_idx59_inb : ∀ (v347 : IVec S16 32) (v652 : IVec S16 32) (k0_hw59 : k0_chk59 v347 v652), ∀ a x, ((![v347, v652] : Fin 2 → IVec S16 32) a x).toNat < S128x128.size a := fun v347 v652 k0_hw59 => k0_hw59

def k0_chk60 (v347 : IVec S16 32) (v651 : IVec S16 32) : Prop :=
  (∀ a x, ((![v651, v347] : Fin 2 → IVec S16 32) a x).toNat < S64x128.size a)
theorem k0_idx60_inb : ∀ (v347 : IVec S16 32) (v651 : IVec S16 32) (k0_hw60 : k0_chk60 v347 v651), ∀ a x, ((![v651, v347] : Fin 2 → IVec S16 32) a x).toNat < S64x128.size a := fun v347 v651 k0_hw60 => k0_hw60

def k0_chk61 (v347 : IVec S16 32) (v662 : IVec S16 32) : Prop :=
  (∀ a x, ((![v347, v662] : Fin 2 → IVec S16 32) a x).toNat < S128x128.size a)
theorem k0_idx61_inb : ∀ (v347 : IVec S16 32) (v662 : IVec S16 32) (k0_hw61 : k0_chk61 v347 v662), ∀ a x, ((![v347, v662] : Fin 2 → IVec S16 32) a x).toNat < S128x128.size a := fun v347 v662 k0_hw61 => k0_hw61

def k0_chk62 (v347 : IVec S16 32) (v661 : IVec S16 32) : Prop :=
  (∀ a x, ((![v661, v347] : Fin 2 → IVec S16 32) a x).toNat < S64x128.size a)
theorem k0_idx62_inb : ∀ (v347 : IVec S16 32) (v661 : IVec S16 32) (k0_hw62 : k0_chk62 v347 v661), ∀ a x, ((![v661, v347] : Fin 2 → IVec S16 32) a x).toNat < S64x128.size a := fun v347 v661 k0_hw62 => k0_hw62

def k0_chk63 (v347 : IVec S16 32) (v672 : IVec S16 32) : Prop :=
  (∀ a x, ((![v347, v672] : Fin 2 → IVec S16 32) a x).toNat < S128x128.size a)
theorem k0_idx63_inb : ∀ (v347 : IVec S16 32) (v672 : IVec S16 32) (k0_hw63 : k0_chk63 v347 v672), ∀ a x, ((![v347, v672] : Fin 2 → IVec S16 32) a x).toNat < S128x128.size a := fun v347 v672 k0_hw63 => k0_hw63

def k0_chk64 (v347 : IVec S16 32) (v671 : IVec S16 32) : Prop :=
  (∀ a x, ((![v671, v347] : Fin 2 → IVec S16 32) a x).toNat < S64x128.size a)
theorem k0_idx64_inb : ∀ (v347 : IVec S16 32) (v671 : IVec S16 32) (k0_hw64 : k0_chk64 v347 v671), ∀ a x, ((![v671, v347] : Fin 2 → IVec S16 32) a x).toNat < S64x128.size a := fun v347 v671 k0_hw64 => k0_hw64

def k0_chk65 (v347 : IVec S16 32) (v682 : IVec S16 32) : Prop :=
  (∀ a x, ((![v347, v682] : Fin 2 → IVec S16 32) a x).toNat < S128x128.size a)
theorem k0_idx65_inb : ∀ (v347 : IVec S16 32) (v682 : IVec S16 32) (k0_hw65 : k0_chk65 v347 v682), ∀ a x, ((![v347, v682] : Fin 2 → IVec S16 32) a x).toNat < S128x128.size a := fun v347 v682 k0_hw65 => k0_hw65

def k0_chk66 (v347 : IVec S16 32) (v681 : IVec S16 32) : Prop :=
  (∀ a x, ((![v681, v347] : Fin 2 → IVec S16 32) a x).toNat < S64x128.size a)
theorem k0_idx66_inb : ∀ (v347 : IVec S16 32) (v681 : IVec S16 32) (k0_hw66 : k0_chk66 v347 v681), ∀ a x, ((![v681, v347] : Fin 2 → IVec S16 32) a x).toNat < S64x128.size a := fun v347 v681 k0_hw66 => k0_hw66

def k0_chk67 (v347 : IVec S16 32) (v692 : IVec S16 32) : Prop :=
  (∀ a x, ((![v347, v692] : Fin 2 → IVec S16 32) a x).toNat < S128x128.size a)
theorem k0_idx67_inb : ∀ (v347 : IVec S16 32) (v692 : IVec S16 32) (k0_hw67 : k0_chk67 v347 v692), ∀ a x, ((![v347, v692] : Fin 2 → IVec S16 32) a x).toNat < S128x128.size a := fun v347 v692 k0_hw67 => k0_hw67

def k0_chk68 (v347 : IVec S16 32) (v691 : IVec S16 32) : Prop :=
  (∀ a x, ((![v691, v347] : Fin 2 → IVec S16 32) a x).toNat < S64x128.size a)
theorem k0_idx68_inb : ∀ (v347 : IVec S16 32) (v691 : IVec S16 32) (k0_hw68 : k0_chk68 v347 v691), ∀ a x, ((![v691, v347] : Fin 2 → IVec S16 32) a x).toNat < S64x128.size a := fun v347 v691 k0_hw68 => k0_hw68

def k0_chk69 (v347 : IVec S16 32) (v702 : IVec S16 32) : Prop :=
  (∀ a x, ((![v347, v702] : Fin 2 → IVec S16 32) a x).toNat < S128x128.size a)
theorem k0_idx69_inb : ∀ (v347 : IVec S16 32) (v702 : IVec S16 32) (k0_hw69 : k0_chk69 v347 v702), ∀ a x, ((![v347, v702] : Fin 2 → IVec S16 32) a x).toNat < S128x128.size a := fun v347 v702 k0_hw69 => k0_hw69

def k0_chk70 (v347 : IVec S16 32) (v701 : IVec S16 32) : Prop :=
  (∀ a x, ((![v701, v347] : Fin 2 → IVec S16 32) a x).toNat < S64x128.size a)
theorem k0_idx70_inb : ∀ (v347 : IVec S16 32) (v701 : IVec S16 32) (k0_hw70 : k0_chk70 v347 v701), ∀ a x, ((![v701, v347] : Fin 2 → IVec S16 32) a x).toNat < S64x128.size a := fun v347 v701 k0_hw70 => k0_hw70

def k0_chk71 (v347 : IVec S16 32) (v712 : IVec S16 32) : Prop :=
  (∀ a x, ((![v347, v712] : Fin 2 → IVec S16 32) a x).toNat < S128x128.size a)
theorem k0_idx71_inb : ∀ (v347 : IVec S16 32) (v712 : IVec S16 32) (k0_hw71 : k0_chk71 v347 v712), ∀ a x, ((![v347, v712] : Fin 2 → IVec S16 32) a x).toNat < S128x128.size a := fun v347 v712 k0_hw71 => k0_hw71

def k0_chk72 (v347 : IVec S16 32) (v711 : IVec S16 32) : Prop :=
  (∀ a x, ((![v711, v347] : Fin 2 → IVec S16 32) a x).toNat < S64x128.size a)
theorem k0_idx72_inb : ∀ (v347 : IVec S16 32) (v711 : IVec S16 32) (k0_hw72 : k0_chk72 v347 v711), ∀ a x, ((![v711, v347] : Fin 2 → IVec S16 32) a x).toNat < S64x128.size a := fun v347 v711 k0_hw72 => k0_hw72

def k0_chk73 (v347 : IVec S16 32) (v722 : IVec S16 32) : Prop :=
  (∀ a x, ((![v347, v722] : Fin 2 → IVec S16 32) a x).toNat < S128x128.size a)
theorem k0_idx73_inb : ∀ (v347 : IVec S16 32) (v722 : IVec S16 32) (k0_hw73 : k0_chk73 v347 v722), ∀ a x, ((![v347, v722] : Fin 2 → IVec S16 32) a x).toNat < S128x128.size a := fun v347 v722 k0_hw73 => k0_hw73

def k0_chk74 (v347 : IVec S16 32) (v721 : IVec S16 32) : Prop :=
  (∀ a x, ((![v721, v347] : Fin 2 → IVec S16 32) a x).toNat < S64x128.size a)
theorem k0_idx74_inb : ∀ (v347 : IVec S16 32) (v721 : IVec S16 32) (k0_hw74 : k0_chk74 v347 v721), ∀ a x, ((![v721, v347] : Fin 2 → IVec S16 32) a x).toNat < S64x128.size a := fun v347 v721 k0_hw74 => k0_hw74

def k0_chk75 (v347 : IVec S16 32) (v732 : IVec S16 32) : Prop :=
  (∀ a x, ((![v347, v732] : Fin 2 → IVec S16 32) a x).toNat < S128x128.size a)
theorem k0_idx75_inb : ∀ (v347 : IVec S16 32) (v732 : IVec S16 32) (k0_hw75 : k0_chk75 v347 v732), ∀ a x, ((![v347, v732] : Fin 2 → IVec S16 32) a x).toNat < S128x128.size a := fun v347 v732 k0_hw75 => k0_hw75

def k0_chk76 (v347 : IVec S16 32) (v731 : IVec S16 32) : Prop :=
  (∀ a x, ((![v731, v347] : Fin 2 → IVec S16 32) a x).toNat < S64x128.size a)
theorem k0_idx76_inb : ∀ (v347 : IVec S16 32) (v731 : IVec S16 32) (k0_hw76 : k0_chk76 v347 v731), ∀ a x, ((![v731, v347] : Fin 2 → IVec S16 32) a x).toNat < S64x128.size a := fun v347 v731 k0_hw76 => k0_hw76

def k0_chk77 (v347 : IVec S16 32) (v742 : IVec S16 32) : Prop :=
  (∀ a x, ((![v347, v742] : Fin 2 → IVec S16 32) a x).toNat < S128x128.size a)
theorem k0_idx77_inb : ∀ (v347 : IVec S16 32) (v742 : IVec S16 32) (k0_hw77 : k0_chk77 v347 v742), ∀ a x, ((![v347, v742] : Fin 2 → IVec S16 32) a x).toNat < S128x128.size a := fun v347 v742 k0_hw77 => k0_hw77

def k0_chk78 (v347 : IVec S16 32) (v741 : IVec S16 32) : Prop :=
  (∀ a x, ((![v741, v347] : Fin 2 → IVec S16 32) a x).toNat < S64x128.size a)
theorem k0_idx78_inb : ∀ (v347 : IVec S16 32) (v741 : IVec S16 32) (k0_hw78 : k0_chk78 v347 v741), ∀ a x, ((![v741, v347] : Fin 2 → IVec S16 32) a x).toNat < S64x128.size a := fun v347 v741 k0_hw78 => k0_hw78

def k0_chk79 (v347 : IVec S16 32) (v752 : IVec S16 32) : Prop :=
  (∀ a x, ((![v347, v752] : Fin 2 → IVec S16 32) a x).toNat < S128x128.size a)
theorem k0_idx79_inb : ∀ (v347 : IVec S16 32) (v752 : IVec S16 32) (k0_hw79 : k0_chk79 v347 v752), ∀ a x, ((![v347, v752] : Fin 2 → IVec S16 32) a x).toNat < S128x128.size a := fun v347 v752 k0_hw79 => k0_hw79

def k0_chk80 (v347 : IVec S16 32) (v751 : IVec S16 32) : Prop :=
  (∀ a x, ((![v751, v347] : Fin 2 → IVec S16 32) a x).toNat < S64x128.size a)
theorem k0_idx80_inb : ∀ (v347 : IVec S16 32) (v751 : IVec S16 32) (k0_hw80 : k0_chk80 v347 v751), ∀ a x, ((![v751, v347] : Fin 2 → IVec S16 32) a x).toNat < S64x128.size a := fun v347 v751 k0_hw80 => k0_hw80

def k0_chk81 (v347 : IVec S16 32) (v762 : IVec S16 32) : Prop :=
  (∀ a x, ((![v347, v762] : Fin 2 → IVec S16 32) a x).toNat < S128x128.size a)
theorem k0_idx81_inb : ∀ (v347 : IVec S16 32) (v762 : IVec S16 32) (k0_hw81 : k0_chk81 v347 v762), ∀ a x, ((![v347, v762] : Fin 2 → IVec S16 32) a x).toNat < S128x128.size a := fun v347 v762 k0_hw81 => k0_hw81

def k0_chk82 (v347 : IVec S16 32) (v761 : IVec S16 32) : Prop :=
  (∀ a x, ((![v761, v347] : Fin 2 → IVec S16 32) a x).toNat < S64x128.size a)
theorem k0_idx82_inb : ∀ (v347 : IVec S16 32) (v761 : IVec S16 32) (k0_hw82 : k0_chk82 v347 v761), ∀ a x, ((![v761, v347] : Fin 2 → IVec S16 32) a x).toNat < S64x128.size a := fun v347 v761 k0_hw82 => k0_hw82

def k0_chk83 (v347 : IVec S16 32) (v772 : IVec S16 32) : Prop :=
  (∀ a x, ((![v347, v772] : Fin 2 → IVec S16 32) a x).toNat < S128x128.size a)
theorem k0_idx83_inb : ∀ (v347 : IVec S16 32) (v772 : IVec S16 32) (k0_hw83 : k0_chk83 v347 v772), ∀ a x, ((![v347, v772] : Fin 2 → IVec S16 32) a x).toNat < S128x128.size a := fun v347 v772 k0_hw83 => k0_hw83

def k0_chk84 (v347 : IVec S16 32) (v771 : IVec S16 32) : Prop :=
  (∀ a x, ((![v771, v347] : Fin 2 → IVec S16 32) a x).toNat < S64x128.size a)
theorem k0_idx84_inb : ∀ (v347 : IVec S16 32) (v771 : IVec S16 32) (k0_hw84 : k0_chk84 v347 v771), ∀ a x, ((![v771, v347] : Fin 2 → IVec S16 32) a x).toNat < S64x128.size a := fun v347 v771 k0_hw84 => k0_hw84

def k0_chk85 (v347 : IVec S16 32) (v782 : IVec S16 32) : Prop :=
  (∀ a x, ((![v347, v782] : Fin 2 → IVec S16 32) a x).toNat < S128x128.size a)
theorem k0_idx85_inb : ∀ (v347 : IVec S16 32) (v782 : IVec S16 32) (k0_hw85 : k0_chk85 v347 v782), ∀ a x, ((![v347, v782] : Fin 2 → IVec S16 32) a x).toNat < S128x128.size a := fun v347 v782 k0_hw85 => k0_hw85

def k0_chk86 (v347 : IVec S16 32) (v781 : IVec S16 32) : Prop :=
  (∀ a x, ((![v781, v347] : Fin 2 → IVec S16 32) a x).toNat < S64x128.size a)
theorem k0_idx86_inb : ∀ (v347 : IVec S16 32) (v781 : IVec S16 32) (k0_hw86 : k0_chk86 v347 v781), ∀ a x, ((![v781, v347] : Fin 2 → IVec S16 32) a x).toNat < S64x128.size a := fun v347 v781 k0_hw86 => k0_hw86

def k0_chk87 (v347 : IVec S16 32) (v792 : IVec S16 32) : Prop :=
  (∀ a x, ((![v347, v792] : Fin 2 → IVec S16 32) a x).toNat < S128x128.size a)
theorem k0_idx87_inb : ∀ (v347 : IVec S16 32) (v792 : IVec S16 32) (k0_hw87 : k0_chk87 v347 v792), ∀ a x, ((![v347, v792] : Fin 2 → IVec S16 32) a x).toNat < S128x128.size a := fun v347 v792 k0_hw87 => k0_hw87

def k0_chk88 (v347 : IVec S16 32) (v791 : IVec S16 32) : Prop :=
  (∀ a x, ((![v791, v347] : Fin 2 → IVec S16 32) a x).toNat < S64x128.size a)
theorem k0_idx88_inb : ∀ (v347 : IVec S16 32) (v791 : IVec S16 32) (k0_hw88 : k0_chk88 v347 v791), ∀ a x, ((![v791, v347] : Fin 2 → IVec S16 32) a x).toNat < S64x128.size a := fun v347 v791 k0_hw88 => k0_hw88

def k0_chk89 (v347 : IVec S16 32) (v802 : IVec S16 32) : Prop :=
  (∀ a x, ((![v347, v802] : Fin 2 → IVec S16 32) a x).toNat < S128x128.size a)
theorem k0_idx89_inb : ∀ (v347 : IVec S16 32) (v802 : IVec S16 32) (k0_hw89 : k0_chk89 v347 v802), ∀ a x, ((![v347, v802] : Fin 2 → IVec S16 32) a x).toNat < S128x128.size a := fun v347 v802 k0_hw89 => k0_hw89

def k0_chk90 (v347 : IVec S16 32) (v801 : IVec S16 32) : Prop :=
  (∀ a x, ((![v801, v347] : Fin 2 → IVec S16 32) a x).toNat < S64x128.size a)
theorem k0_idx90_inb : ∀ (v347 : IVec S16 32) (v801 : IVec S16 32) (k0_hw90 : k0_chk90 v347 v801), ∀ a x, ((![v801, v347] : Fin 2 → IVec S16 32) a x).toNat < S64x128.size a := fun v347 v801 k0_hw90 => k0_hw90

def k0_chk91 (v347 : IVec S16 32) (v812 : IVec S16 32) : Prop :=
  (∀ a x, ((![v347, v812] : Fin 2 → IVec S16 32) a x).toNat < S128x128.size a)
theorem k0_idx91_inb : ∀ (v347 : IVec S16 32) (v812 : IVec S16 32) (k0_hw91 : k0_chk91 v347 v812), ∀ a x, ((![v347, v812] : Fin 2 → IVec S16 32) a x).toNat < S128x128.size a := fun v347 v812 k0_hw91 => k0_hw91

def k0_chk92 (v347 : IVec S16 32) (v811 : IVec S16 32) : Prop :=
  (∀ a x, ((![v811, v347] : Fin 2 → IVec S16 32) a x).toNat < S64x128.size a)
theorem k0_idx92_inb : ∀ (v347 : IVec S16 32) (v811 : IVec S16 32) (k0_hw92 : k0_chk92 v347 v811), ∀ a x, ((![v811, v347] : Fin 2 → IVec S16 32) a x).toNat < S64x128.size a := fun v347 v811 k0_hw92 => k0_hw92

def k0_chk93 (v347 : IVec S16 32) (v822 : IVec S16 32) : Prop :=
  (∀ a x, ((![v347, v822] : Fin 2 → IVec S16 32) a x).toNat < S128x128.size a)
theorem k0_idx93_inb : ∀ (v347 : IVec S16 32) (v822 : IVec S16 32) (k0_hw93 : k0_chk93 v347 v822), ∀ a x, ((![v347, v822] : Fin 2 → IVec S16 32) a x).toNat < S128x128.size a := fun v347 v822 k0_hw93 => k0_hw93

def k0_chk94 (v347 : IVec S16 32) (v821 : IVec S16 32) : Prop :=
  (∀ a x, ((![v821, v347] : Fin 2 → IVec S16 32) a x).toNat < S64x128.size a)
theorem k0_idx94_inb : ∀ (v347 : IVec S16 32) (v821 : IVec S16 32) (k0_hw94 : k0_chk94 v347 v821), ∀ a x, ((![v821, v347] : Fin 2 → IVec S16 32) a x).toNat < S64x128.size a := fun v347 v821 k0_hw94 => k0_hw94

def k0_chk95 (v347 : IVec S16 32) (v832 : IVec S16 32) : Prop :=
  (∀ a x, ((![v347, v832] : Fin 2 → IVec S16 32) a x).toNat < S128x128.size a)
theorem k0_idx95_inb : ∀ (v347 : IVec S16 32) (v832 : IVec S16 32) (k0_hw95 : k0_chk95 v347 v832), ∀ a x, ((![v347, v832] : Fin 2 → IVec S16 32) a x).toNat < S128x128.size a := fun v347 v832 k0_hw95 => k0_hw95

def k0_chk96 (v347 : IVec S16 32) (v831 : IVec S16 32) : Prop :=
  (∀ a x, ((![v831, v347] : Fin 2 → IVec S16 32) a x).toNat < S64x128.size a)
theorem k0_idx96_inb : ∀ (v347 : IVec S16 32) (v831 : IVec S16 32) (k0_hw96 : k0_chk96 v347 v831), ∀ a x, ((![v831, v347] : Fin 2 → IVec S16 32) a x).toNat < S64x128.size a := fun v347 v831 k0_hw96 => k0_hw96

def k0_chk97 (v347 : IVec S16 32) (v842 : IVec S16 32) : Prop :=
  (∀ a x, ((![v347, v842] : Fin 2 → IVec S16 32) a x).toNat < S128x128.size a)
theorem k0_idx97_inb : ∀ (v347 : IVec S16 32) (v842 : IVec S16 32) (k0_hw97 : k0_chk97 v347 v842), ∀ a x, ((![v347, v842] : Fin 2 → IVec S16 32) a x).toNat < S128x128.size a := fun v347 v842 k0_hw97 => k0_hw97

def k0_chk98 (v347 : IVec S16 32) (v841 : IVec S16 32) : Prop :=
  (∀ a x, ((![v841, v347] : Fin 2 → IVec S16 32) a x).toNat < S64x128.size a)
theorem k0_idx98_inb : ∀ (v347 : IVec S16 32) (v841 : IVec S16 32) (k0_hw98 : k0_chk98 v347 v841), ∀ a x, ((![v841, v347] : Fin 2 → IVec S16 32) a x).toNat < S64x128.size a := fun v347 v841 k0_hw98 => k0_hw98

def k0_chk99 (v347 : IVec S16 32) (v852 : IVec S16 32) : Prop :=
  (∀ a x, ((![v347, v852] : Fin 2 → IVec S16 32) a x).toNat < S128x128.size a)
theorem k0_idx99_inb : ∀ (v347 : IVec S16 32) (v852 : IVec S16 32) (k0_hw99 : k0_chk99 v347 v852), ∀ a x, ((![v347, v852] : Fin 2 → IVec S16 32) a x).toNat < S128x128.size a := fun v347 v852 k0_hw99 => k0_hw99

def k0_chk100 (v347 : IVec S16 32) (v851 : IVec S16 32) : Prop :=
  (∀ a x, ((![v851, v347] : Fin 2 → IVec S16 32) a x).toNat < S64x128.size a)
theorem k0_idx100_inb : ∀ (v347 : IVec S16 32) (v851 : IVec S16 32) (k0_hw100 : k0_chk100 v347 v851), ∀ a x, ((![v851, v347] : Fin 2 → IVec S16 32) a x).toNat < S64x128.size a := fun v347 v851 k0_hw100 => k0_hw100

def k0_chk101 (v347 : IVec S16 32) (v862 : IVec S16 32) : Prop :=
  (∀ a x, ((![v347, v862] : Fin 2 → IVec S16 32) a x).toNat < S128x128.size a)
theorem k0_idx101_inb : ∀ (v347 : IVec S16 32) (v862 : IVec S16 32) (k0_hw101 : k0_chk101 v347 v862), ∀ a x, ((![v347, v862] : Fin 2 → IVec S16 32) a x).toNat < S128x128.size a := fun v347 v862 k0_hw101 => k0_hw101

def k0_chk102 (v347 : IVec S16 32) (v861 : IVec S16 32) : Prop :=
  (∀ a x, ((![v861, v347] : Fin 2 → IVec S16 32) a x).toNat < S64x128.size a)
theorem k0_idx102_inb : ∀ (v347 : IVec S16 32) (v861 : IVec S16 32) (k0_hw102 : k0_chk102 v347 v861), ∀ a x, ((![v861, v347] : Fin 2 → IVec S16 32) a x).toNat < S64x128.size a := fun v347 v861 k0_hw102 => k0_hw102

def k0_chk103 (v347 : IVec S16 32) (v872 : IVec S16 32) : Prop :=
  (∀ a x, ((![v347, v872] : Fin 2 → IVec S16 32) a x).toNat < S128x128.size a)
theorem k0_idx103_inb : ∀ (v347 : IVec S16 32) (v872 : IVec S16 32) (k0_hw103 : k0_chk103 v347 v872), ∀ a x, ((![v347, v872] : Fin 2 → IVec S16 32) a x).toNat < S128x128.size a := fun v347 v872 k0_hw103 => k0_hw103

def k0_chk104 (v347 : IVec S16 32) (v871 : IVec S16 32) : Prop :=
  (∀ a x, ((![v871, v347] : Fin 2 → IVec S16 32) a x).toNat < S64x128.size a)
theorem k0_idx104_inb : ∀ (v347 : IVec S16 32) (v871 : IVec S16 32) (k0_hw104 : k0_chk104 v347 v871), ∀ a x, ((![v871, v347] : Fin 2 → IVec S16 32) a x).toNat < S64x128.size a := fun v347 v871 k0_hw104 => k0_hw104

def k0_chk105 (v347 : IVec S16 32) (v882 : IVec S16 32) : Prop :=
  (∀ a x, ((![v347, v882] : Fin 2 → IVec S16 32) a x).toNat < S128x128.size a)
theorem k0_idx105_inb : ∀ (v347 : IVec S16 32) (v882 : IVec S16 32) (k0_hw105 : k0_chk105 v347 v882), ∀ a x, ((![v347, v882] : Fin 2 → IVec S16 32) a x).toNat < S128x128.size a := fun v347 v882 k0_hw105 => k0_hw105

def k0_chk106 (v347 : IVec S16 32) (v881 : IVec S16 32) : Prop :=
  (∀ a x, ((![v881, v347] : Fin 2 → IVec S16 32) a x).toNat < S64x128.size a)
theorem k0_idx106_inb : ∀ (v347 : IVec S16 32) (v881 : IVec S16 32) (k0_hw106 : k0_chk106 v347 v881), ∀ a x, ((![v881, v347] : Fin 2 → IVec S16 32) a x).toNat < S64x128.size a := fun v347 v881 k0_hw106 => k0_hw106

def k0_chk107 (v347 : IVec S16 32) (v892 : IVec S16 32) : Prop :=
  (∀ a x, ((![v347, v892] : Fin 2 → IVec S16 32) a x).toNat < S128x128.size a)
theorem k0_idx107_inb : ∀ (v347 : IVec S16 32) (v892 : IVec S16 32) (k0_hw107 : k0_chk107 v347 v892), ∀ a x, ((![v347, v892] : Fin 2 → IVec S16 32) a x).toNat < S128x128.size a := fun v347 v892 k0_hw107 => k0_hw107

def k0_chk108 (v347 : IVec S16 32) (v891 : IVec S16 32) : Prop :=
  (∀ a x, ((![v891, v347] : Fin 2 → IVec S16 32) a x).toNat < S64x128.size a)
theorem k0_idx108_inb : ∀ (v347 : IVec S16 32) (v891 : IVec S16 32) (k0_hw108 : k0_chk108 v347 v891), ∀ a x, ((![v891, v347] : Fin 2 → IVec S16 32) a x).toNat < S64x128.size a := fun v347 v891 k0_hw108 => k0_hw108

def k0_chk109 (v347 : IVec S16 32) (v902 : IVec S16 32) : Prop :=
  (∀ a x, ((![v347, v902] : Fin 2 → IVec S16 32) a x).toNat < S128x128.size a)
theorem k0_idx109_inb : ∀ (v347 : IVec S16 32) (v902 : IVec S16 32) (k0_hw109 : k0_chk109 v347 v902), ∀ a x, ((![v347, v902] : Fin 2 → IVec S16 32) a x).toNat < S128x128.size a := fun v347 v902 k0_hw109 => k0_hw109

def k0_chk110 (v347 : IVec S16 32) (v901 : IVec S16 32) : Prop :=
  (∀ a x, ((![v901, v347] : Fin 2 → IVec S16 32) a x).toNat < S64x128.size a)
theorem k0_idx110_inb : ∀ (v347 : IVec S16 32) (v901 : IVec S16 32) (k0_hw110 : k0_chk110 v347 v901), ∀ a x, ((![v901, v347] : Fin 2 → IVec S16 32) a x).toNat < S64x128.size a := fun v347 v901 k0_hw110 => k0_hw110

def k0_chk111 (v347 : IVec S16 32) (v912 : IVec S16 32) : Prop :=
  (∀ a x, ((![v347, v912] : Fin 2 → IVec S16 32) a x).toNat < S128x128.size a)
theorem k0_idx111_inb : ∀ (v347 : IVec S16 32) (v912 : IVec S16 32) (k0_hw111 : k0_chk111 v347 v912), ∀ a x, ((![v347, v912] : Fin 2 → IVec S16 32) a x).toNat < S128x128.size a := fun v347 v912 k0_hw111 => k0_hw111

def k0_chk112 (v347 : IVec S16 32) (v911 : IVec S16 32) : Prop :=
  (∀ a x, ((![v911, v347] : Fin 2 → IVec S16 32) a x).toNat < S64x128.size a)
theorem k0_idx112_inb : ∀ (v347 : IVec S16 32) (v911 : IVec S16 32) (k0_hw112 : k0_chk112 v347 v911), ∀ a x, ((![v911, v347] : Fin 2 → IVec S16 32) a x).toNat < S64x128.size a := fun v347 v911 k0_hw112 => k0_hw112

def k0_chk113 (v347 : IVec S16 32) (v922 : IVec S16 32) : Prop :=
  (∀ a x, ((![v347, v922] : Fin 2 → IVec S16 32) a x).toNat < S128x128.size a)
theorem k0_idx113_inb : ∀ (v347 : IVec S16 32) (v922 : IVec S16 32) (k0_hw113 : k0_chk113 v347 v922), ∀ a x, ((![v347, v922] : Fin 2 → IVec S16 32) a x).toNat < S128x128.size a := fun v347 v922 k0_hw113 => k0_hw113

def k0_chk114 (v347 : IVec S16 32) (v921 : IVec S16 32) : Prop :=
  (∀ a x, ((![v921, v347] : Fin 2 → IVec S16 32) a x).toNat < S64x128.size a)
theorem k0_idx114_inb : ∀ (v347 : IVec S16 32) (v921 : IVec S16 32) (k0_hw114 : k0_chk114 v347 v921), ∀ a x, ((![v921, v347] : Fin 2 → IVec S16 32) a x).toNat < S64x128.size a := fun v347 v921 k0_hw114 => k0_hw114

def k0_chk115 (v347 : IVec S16 32) (v932 : IVec S16 32) : Prop :=
  (∀ a x, ((![v347, v932] : Fin 2 → IVec S16 32) a x).toNat < S128x128.size a)
theorem k0_idx115_inb : ∀ (v347 : IVec S16 32) (v932 : IVec S16 32) (k0_hw115 : k0_chk115 v347 v932), ∀ a x, ((![v347, v932] : Fin 2 → IVec S16 32) a x).toNat < S128x128.size a := fun v347 v932 k0_hw115 => k0_hw115

def k0_chk116 (v347 : IVec S16 32) (v931 : IVec S16 32) : Prop :=
  (∀ a x, ((![v931, v347] : Fin 2 → IVec S16 32) a x).toNat < S64x128.size a)
theorem k0_idx116_inb : ∀ (v347 : IVec S16 32) (v931 : IVec S16 32) (k0_hw116 : k0_chk116 v347 v931), ∀ a x, ((![v931, v347] : Fin 2 → IVec S16 32) a x).toNat < S64x128.size a := fun v347 v931 k0_hw116 => k0_hw116

def k0_chk117 (v347 : IVec S16 32) (v942 : IVec S16 32) : Prop :=
  (∀ a x, ((![v347, v942] : Fin 2 → IVec S16 32) a x).toNat < S128x128.size a)
theorem k0_idx117_inb : ∀ (v347 : IVec S16 32) (v942 : IVec S16 32) (k0_hw117 : k0_chk117 v347 v942), ∀ a x, ((![v347, v942] : Fin 2 → IVec S16 32) a x).toNat < S128x128.size a := fun v347 v942 k0_hw117 => k0_hw117

def k0_chk118 (v347 : IVec S16 32) (v941 : IVec S16 32) : Prop :=
  (∀ a x, ((![v941, v347] : Fin 2 → IVec S16 32) a x).toNat < S64x128.size a)
theorem k0_idx118_inb : ∀ (v347 : IVec S16 32) (v941 : IVec S16 32) (k0_hw118 : k0_chk118 v347 v941), ∀ a x, ((![v941, v347] : Fin 2 → IVec S16 32) a x).toNat < S64x128.size a := fun v347 v941 k0_hw118 => k0_hw118

def k0_chk119 (v347 : IVec S16 32) (v952 : IVec S16 32) : Prop :=
  (∀ a x, ((![v347, v952] : Fin 2 → IVec S16 32) a x).toNat < S128x128.size a)
theorem k0_idx119_inb : ∀ (v347 : IVec S16 32) (v952 : IVec S16 32) (k0_hw119 : k0_chk119 v347 v952), ∀ a x, ((![v347, v952] : Fin 2 → IVec S16 32) a x).toNat < S128x128.size a := fun v347 v952 k0_hw119 => k0_hw119

def k0_chk120 (v347 : IVec S16 32) (v951 : IVec S16 32) : Prop :=
  (∀ a x, ((![v951, v347] : Fin 2 → IVec S16 32) a x).toNat < S64x128.size a)
theorem k0_idx120_inb : ∀ (v347 : IVec S16 32) (v951 : IVec S16 32) (k0_hw120 : k0_chk120 v347 v951), ∀ a x, ((![v951, v347] : Fin 2 → IVec S16 32) a x).toNat < S64x128.size a := fun v347 v951 k0_hw120 => k0_hw120

def k0_chk121 (v347 : IVec S16 32) (v962 : IVec S16 32) : Prop :=
  (∀ a x, ((![v347, v962] : Fin 2 → IVec S16 32) a x).toNat < S128x128.size a)
theorem k0_idx121_inb : ∀ (v347 : IVec S16 32) (v962 : IVec S16 32) (k0_hw121 : k0_chk121 v347 v962), ∀ a x, ((![v347, v962] : Fin 2 → IVec S16 32) a x).toNat < S128x128.size a := fun v347 v962 k0_hw121 => k0_hw121

def k0_chk122 (v347 : IVec S16 32) (v961 : IVec S16 32) : Prop :=
  (∀ a x, ((![v961, v347] : Fin 2 → IVec S16 32) a x).toNat < S64x128.size a)
theorem k0_idx122_inb : ∀ (v347 : IVec S16 32) (v961 : IVec S16 32) (k0_hw122 : k0_chk122 v347 v961), ∀ a x, ((![v961, v347] : Fin 2 → IVec S16 32) a x).toNat < S64x128.size a := fun v347 v961 k0_hw122 => k0_hw122

def k0_chk123 (v347 : IVec S16 32) (v972 : IVec S16 32) : Prop :=
  (∀ a x, ((![v347, v972] : Fin 2 → IVec S16 32) a x).toNat < S128x128.size a)
theorem k0_idx123_inb : ∀ (v347 : IVec S16 32) (v972 : IVec S16 32) (k0_hw123 : k0_chk123 v347 v972), ∀ a x, ((![v347, v972] : Fin 2 → IVec S16 32) a x).toNat < S128x128.size a := fun v347 v972 k0_hw123 => k0_hw123

def k0_chk124 (v347 : IVec S16 32) (v971 : IVec S16 32) : Prop :=
  (∀ a x, ((![v971, v347] : Fin 2 → IVec S16 32) a x).toNat < S64x128.size a)
theorem k0_idx124_inb : ∀ (v347 : IVec S16 32) (v971 : IVec S16 32) (k0_hw124 : k0_chk124 v347 v971), ∀ a x, ((![v971, v347] : Fin 2 → IVec S16 32) a x).toNat < S64x128.size a := fun v347 v971 k0_hw124 => k0_hw124

def k0_chk125 (v347 : IVec S16 32) (v982 : IVec S16 32) : Prop :=
  (∀ a x, ((![v347, v982] : Fin 2 → IVec S16 32) a x).toNat < S128x128.size a)
theorem k0_idx125_inb : ∀ (v347 : IVec S16 32) (v982 : IVec S16 32) (k0_hw125 : k0_chk125 v347 v982), ∀ a x, ((![v347, v982] : Fin 2 → IVec S16 32) a x).toNat < S128x128.size a := fun v347 v982 k0_hw125 => k0_hw125

def k0_chk126 (v347 : IVec S16 32) (v981 : IVec S16 32) : Prop :=
  (∀ a x, ((![v981, v347] : Fin 2 → IVec S16 32) a x).toNat < S64x128.size a)
theorem k0_idx126_inb : ∀ (v347 : IVec S16 32) (v981 : IVec S16 32) (k0_hw126 : k0_chk126 v347 v981), ∀ a x, ((![v981, v347] : Fin 2 → IVec S16 32) a x).toNat < S64x128.size a := fun v347 v981 k0_hw126 => k0_hw126

def k0_chk127 (v347 : IVec S16 32) (v992 : IVec S16 32) : Prop :=
  (∀ a x, ((![v347, v992] : Fin 2 → IVec S16 32) a x).toNat < S128x128.size a)
theorem k0_idx127_inb : ∀ (v347 : IVec S16 32) (v992 : IVec S16 32) (k0_hw127 : k0_chk127 v347 v992), ∀ a x, ((![v347, v992] : Fin 2 → IVec S16 32) a x).toNat < S128x128.size a := fun v347 v992 k0_hw127 => k0_hw127

def k0_chk128 (v347 : IVec S16 32) (v991 : IVec S16 32) : Prop :=
  (∀ a x, ((![v991, v347] : Fin 2 → IVec S16 32) a x).toNat < S64x128.size a)
theorem k0_idx128_inb : ∀ (v347 : IVec S16 32) (v991 : IVec S16 32) (k0_hw128 : k0_chk128 v347 v991), ∀ a x, ((![v991, v347] : Fin 2 → IVec S16 32) a x).toNat < S64x128.size a := fun v347 v991 k0_hw128 => k0_hw128
def k0_cond2 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c49_i32 : BitVec 32 := 49#32
  let v292 : BitVec 1 := Scalar.cmpi .slt arg26 c49_i32
  let v293 : BitVec 32 := Scalar.extui v292
  let c0_i32_166 : BitVec 32 := 0#32
  let v294 : BitVec 1 := Scalar.cmpi .ne v293 c0_i32_166
  v294

def k0_off9 (k0_t1 : Fin k0_t1_loop.trips) (c0_i32_220 : BitVec 32) : Fin 2 → Nat :=
  let c0_i32_136 : BitVec 32 := 0#32
  let c1_i32_137 : BitVec 32 := 1#32
  let arg26 : BitVec 32 := Scf.iv c0_i32_136 c1_i32_137 k0_t1
  let c4_i32_155 : BitVec 32 := 4#32
  let v285 : BitVec 32 := Scalar.muli arg26 c4_i32_155
  let c0_i32_156 : BitVec 32 := 0#32
  let v286 : BitVec 32 := Scalar.addi v285 c0_i32_156
  let c4_i32_218 : BitVec 32 := 4#32
  let v345 : BitVec 32 := Scalar.addi v286 c4_i32_218
  let v347 : Index := Scalar.indexCast v345
  let c16_i32_221 : BitVec 32 := 16#32
  let v346 : BitVec 32 := Scalar.muli c16_i32_221 c0_i32_220
  let v348 : Index := Scalar.indexCast v346
  ![v347.toNat, v348.toNat]
def k0_off10 (c0_i32_220 : BitVec 32) : Fin 1 → Nat :=
  let c16_i32_221 : BitVec 32 := 16#32
  let v346 : BitVec 32 := Scalar.muli c16_i32_221 c0_i32_220
  let v352 : Index := Scalar.indexCast v346
  ![v352.toNat]
def k0_off11 (i : grid0.Coords) (k0_t1 : Fin k0_t1_loop.trips) (c0_i32_156 : BitVec 32) : Fin 3 → Nat :=
  let c0_i32_136 : BitVec 32 := 0#32
  let c1_i32_137 : BitVec 32 := 1#32
  let arg26 : BitVec 32 := Scf.iv c0_i32_136 c1_i32_137 k0_t1
  let c4_i32_155 : BitVec 32 := 4#32
  let v285 : BitVec 32 := Scalar.muli arg26 c4_i32_155
  let v286 : BitVec 32 := Scalar.addi v285 c0_i32_156
  let c0_i32_168 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_167 : BitVec 32 := 128#32
  let v295 : BitVec 32 := Scalar.muli v1 c128_i32_167
  ![v286.toNat, 0, v295.toNat]
def k0_cond3 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c0_i32_174 : BitVec 32 := 0#32
  let v303 : BitVec 1 := Scalar.cmpi .sgt arg26 c0_i32_174
  let v304 : BitVec 32 := Scalar.extui v303
  let c0_i32_175 : BitVec 32 := 0#32
  let v305 : BitVec 1 := Scalar.cmpi .ne v304 c0_i32_175
  v305

def k0_off12 (i : grid0.Coords) : Fin 3 → Nat :=
  let c0_i32_219 : BitVec 32 := 0#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_218 : BitVec 32 := 128#32
  let v345 : BitVec 32 := Scalar.muli v1 c128_i32_218
  ![0, 0, v345.toNat]
@[reducible] def k0_t3_loop : Scf.Loop 32 :=
  let c0_i32_177 : BitVec 32 := 0#32
  let c8_i32_178 : BitVec 32 := 8#32
  let v306 : BitVec 32 := Scalar.addi c0_i32_177 c8_i32_178
  let c1_i32_179 : BitVec 32 := 1#32
  ⟨c0_i32_177, v306, c1_i32_179⟩
def k0_off13 (k0_t1 : Fin k0_t1_loop.trips) (k0_t3 : Fin k0_t3_loop.trips) : Fin 2 → Nat :=
  let c0_i32_136 : BitVec 32 := 0#32
  let c1_i32_137 : BitVec 32 := 1#32
  let arg26 : BitVec 32 := Scf.iv c0_i32_136 c1_i32_137 k0_t1
  let c4_i32_170 : BitVec 32 := 4#32
  let v300 : BitVec 32 := Scalar.muli arg26 c4_i32_170
  let c1_i32_171 : BitVec 32 := 1#32
  let v301 : BitVec 32 := Scalar.addi v300 c1_i32_171
  let v349 : Index := Scalar.indexCast v301
  let c0_i32_177 : BitVec 32 := 0#32
  let c1_i32_179 : BitVec 32 := 1#32
  let arg27 : BitVec 32 := Scf.iv c0_i32_177 c1_i32_179 k0_t3
  let c16_i32_219 : BitVec 32 := 16#32
  let v348 : BitVec 32 := Scalar.muli arg27 c16_i32_219
  let v350 : Index := Scalar.indexCast v348
  ![v349.toNat, v350.toNat]

def k0_chk129 (v347 : IVec S16 32) (v362 : IVec S16 32) : Prop :=
  (∀ a x, ((![v347, v362] : Fin 2 → IVec S16 32) a x).toNat < S128x128.size a)
theorem k0_idx129_inb : ∀ (v347 : IVec S16 32) (v362 : IVec S16 32) (k0_hw129 : k0_chk129 v347 v362), ∀ a x, ((![v347, v362] : Fin 2 → IVec S16 32) a x).toNat < S128x128.size a := fun v347 v362 k0_hw129 => k0_hw129

def k0_chk130 (v347 : IVec S16 32) (v361 : IVec S16 32) : Prop :=
  (∀ a x, ((![v361, v347] : Fin 2 → IVec S16 32) a x).toNat < S64x128.size a)
theorem k0_idx130_inb : ∀ (v347 : IVec S16 32) (v361 : IVec S16 32) (k0_hw130 : k0_chk130 v347 v361), ∀ a x, ((![v361, v347] : Fin 2 → IVec S16 32) a x).toNat < S64x128.size a := fun v347 v361 k0_hw130 => k0_hw130

def k0_chk131 (v347 : IVec S16 32) (v372 : IVec S16 32) : Prop :=
  (∀ a x, ((![v347, v372] : Fin 2 → IVec S16 32) a x).toNat < S128x128.size a)
theorem k0_idx131_inb : ∀ (v347 : IVec S16 32) (v372 : IVec S16 32) (k0_hw131 : k0_chk131 v347 v372), ∀ a x, ((![v347, v372] : Fin 2 → IVec S16 32) a x).toNat < S128x128.size a := fun v347 v372 k0_hw131 => k0_hw131

def k0_chk132 (v347 : IVec S16 32) (v371 : IVec S16 32) : Prop :=
  (∀ a x, ((![v371, v347] : Fin 2 → IVec S16 32) a x).toNat < S64x128.size a)
theorem k0_idx132_inb : ∀ (v347 : IVec S16 32) (v371 : IVec S16 32) (k0_hw132 : k0_chk132 v347 v371), ∀ a x, ((![v371, v347] : Fin 2 → IVec S16 32) a x).toNat < S64x128.size a := fun v347 v371 k0_hw132 => k0_hw132

def k0_chk133 (v347 : IVec S16 32) (v382 : IVec S16 32) : Prop :=
  (∀ a x, ((![v347, v382] : Fin 2 → IVec S16 32) a x).toNat < S128x128.size a)
theorem k0_idx133_inb : ∀ (v347 : IVec S16 32) (v382 : IVec S16 32) (k0_hw133 : k0_chk133 v347 v382), ∀ a x, ((![v347, v382] : Fin 2 → IVec S16 32) a x).toNat < S128x128.size a := fun v347 v382 k0_hw133 => k0_hw133

def k0_chk134 (v347 : IVec S16 32) (v381 : IVec S16 32) : Prop :=
  (∀ a x, ((![v381, v347] : Fin 2 → IVec S16 32) a x).toNat < S64x128.size a)
theorem k0_idx134_inb : ∀ (v347 : IVec S16 32) (v381 : IVec S16 32) (k0_hw134 : k0_chk134 v347 v381), ∀ a x, ((![v381, v347] : Fin 2 → IVec S16 32) a x).toNat < S64x128.size a := fun v347 v381 k0_hw134 => k0_hw134

def k0_chk135 (v347 : IVec S16 32) (v392 : IVec S16 32) : Prop :=
  (∀ a x, ((![v347, v392] : Fin 2 → IVec S16 32) a x).toNat < S128x128.size a)
theorem k0_idx135_inb : ∀ (v347 : IVec S16 32) (v392 : IVec S16 32) (k0_hw135 : k0_chk135 v347 v392), ∀ a x, ((![v347, v392] : Fin 2 → IVec S16 32) a x).toNat < S128x128.size a := fun v347 v392 k0_hw135 => k0_hw135

def k0_chk136 (v347 : IVec S16 32) (v391 : IVec S16 32) : Prop :=
  (∀ a x, ((![v391, v347] : Fin 2 → IVec S16 32) a x).toNat < S64x128.size a)
theorem k0_idx136_inb : ∀ (v347 : IVec S16 32) (v391 : IVec S16 32) (k0_hw136 : k0_chk136 v347 v391), ∀ a x, ((![v391, v347] : Fin 2 → IVec S16 32) a x).toNat < S64x128.size a := fun v347 v391 k0_hw136 => k0_hw136

def k0_chk137 (v347 : IVec S16 32) (v402 : IVec S16 32) : Prop :=
  (∀ a x, ((![v347, v402] : Fin 2 → IVec S16 32) a x).toNat < S128x128.size a)
theorem k0_idx137_inb : ∀ (v347 : IVec S16 32) (v402 : IVec S16 32) (k0_hw137 : k0_chk137 v347 v402), ∀ a x, ((![v347, v402] : Fin 2 → IVec S16 32) a x).toNat < S128x128.size a := fun v347 v402 k0_hw137 => k0_hw137

def k0_chk138 (v347 : IVec S16 32) (v401 : IVec S16 32) : Prop :=
  (∀ a x, ((![v401, v347] : Fin 2 → IVec S16 32) a x).toNat < S64x128.size a)
theorem k0_idx138_inb : ∀ (v347 : IVec S16 32) (v401 : IVec S16 32) (k0_hw138 : k0_chk138 v347 v401), ∀ a x, ((![v401, v347] : Fin 2 → IVec S16 32) a x).toNat < S64x128.size a := fun v347 v401 k0_hw138 => k0_hw138

def k0_chk139 (v347 : IVec S16 32) (v412 : IVec S16 32) : Prop :=
  (∀ a x, ((![v347, v412] : Fin 2 → IVec S16 32) a x).toNat < S128x128.size a)
theorem k0_idx139_inb : ∀ (v347 : IVec S16 32) (v412 : IVec S16 32) (k0_hw139 : k0_chk139 v347 v412), ∀ a x, ((![v347, v412] : Fin 2 → IVec S16 32) a x).toNat < S128x128.size a := fun v347 v412 k0_hw139 => k0_hw139

def k0_chk140 (v347 : IVec S16 32) (v411 : IVec S16 32) : Prop :=
  (∀ a x, ((![v411, v347] : Fin 2 → IVec S16 32) a x).toNat < S64x128.size a)
theorem k0_idx140_inb : ∀ (v347 : IVec S16 32) (v411 : IVec S16 32) (k0_hw140 : k0_chk140 v347 v411), ∀ a x, ((![v411, v347] : Fin 2 → IVec S16 32) a x).toNat < S64x128.size a := fun v347 v411 k0_hw140 => k0_hw140

def k0_chk141 (v347 : IVec S16 32) (v422 : IVec S16 32) : Prop :=
  (∀ a x, ((![v347, v422] : Fin 2 → IVec S16 32) a x).toNat < S128x128.size a)
theorem k0_idx141_inb : ∀ (v347 : IVec S16 32) (v422 : IVec S16 32) (k0_hw141 : k0_chk141 v347 v422), ∀ a x, ((![v347, v422] : Fin 2 → IVec S16 32) a x).toNat < S128x128.size a := fun v347 v422 k0_hw141 => k0_hw141

def k0_chk142 (v347 : IVec S16 32) (v421 : IVec S16 32) : Prop :=
  (∀ a x, ((![v421, v347] : Fin 2 → IVec S16 32) a x).toNat < S64x128.size a)
theorem k0_idx142_inb : ∀ (v347 : IVec S16 32) (v421 : IVec S16 32) (k0_hw142 : k0_chk142 v347 v421), ∀ a x, ((![v421, v347] : Fin 2 → IVec S16 32) a x).toNat < S64x128.size a := fun v347 v421 k0_hw142 => k0_hw142

def k0_chk143 (v347 : IVec S16 32) (v432 : IVec S16 32) : Prop :=
  (∀ a x, ((![v347, v432] : Fin 2 → IVec S16 32) a x).toNat < S128x128.size a)
theorem k0_idx143_inb : ∀ (v347 : IVec S16 32) (v432 : IVec S16 32) (k0_hw143 : k0_chk143 v347 v432), ∀ a x, ((![v347, v432] : Fin 2 → IVec S16 32) a x).toNat < S128x128.size a := fun v347 v432 k0_hw143 => k0_hw143

def k0_chk144 (v347 : IVec S16 32) (v431 : IVec S16 32) : Prop :=
  (∀ a x, ((![v431, v347] : Fin 2 → IVec S16 32) a x).toNat < S64x128.size a)
theorem k0_idx144_inb : ∀ (v347 : IVec S16 32) (v431 : IVec S16 32) (k0_hw144 : k0_chk144 v347 v431), ∀ a x, ((![v431, v347] : Fin 2 → IVec S16 32) a x).toNat < S64x128.size a := fun v347 v431 k0_hw144 => k0_hw144

def k0_chk145 (v347 : IVec S16 32) (v442 : IVec S16 32) : Prop :=
  (∀ a x, ((![v347, v442] : Fin 2 → IVec S16 32) a x).toNat < S128x128.size a)
theorem k0_idx145_inb : ∀ (v347 : IVec S16 32) (v442 : IVec S16 32) (k0_hw145 : k0_chk145 v347 v442), ∀ a x, ((![v347, v442] : Fin 2 → IVec S16 32) a x).toNat < S128x128.size a := fun v347 v442 k0_hw145 => k0_hw145

def k0_chk146 (v347 : IVec S16 32) (v441 : IVec S16 32) : Prop :=
  (∀ a x, ((![v441, v347] : Fin 2 → IVec S16 32) a x).toNat < S64x128.size a)
theorem k0_idx146_inb : ∀ (v347 : IVec S16 32) (v441 : IVec S16 32) (k0_hw146 : k0_chk146 v347 v441), ∀ a x, ((![v441, v347] : Fin 2 → IVec S16 32) a x).toNat < S64x128.size a := fun v347 v441 k0_hw146 => k0_hw146

def k0_chk147 (v347 : IVec S16 32) (v452 : IVec S16 32) : Prop :=
  (∀ a x, ((![v347, v452] : Fin 2 → IVec S16 32) a x).toNat < S128x128.size a)
theorem k0_idx147_inb : ∀ (v347 : IVec S16 32) (v452 : IVec S16 32) (k0_hw147 : k0_chk147 v347 v452), ∀ a x, ((![v347, v452] : Fin 2 → IVec S16 32) a x).toNat < S128x128.size a := fun v347 v452 k0_hw147 => k0_hw147

def k0_chk148 (v347 : IVec S16 32) (v451 : IVec S16 32) : Prop :=
  (∀ a x, ((![v451, v347] : Fin 2 → IVec S16 32) a x).toNat < S64x128.size a)
theorem k0_idx148_inb : ∀ (v347 : IVec S16 32) (v451 : IVec S16 32) (k0_hw148 : k0_chk148 v347 v451), ∀ a x, ((![v451, v347] : Fin 2 → IVec S16 32) a x).toNat < S64x128.size a := fun v347 v451 k0_hw148 => k0_hw148

def k0_chk149 (v347 : IVec S16 32) (v462 : IVec S16 32) : Prop :=
  (∀ a x, ((![v347, v462] : Fin 2 → IVec S16 32) a x).toNat < S128x128.size a)
theorem k0_idx149_inb : ∀ (v347 : IVec S16 32) (v462 : IVec S16 32) (k0_hw149 : k0_chk149 v347 v462), ∀ a x, ((![v347, v462] : Fin 2 → IVec S16 32) a x).toNat < S128x128.size a := fun v347 v462 k0_hw149 => k0_hw149

def k0_chk150 (v347 : IVec S16 32) (v461 : IVec S16 32) : Prop :=
  (∀ a x, ((![v461, v347] : Fin 2 → IVec S16 32) a x).toNat < S64x128.size a)
theorem k0_idx150_inb : ∀ (v347 : IVec S16 32) (v461 : IVec S16 32) (k0_hw150 : k0_chk150 v347 v461), ∀ a x, ((![v461, v347] : Fin 2 → IVec S16 32) a x).toNat < S64x128.size a := fun v347 v461 k0_hw150 => k0_hw150

def k0_chk151 (v347 : IVec S16 32) (v472 : IVec S16 32) : Prop :=
  (∀ a x, ((![v347, v472] : Fin 2 → IVec S16 32) a x).toNat < S128x128.size a)
theorem k0_idx151_inb : ∀ (v347 : IVec S16 32) (v472 : IVec S16 32) (k0_hw151 : k0_chk151 v347 v472), ∀ a x, ((![v347, v472] : Fin 2 → IVec S16 32) a x).toNat < S128x128.size a := fun v347 v472 k0_hw151 => k0_hw151

def k0_chk152 (v347 : IVec S16 32) (v471 : IVec S16 32) : Prop :=
  (∀ a x, ((![v471, v347] : Fin 2 → IVec S16 32) a x).toNat < S64x128.size a)
theorem k0_idx152_inb : ∀ (v347 : IVec S16 32) (v471 : IVec S16 32) (k0_hw152 : k0_chk152 v347 v471), ∀ a x, ((![v471, v347] : Fin 2 → IVec S16 32) a x).toNat < S64x128.size a := fun v347 v471 k0_hw152 => k0_hw152

def k0_chk153 (v347 : IVec S16 32) (v482 : IVec S16 32) : Prop :=
  (∀ a x, ((![v347, v482] : Fin 2 → IVec S16 32) a x).toNat < S128x128.size a)
theorem k0_idx153_inb : ∀ (v347 : IVec S16 32) (v482 : IVec S16 32) (k0_hw153 : k0_chk153 v347 v482), ∀ a x, ((![v347, v482] : Fin 2 → IVec S16 32) a x).toNat < S128x128.size a := fun v347 v482 k0_hw153 => k0_hw153

def k0_chk154 (v347 : IVec S16 32) (v481 : IVec S16 32) : Prop :=
  (∀ a x, ((![v481, v347] : Fin 2 → IVec S16 32) a x).toNat < S64x128.size a)
theorem k0_idx154_inb : ∀ (v347 : IVec S16 32) (v481 : IVec S16 32) (k0_hw154 : k0_chk154 v347 v481), ∀ a x, ((![v481, v347] : Fin 2 → IVec S16 32) a x).toNat < S64x128.size a := fun v347 v481 k0_hw154 => k0_hw154

def k0_chk155 (v347 : IVec S16 32) (v492 : IVec S16 32) : Prop :=
  (∀ a x, ((![v347, v492] : Fin 2 → IVec S16 32) a x).toNat < S128x128.size a)
theorem k0_idx155_inb : ∀ (v347 : IVec S16 32) (v492 : IVec S16 32) (k0_hw155 : k0_chk155 v347 v492), ∀ a x, ((![v347, v492] : Fin 2 → IVec S16 32) a x).toNat < S128x128.size a := fun v347 v492 k0_hw155 => k0_hw155

def k0_chk156 (v347 : IVec S16 32) (v491 : IVec S16 32) : Prop :=
  (∀ a x, ((![v491, v347] : Fin 2 → IVec S16 32) a x).toNat < S64x128.size a)
theorem k0_idx156_inb : ∀ (v347 : IVec S16 32) (v491 : IVec S16 32) (k0_hw156 : k0_chk156 v347 v491), ∀ a x, ((![v491, v347] : Fin 2 → IVec S16 32) a x).toNat < S64x128.size a := fun v347 v491 k0_hw156 => k0_hw156

def k0_chk157 (v347 : IVec S16 32) (v502 : IVec S16 32) : Prop :=
  (∀ a x, ((![v347, v502] : Fin 2 → IVec S16 32) a x).toNat < S128x128.size a)
theorem k0_idx157_inb : ∀ (v347 : IVec S16 32) (v502 : IVec S16 32) (k0_hw157 : k0_chk157 v347 v502), ∀ a x, ((![v347, v502] : Fin 2 → IVec S16 32) a x).toNat < S128x128.size a := fun v347 v502 k0_hw157 => k0_hw157

def k0_chk158 (v347 : IVec S16 32) (v501 : IVec S16 32) : Prop :=
  (∀ a x, ((![v501, v347] : Fin 2 → IVec S16 32) a x).toNat < S64x128.size a)
theorem k0_idx158_inb : ∀ (v347 : IVec S16 32) (v501 : IVec S16 32) (k0_hw158 : k0_chk158 v347 v501), ∀ a x, ((![v501, v347] : Fin 2 → IVec S16 32) a x).toNat < S64x128.size a := fun v347 v501 k0_hw158 => k0_hw158

def k0_chk159 (v347 : IVec S16 32) (v512 : IVec S16 32) : Prop :=
  (∀ a x, ((![v347, v512] : Fin 2 → IVec S16 32) a x).toNat < S128x128.size a)
theorem k0_idx159_inb : ∀ (v347 : IVec S16 32) (v512 : IVec S16 32) (k0_hw159 : k0_chk159 v347 v512), ∀ a x, ((![v347, v512] : Fin 2 → IVec S16 32) a x).toNat < S128x128.size a := fun v347 v512 k0_hw159 => k0_hw159

def k0_chk160 (v347 : IVec S16 32) (v511 : IVec S16 32) : Prop :=
  (∀ a x, ((![v511, v347] : Fin 2 → IVec S16 32) a x).toNat < S64x128.size a)
theorem k0_idx160_inb : ∀ (v347 : IVec S16 32) (v511 : IVec S16 32) (k0_hw160 : k0_chk160 v347 v511), ∀ a x, ((![v511, v347] : Fin 2 → IVec S16 32) a x).toNat < S64x128.size a := fun v347 v511 k0_hw160 => k0_hw160

def k0_chk161 (v347 : IVec S16 32) (v522 : IVec S16 32) : Prop :=
  (∀ a x, ((![v347, v522] : Fin 2 → IVec S16 32) a x).toNat < S128x128.size a)
theorem k0_idx161_inb : ∀ (v347 : IVec S16 32) (v522 : IVec S16 32) (k0_hw161 : k0_chk161 v347 v522), ∀ a x, ((![v347, v522] : Fin 2 → IVec S16 32) a x).toNat < S128x128.size a := fun v347 v522 k0_hw161 => k0_hw161

def k0_chk162 (v347 : IVec S16 32) (v521 : IVec S16 32) : Prop :=
  (∀ a x, ((![v521, v347] : Fin 2 → IVec S16 32) a x).toNat < S64x128.size a)
theorem k0_idx162_inb : ∀ (v347 : IVec S16 32) (v521 : IVec S16 32) (k0_hw162 : k0_chk162 v347 v521), ∀ a x, ((![v521, v347] : Fin 2 → IVec S16 32) a x).toNat < S64x128.size a := fun v347 v521 k0_hw162 => k0_hw162

def k0_chk163 (v347 : IVec S16 32) (v532 : IVec S16 32) : Prop :=
  (∀ a x, ((![v347, v532] : Fin 2 → IVec S16 32) a x).toNat < S128x128.size a)
theorem k0_idx163_inb : ∀ (v347 : IVec S16 32) (v532 : IVec S16 32) (k0_hw163 : k0_chk163 v347 v532), ∀ a x, ((![v347, v532] : Fin 2 → IVec S16 32) a x).toNat < S128x128.size a := fun v347 v532 k0_hw163 => k0_hw163

def k0_chk164 (v347 : IVec S16 32) (v531 : IVec S16 32) : Prop :=
  (∀ a x, ((![v531, v347] : Fin 2 → IVec S16 32) a x).toNat < S64x128.size a)
theorem k0_idx164_inb : ∀ (v347 : IVec S16 32) (v531 : IVec S16 32) (k0_hw164 : k0_chk164 v347 v531), ∀ a x, ((![v531, v347] : Fin 2 → IVec S16 32) a x).toNat < S64x128.size a := fun v347 v531 k0_hw164 => k0_hw164

def k0_chk165 (v347 : IVec S16 32) (v542 : IVec S16 32) : Prop :=
  (∀ a x, ((![v347, v542] : Fin 2 → IVec S16 32) a x).toNat < S128x128.size a)
theorem k0_idx165_inb : ∀ (v347 : IVec S16 32) (v542 : IVec S16 32) (k0_hw165 : k0_chk165 v347 v542), ∀ a x, ((![v347, v542] : Fin 2 → IVec S16 32) a x).toNat < S128x128.size a := fun v347 v542 k0_hw165 => k0_hw165

def k0_chk166 (v347 : IVec S16 32) (v541 : IVec S16 32) : Prop :=
  (∀ a x, ((![v541, v347] : Fin 2 → IVec S16 32) a x).toNat < S64x128.size a)
theorem k0_idx166_inb : ∀ (v347 : IVec S16 32) (v541 : IVec S16 32) (k0_hw166 : k0_chk166 v347 v541), ∀ a x, ((![v541, v347] : Fin 2 → IVec S16 32) a x).toNat < S64x128.size a := fun v347 v541 k0_hw166 => k0_hw166

def k0_chk167 (v347 : IVec S16 32) (v552 : IVec S16 32) : Prop :=
  (∀ a x, ((![v347, v552] : Fin 2 → IVec S16 32) a x).toNat < S128x128.size a)
theorem k0_idx167_inb : ∀ (v347 : IVec S16 32) (v552 : IVec S16 32) (k0_hw167 : k0_chk167 v347 v552), ∀ a x, ((![v347, v552] : Fin 2 → IVec S16 32) a x).toNat < S128x128.size a := fun v347 v552 k0_hw167 => k0_hw167

def k0_chk168 (v347 : IVec S16 32) (v551 : IVec S16 32) : Prop :=
  (∀ a x, ((![v551, v347] : Fin 2 → IVec S16 32) a x).toNat < S64x128.size a)
theorem k0_idx168_inb : ∀ (v347 : IVec S16 32) (v551 : IVec S16 32) (k0_hw168 : k0_chk168 v347 v551), ∀ a x, ((![v551, v347] : Fin 2 → IVec S16 32) a x).toNat < S64x128.size a := fun v347 v551 k0_hw168 => k0_hw168

def k0_chk169 (v347 : IVec S16 32) (v562 : IVec S16 32) : Prop :=
  (∀ a x, ((![v347, v562] : Fin 2 → IVec S16 32) a x).toNat < S128x128.size a)
theorem k0_idx169_inb : ∀ (v347 : IVec S16 32) (v562 : IVec S16 32) (k0_hw169 : k0_chk169 v347 v562), ∀ a x, ((![v347, v562] : Fin 2 → IVec S16 32) a x).toNat < S128x128.size a := fun v347 v562 k0_hw169 => k0_hw169

def k0_chk170 (v347 : IVec S16 32) (v561 : IVec S16 32) : Prop :=
  (∀ a x, ((![v561, v347] : Fin 2 → IVec S16 32) a x).toNat < S64x128.size a)
theorem k0_idx170_inb : ∀ (v347 : IVec S16 32) (v561 : IVec S16 32) (k0_hw170 : k0_chk170 v347 v561), ∀ a x, ((![v561, v347] : Fin 2 → IVec S16 32) a x).toNat < S64x128.size a := fun v347 v561 k0_hw170 => k0_hw170

def k0_chk171 (v347 : IVec S16 32) (v572 : IVec S16 32) : Prop :=
  (∀ a x, ((![v347, v572] : Fin 2 → IVec S16 32) a x).toNat < S128x128.size a)
theorem k0_idx171_inb : ∀ (v347 : IVec S16 32) (v572 : IVec S16 32) (k0_hw171 : k0_chk171 v347 v572), ∀ a x, ((![v347, v572] : Fin 2 → IVec S16 32) a x).toNat < S128x128.size a := fun v347 v572 k0_hw171 => k0_hw171

def k0_chk172 (v347 : IVec S16 32) (v571 : IVec S16 32) : Prop :=
  (∀ a x, ((![v571, v347] : Fin 2 → IVec S16 32) a x).toNat < S64x128.size a)
theorem k0_idx172_inb : ∀ (v347 : IVec S16 32) (v571 : IVec S16 32) (k0_hw172 : k0_chk172 v347 v571), ∀ a x, ((![v571, v347] : Fin 2 → IVec S16 32) a x).toNat < S64x128.size a := fun v347 v571 k0_hw172 => k0_hw172

def k0_chk173 (v347 : IVec S16 32) (v582 : IVec S16 32) : Prop :=
  (∀ a x, ((![v347, v582] : Fin 2 → IVec S16 32) a x).toNat < S128x128.size a)
theorem k0_idx173_inb : ∀ (v347 : IVec S16 32) (v582 : IVec S16 32) (k0_hw173 : k0_chk173 v347 v582), ∀ a x, ((![v347, v582] : Fin 2 → IVec S16 32) a x).toNat < S128x128.size a := fun v347 v582 k0_hw173 => k0_hw173

def k0_chk174 (v347 : IVec S16 32) (v581 : IVec S16 32) : Prop :=
  (∀ a x, ((![v581, v347] : Fin 2 → IVec S16 32) a x).toNat < S64x128.size a)
theorem k0_idx174_inb : ∀ (v347 : IVec S16 32) (v581 : IVec S16 32) (k0_hw174 : k0_chk174 v347 v581), ∀ a x, ((![v581, v347] : Fin 2 → IVec S16 32) a x).toNat < S64x128.size a := fun v347 v581 k0_hw174 => k0_hw174

def k0_chk175 (v347 : IVec S16 32) (v592 : IVec S16 32) : Prop :=
  (∀ a x, ((![v347, v592] : Fin 2 → IVec S16 32) a x).toNat < S128x128.size a)
theorem k0_idx175_inb : ∀ (v347 : IVec S16 32) (v592 : IVec S16 32) (k0_hw175 : k0_chk175 v347 v592), ∀ a x, ((![v347, v592] : Fin 2 → IVec S16 32) a x).toNat < S128x128.size a := fun v347 v592 k0_hw175 => k0_hw175

def k0_chk176 (v347 : IVec S16 32) (v591 : IVec S16 32) : Prop :=
  (∀ a x, ((![v591, v347] : Fin 2 → IVec S16 32) a x).toNat < S64x128.size a)
theorem k0_idx176_inb : ∀ (v347 : IVec S16 32) (v591 : IVec S16 32) (k0_hw176 : k0_chk176 v347 v591), ∀ a x, ((![v591, v347] : Fin 2 → IVec S16 32) a x).toNat < S64x128.size a := fun v347 v591 k0_hw176 => k0_hw176

def k0_chk177 (v347 : IVec S16 32) (v602 : IVec S16 32) : Prop :=
  (∀ a x, ((![v347, v602] : Fin 2 → IVec S16 32) a x).toNat < S128x128.size a)
theorem k0_idx177_inb : ∀ (v347 : IVec S16 32) (v602 : IVec S16 32) (k0_hw177 : k0_chk177 v347 v602), ∀ a x, ((![v347, v602] : Fin 2 → IVec S16 32) a x).toNat < S128x128.size a := fun v347 v602 k0_hw177 => k0_hw177

def k0_chk178 (v347 : IVec S16 32) (v601 : IVec S16 32) : Prop :=
  (∀ a x, ((![v601, v347] : Fin 2 → IVec S16 32) a x).toNat < S64x128.size a)
theorem k0_idx178_inb : ∀ (v347 : IVec S16 32) (v601 : IVec S16 32) (k0_hw178 : k0_chk178 v347 v601), ∀ a x, ((![v601, v347] : Fin 2 → IVec S16 32) a x).toNat < S64x128.size a := fun v347 v601 k0_hw178 => k0_hw178

def k0_chk179 (v347 : IVec S16 32) (v612 : IVec S16 32) : Prop :=
  (∀ a x, ((![v347, v612] : Fin 2 → IVec S16 32) a x).toNat < S128x128.size a)
theorem k0_idx179_inb : ∀ (v347 : IVec S16 32) (v612 : IVec S16 32) (k0_hw179 : k0_chk179 v347 v612), ∀ a x, ((![v347, v612] : Fin 2 → IVec S16 32) a x).toNat < S128x128.size a := fun v347 v612 k0_hw179 => k0_hw179

def k0_chk180 (v347 : IVec S16 32) (v611 : IVec S16 32) : Prop :=
  (∀ a x, ((![v611, v347] : Fin 2 → IVec S16 32) a x).toNat < S64x128.size a)
theorem k0_idx180_inb : ∀ (v347 : IVec S16 32) (v611 : IVec S16 32) (k0_hw180 : k0_chk180 v347 v611), ∀ a x, ((![v611, v347] : Fin 2 → IVec S16 32) a x).toNat < S64x128.size a := fun v347 v611 k0_hw180 => k0_hw180

def k0_chk181 (v347 : IVec S16 32) (v622 : IVec S16 32) : Prop :=
  (∀ a x, ((![v347, v622] : Fin 2 → IVec S16 32) a x).toNat < S128x128.size a)
theorem k0_idx181_inb : ∀ (v347 : IVec S16 32) (v622 : IVec S16 32) (k0_hw181 : k0_chk181 v347 v622), ∀ a x, ((![v347, v622] : Fin 2 → IVec S16 32) a x).toNat < S128x128.size a := fun v347 v622 k0_hw181 => k0_hw181

def k0_chk182 (v347 : IVec S16 32) (v621 : IVec S16 32) : Prop :=
  (∀ a x, ((![v621, v347] : Fin 2 → IVec S16 32) a x).toNat < S64x128.size a)
theorem k0_idx182_inb : ∀ (v347 : IVec S16 32) (v621 : IVec S16 32) (k0_hw182 : k0_chk182 v347 v621), ∀ a x, ((![v621, v347] : Fin 2 → IVec S16 32) a x).toNat < S64x128.size a := fun v347 v621 k0_hw182 => k0_hw182

def k0_chk183 (v347 : IVec S16 32) (v632 : IVec S16 32) : Prop :=
  (∀ a x, ((![v347, v632] : Fin 2 → IVec S16 32) a x).toNat < S128x128.size a)
theorem k0_idx183_inb : ∀ (v347 : IVec S16 32) (v632 : IVec S16 32) (k0_hw183 : k0_chk183 v347 v632), ∀ a x, ((![v347, v632] : Fin 2 → IVec S16 32) a x).toNat < S128x128.size a := fun v347 v632 k0_hw183 => k0_hw183

def k0_chk184 (v347 : IVec S16 32) (v631 : IVec S16 32) : Prop :=
  (∀ a x, ((![v631, v347] : Fin 2 → IVec S16 32) a x).toNat < S64x128.size a)
theorem k0_idx184_inb : ∀ (v347 : IVec S16 32) (v631 : IVec S16 32) (k0_hw184 : k0_chk184 v347 v631), ∀ a x, ((![v631, v347] : Fin 2 → IVec S16 32) a x).toNat < S64x128.size a := fun v347 v631 k0_hw184 => k0_hw184

def k0_chk185 (v347 : IVec S16 32) (v642 : IVec S16 32) : Prop :=
  (∀ a x, ((![v347, v642] : Fin 2 → IVec S16 32) a x).toNat < S128x128.size a)
theorem k0_idx185_inb : ∀ (v347 : IVec S16 32) (v642 : IVec S16 32) (k0_hw185 : k0_chk185 v347 v642), ∀ a x, ((![v347, v642] : Fin 2 → IVec S16 32) a x).toNat < S128x128.size a := fun v347 v642 k0_hw185 => k0_hw185

def k0_chk186 (v347 : IVec S16 32) (v641 : IVec S16 32) : Prop :=
  (∀ a x, ((![v641, v347] : Fin 2 → IVec S16 32) a x).toNat < S64x128.size a)
theorem k0_idx186_inb : ∀ (v347 : IVec S16 32) (v641 : IVec S16 32) (k0_hw186 : k0_chk186 v347 v641), ∀ a x, ((![v641, v347] : Fin 2 → IVec S16 32) a x).toNat < S64x128.size a := fun v347 v641 k0_hw186 => k0_hw186

def k0_chk187 (v347 : IVec S16 32) (v652 : IVec S16 32) : Prop :=
  (∀ a x, ((![v347, v652] : Fin 2 → IVec S16 32) a x).toNat < S128x128.size a)
theorem k0_idx187_inb : ∀ (v347 : IVec S16 32) (v652 : IVec S16 32) (k0_hw187 : k0_chk187 v347 v652), ∀ a x, ((![v347, v652] : Fin 2 → IVec S16 32) a x).toNat < S128x128.size a := fun v347 v652 k0_hw187 => k0_hw187

def k0_chk188 (v347 : IVec S16 32) (v651 : IVec S16 32) : Prop :=
  (∀ a x, ((![v651, v347] : Fin 2 → IVec S16 32) a x).toNat < S64x128.size a)
theorem k0_idx188_inb : ∀ (v347 : IVec S16 32) (v651 : IVec S16 32) (k0_hw188 : k0_chk188 v347 v651), ∀ a x, ((![v651, v347] : Fin 2 → IVec S16 32) a x).toNat < S64x128.size a := fun v347 v651 k0_hw188 => k0_hw188

def k0_chk189 (v347 : IVec S16 32) (v662 : IVec S16 32) : Prop :=
  (∀ a x, ((![v347, v662] : Fin 2 → IVec S16 32) a x).toNat < S128x128.size a)
theorem k0_idx189_inb : ∀ (v347 : IVec S16 32) (v662 : IVec S16 32) (k0_hw189 : k0_chk189 v347 v662), ∀ a x, ((![v347, v662] : Fin 2 → IVec S16 32) a x).toNat < S128x128.size a := fun v347 v662 k0_hw189 => k0_hw189

def k0_chk190 (v347 : IVec S16 32) (v661 : IVec S16 32) : Prop :=
  (∀ a x, ((![v661, v347] : Fin 2 → IVec S16 32) a x).toNat < S64x128.size a)
theorem k0_idx190_inb : ∀ (v347 : IVec S16 32) (v661 : IVec S16 32) (k0_hw190 : k0_chk190 v347 v661), ∀ a x, ((![v661, v347] : Fin 2 → IVec S16 32) a x).toNat < S64x128.size a := fun v347 v661 k0_hw190 => k0_hw190

def k0_chk191 (v347 : IVec S16 32) (v672 : IVec S16 32) : Prop :=
  (∀ a x, ((![v347, v672] : Fin 2 → IVec S16 32) a x).toNat < S128x128.size a)
theorem k0_idx191_inb : ∀ (v347 : IVec S16 32) (v672 : IVec S16 32) (k0_hw191 : k0_chk191 v347 v672), ∀ a x, ((![v347, v672] : Fin 2 → IVec S16 32) a x).toNat < S128x128.size a := fun v347 v672 k0_hw191 => k0_hw191

def k0_chk192 (v347 : IVec S16 32) (v671 : IVec S16 32) : Prop :=
  (∀ a x, ((![v671, v347] : Fin 2 → IVec S16 32) a x).toNat < S64x128.size a)
theorem k0_idx192_inb : ∀ (v347 : IVec S16 32) (v671 : IVec S16 32) (k0_hw192 : k0_chk192 v347 v671), ∀ a x, ((![v671, v347] : Fin 2 → IVec S16 32) a x).toNat < S64x128.size a := fun v347 v671 k0_hw192 => k0_hw192

def k0_chk193 (v347 : IVec S16 32) (v682 : IVec S16 32) : Prop :=
  (∀ a x, ((![v347, v682] : Fin 2 → IVec S16 32) a x).toNat < S128x128.size a)
theorem k0_idx193_inb : ∀ (v347 : IVec S16 32) (v682 : IVec S16 32) (k0_hw193 : k0_chk193 v347 v682), ∀ a x, ((![v347, v682] : Fin 2 → IVec S16 32) a x).toNat < S128x128.size a := fun v347 v682 k0_hw193 => k0_hw193

def k0_chk194 (v347 : IVec S16 32) (v681 : IVec S16 32) : Prop :=
  (∀ a x, ((![v681, v347] : Fin 2 → IVec S16 32) a x).toNat < S64x128.size a)
theorem k0_idx194_inb : ∀ (v347 : IVec S16 32) (v681 : IVec S16 32) (k0_hw194 : k0_chk194 v347 v681), ∀ a x, ((![v681, v347] : Fin 2 → IVec S16 32) a x).toNat < S64x128.size a := fun v347 v681 k0_hw194 => k0_hw194

def k0_chk195 (v347 : IVec S16 32) (v692 : IVec S16 32) : Prop :=
  (∀ a x, ((![v347, v692] : Fin 2 → IVec S16 32) a x).toNat < S128x128.size a)
theorem k0_idx195_inb : ∀ (v347 : IVec S16 32) (v692 : IVec S16 32) (k0_hw195 : k0_chk195 v347 v692), ∀ a x, ((![v347, v692] : Fin 2 → IVec S16 32) a x).toNat < S128x128.size a := fun v347 v692 k0_hw195 => k0_hw195

def k0_chk196 (v347 : IVec S16 32) (v691 : IVec S16 32) : Prop :=
  (∀ a x, ((![v691, v347] : Fin 2 → IVec S16 32) a x).toNat < S64x128.size a)
theorem k0_idx196_inb : ∀ (v347 : IVec S16 32) (v691 : IVec S16 32) (k0_hw196 : k0_chk196 v347 v691), ∀ a x, ((![v691, v347] : Fin 2 → IVec S16 32) a x).toNat < S64x128.size a := fun v347 v691 k0_hw196 => k0_hw196

def k0_chk197 (v347 : IVec S16 32) (v702 : IVec S16 32) : Prop :=
  (∀ a x, ((![v347, v702] : Fin 2 → IVec S16 32) a x).toNat < S128x128.size a)
theorem k0_idx197_inb : ∀ (v347 : IVec S16 32) (v702 : IVec S16 32) (k0_hw197 : k0_chk197 v347 v702), ∀ a x, ((![v347, v702] : Fin 2 → IVec S16 32) a x).toNat < S128x128.size a := fun v347 v702 k0_hw197 => k0_hw197

def k0_chk198 (v347 : IVec S16 32) (v701 : IVec S16 32) : Prop :=
  (∀ a x, ((![v701, v347] : Fin 2 → IVec S16 32) a x).toNat < S64x128.size a)
theorem k0_idx198_inb : ∀ (v347 : IVec S16 32) (v701 : IVec S16 32) (k0_hw198 : k0_chk198 v347 v701), ∀ a x, ((![v701, v347] : Fin 2 → IVec S16 32) a x).toNat < S64x128.size a := fun v347 v701 k0_hw198 => k0_hw198

def k0_chk199 (v347 : IVec S16 32) (v712 : IVec S16 32) : Prop :=
  (∀ a x, ((![v347, v712] : Fin 2 → IVec S16 32) a x).toNat < S128x128.size a)
theorem k0_idx199_inb : ∀ (v347 : IVec S16 32) (v712 : IVec S16 32) (k0_hw199 : k0_chk199 v347 v712), ∀ a x, ((![v347, v712] : Fin 2 → IVec S16 32) a x).toNat < S128x128.size a := fun v347 v712 k0_hw199 => k0_hw199

def k0_chk200 (v347 : IVec S16 32) (v711 : IVec S16 32) : Prop :=
  (∀ a x, ((![v711, v347] : Fin 2 → IVec S16 32) a x).toNat < S64x128.size a)
theorem k0_idx200_inb : ∀ (v347 : IVec S16 32) (v711 : IVec S16 32) (k0_hw200 : k0_chk200 v347 v711), ∀ a x, ((![v711, v347] : Fin 2 → IVec S16 32) a x).toNat < S64x128.size a := fun v347 v711 k0_hw200 => k0_hw200

def k0_chk201 (v347 : IVec S16 32) (v722 : IVec S16 32) : Prop :=
  (∀ a x, ((![v347, v722] : Fin 2 → IVec S16 32) a x).toNat < S128x128.size a)
theorem k0_idx201_inb : ∀ (v347 : IVec S16 32) (v722 : IVec S16 32) (k0_hw201 : k0_chk201 v347 v722), ∀ a x, ((![v347, v722] : Fin 2 → IVec S16 32) a x).toNat < S128x128.size a := fun v347 v722 k0_hw201 => k0_hw201

def k0_chk202 (v347 : IVec S16 32) (v721 : IVec S16 32) : Prop :=
  (∀ a x, ((![v721, v347] : Fin 2 → IVec S16 32) a x).toNat < S64x128.size a)
theorem k0_idx202_inb : ∀ (v347 : IVec S16 32) (v721 : IVec S16 32) (k0_hw202 : k0_chk202 v347 v721), ∀ a x, ((![v721, v347] : Fin 2 → IVec S16 32) a x).toNat < S64x128.size a := fun v347 v721 k0_hw202 => k0_hw202

def k0_chk203 (v347 : IVec S16 32) (v732 : IVec S16 32) : Prop :=
  (∀ a x, ((![v347, v732] : Fin 2 → IVec S16 32) a x).toNat < S128x128.size a)
theorem k0_idx203_inb : ∀ (v347 : IVec S16 32) (v732 : IVec S16 32) (k0_hw203 : k0_chk203 v347 v732), ∀ a x, ((![v347, v732] : Fin 2 → IVec S16 32) a x).toNat < S128x128.size a := fun v347 v732 k0_hw203 => k0_hw203

def k0_chk204 (v347 : IVec S16 32) (v731 : IVec S16 32) : Prop :=
  (∀ a x, ((![v731, v347] : Fin 2 → IVec S16 32) a x).toNat < S64x128.size a)
theorem k0_idx204_inb : ∀ (v347 : IVec S16 32) (v731 : IVec S16 32) (k0_hw204 : k0_chk204 v347 v731), ∀ a x, ((![v731, v347] : Fin 2 → IVec S16 32) a x).toNat < S64x128.size a := fun v347 v731 k0_hw204 => k0_hw204

def k0_chk205 (v347 : IVec S16 32) (v742 : IVec S16 32) : Prop :=
  (∀ a x, ((![v347, v742] : Fin 2 → IVec S16 32) a x).toNat < S128x128.size a)
theorem k0_idx205_inb : ∀ (v347 : IVec S16 32) (v742 : IVec S16 32) (k0_hw205 : k0_chk205 v347 v742), ∀ a x, ((![v347, v742] : Fin 2 → IVec S16 32) a x).toNat < S128x128.size a := fun v347 v742 k0_hw205 => k0_hw205

def k0_chk206 (v347 : IVec S16 32) (v741 : IVec S16 32) : Prop :=
  (∀ a x, ((![v741, v347] : Fin 2 → IVec S16 32) a x).toNat < S64x128.size a)
theorem k0_idx206_inb : ∀ (v347 : IVec S16 32) (v741 : IVec S16 32) (k0_hw206 : k0_chk206 v347 v741), ∀ a x, ((![v741, v347] : Fin 2 → IVec S16 32) a x).toNat < S64x128.size a := fun v347 v741 k0_hw206 => k0_hw206

def k0_chk207 (v347 : IVec S16 32) (v752 : IVec S16 32) : Prop :=
  (∀ a x, ((![v347, v752] : Fin 2 → IVec S16 32) a x).toNat < S128x128.size a)
theorem k0_idx207_inb : ∀ (v347 : IVec S16 32) (v752 : IVec S16 32) (k0_hw207 : k0_chk207 v347 v752), ∀ a x, ((![v347, v752] : Fin 2 → IVec S16 32) a x).toNat < S128x128.size a := fun v347 v752 k0_hw207 => k0_hw207

def k0_chk208 (v347 : IVec S16 32) (v751 : IVec S16 32) : Prop :=
  (∀ a x, ((![v751, v347] : Fin 2 → IVec S16 32) a x).toNat < S64x128.size a)
theorem k0_idx208_inb : ∀ (v347 : IVec S16 32) (v751 : IVec S16 32) (k0_hw208 : k0_chk208 v347 v751), ∀ a x, ((![v751, v347] : Fin 2 → IVec S16 32) a x).toNat < S64x128.size a := fun v347 v751 k0_hw208 => k0_hw208

def k0_chk209 (v347 : IVec S16 32) (v762 : IVec S16 32) : Prop :=
  (∀ a x, ((![v347, v762] : Fin 2 → IVec S16 32) a x).toNat < S128x128.size a)
theorem k0_idx209_inb : ∀ (v347 : IVec S16 32) (v762 : IVec S16 32) (k0_hw209 : k0_chk209 v347 v762), ∀ a x, ((![v347, v762] : Fin 2 → IVec S16 32) a x).toNat < S128x128.size a := fun v347 v762 k0_hw209 => k0_hw209

def k0_chk210 (v347 : IVec S16 32) (v761 : IVec S16 32) : Prop :=
  (∀ a x, ((![v761, v347] : Fin 2 → IVec S16 32) a x).toNat < S64x128.size a)
theorem k0_idx210_inb : ∀ (v347 : IVec S16 32) (v761 : IVec S16 32) (k0_hw210 : k0_chk210 v347 v761), ∀ a x, ((![v761, v347] : Fin 2 → IVec S16 32) a x).toNat < S64x128.size a := fun v347 v761 k0_hw210 => k0_hw210

def k0_chk211 (v347 : IVec S16 32) (v772 : IVec S16 32) : Prop :=
  (∀ a x, ((![v347, v772] : Fin 2 → IVec S16 32) a x).toNat < S128x128.size a)
theorem k0_idx211_inb : ∀ (v347 : IVec S16 32) (v772 : IVec S16 32) (k0_hw211 : k0_chk211 v347 v772), ∀ a x, ((![v347, v772] : Fin 2 → IVec S16 32) a x).toNat < S128x128.size a := fun v347 v772 k0_hw211 => k0_hw211

def k0_chk212 (v347 : IVec S16 32) (v771 : IVec S16 32) : Prop :=
  (∀ a x, ((![v771, v347] : Fin 2 → IVec S16 32) a x).toNat < S64x128.size a)
theorem k0_idx212_inb : ∀ (v347 : IVec S16 32) (v771 : IVec S16 32) (k0_hw212 : k0_chk212 v347 v771), ∀ a x, ((![v771, v347] : Fin 2 → IVec S16 32) a x).toNat < S64x128.size a := fun v347 v771 k0_hw212 => k0_hw212

def k0_chk213 (v347 : IVec S16 32) (v782 : IVec S16 32) : Prop :=
  (∀ a x, ((![v347, v782] : Fin 2 → IVec S16 32) a x).toNat < S128x128.size a)
theorem k0_idx213_inb : ∀ (v347 : IVec S16 32) (v782 : IVec S16 32) (k0_hw213 : k0_chk213 v347 v782), ∀ a x, ((![v347, v782] : Fin 2 → IVec S16 32) a x).toNat < S128x128.size a := fun v347 v782 k0_hw213 => k0_hw213

def k0_chk214 (v347 : IVec S16 32) (v781 : IVec S16 32) : Prop :=
  (∀ a x, ((![v781, v347] : Fin 2 → IVec S16 32) a x).toNat < S64x128.size a)
theorem k0_idx214_inb : ∀ (v347 : IVec S16 32) (v781 : IVec S16 32) (k0_hw214 : k0_chk214 v347 v781), ∀ a x, ((![v781, v347] : Fin 2 → IVec S16 32) a x).toNat < S64x128.size a := fun v347 v781 k0_hw214 => k0_hw214

def k0_chk215 (v347 : IVec S16 32) (v792 : IVec S16 32) : Prop :=
  (∀ a x, ((![v347, v792] : Fin 2 → IVec S16 32) a x).toNat < S128x128.size a)
theorem k0_idx215_inb : ∀ (v347 : IVec S16 32) (v792 : IVec S16 32) (k0_hw215 : k0_chk215 v347 v792), ∀ a x, ((![v347, v792] : Fin 2 → IVec S16 32) a x).toNat < S128x128.size a := fun v347 v792 k0_hw215 => k0_hw215

def k0_chk216 (v347 : IVec S16 32) (v791 : IVec S16 32) : Prop :=
  (∀ a x, ((![v791, v347] : Fin 2 → IVec S16 32) a x).toNat < S64x128.size a)
theorem k0_idx216_inb : ∀ (v347 : IVec S16 32) (v791 : IVec S16 32) (k0_hw216 : k0_chk216 v347 v791), ∀ a x, ((![v791, v347] : Fin 2 → IVec S16 32) a x).toNat < S64x128.size a := fun v347 v791 k0_hw216 => k0_hw216

def k0_chk217 (v347 : IVec S16 32) (v802 : IVec S16 32) : Prop :=
  (∀ a x, ((![v347, v802] : Fin 2 → IVec S16 32) a x).toNat < S128x128.size a)
theorem k0_idx217_inb : ∀ (v347 : IVec S16 32) (v802 : IVec S16 32) (k0_hw217 : k0_chk217 v347 v802), ∀ a x, ((![v347, v802] : Fin 2 → IVec S16 32) a x).toNat < S128x128.size a := fun v347 v802 k0_hw217 => k0_hw217

def k0_chk218 (v347 : IVec S16 32) (v801 : IVec S16 32) : Prop :=
  (∀ a x, ((![v801, v347] : Fin 2 → IVec S16 32) a x).toNat < S64x128.size a)
theorem k0_idx218_inb : ∀ (v347 : IVec S16 32) (v801 : IVec S16 32) (k0_hw218 : k0_chk218 v347 v801), ∀ a x, ((![v801, v347] : Fin 2 → IVec S16 32) a x).toNat < S64x128.size a := fun v347 v801 k0_hw218 => k0_hw218

def k0_chk219 (v347 : IVec S16 32) (v812 : IVec S16 32) : Prop :=
  (∀ a x, ((![v347, v812] : Fin 2 → IVec S16 32) a x).toNat < S128x128.size a)
theorem k0_idx219_inb : ∀ (v347 : IVec S16 32) (v812 : IVec S16 32) (k0_hw219 : k0_chk219 v347 v812), ∀ a x, ((![v347, v812] : Fin 2 → IVec S16 32) a x).toNat < S128x128.size a := fun v347 v812 k0_hw219 => k0_hw219

def k0_chk220 (v347 : IVec S16 32) (v811 : IVec S16 32) : Prop :=
  (∀ a x, ((![v811, v347] : Fin 2 → IVec S16 32) a x).toNat < S64x128.size a)
theorem k0_idx220_inb : ∀ (v347 : IVec S16 32) (v811 : IVec S16 32) (k0_hw220 : k0_chk220 v347 v811), ∀ a x, ((![v811, v347] : Fin 2 → IVec S16 32) a x).toNat < S64x128.size a := fun v347 v811 k0_hw220 => k0_hw220

def k0_chk221 (v347 : IVec S16 32) (v822 : IVec S16 32) : Prop :=
  (∀ a x, ((![v347, v822] : Fin 2 → IVec S16 32) a x).toNat < S128x128.size a)
theorem k0_idx221_inb : ∀ (v347 : IVec S16 32) (v822 : IVec S16 32) (k0_hw221 : k0_chk221 v347 v822), ∀ a x, ((![v347, v822] : Fin 2 → IVec S16 32) a x).toNat < S128x128.size a := fun v347 v822 k0_hw221 => k0_hw221

def k0_chk222 (v347 : IVec S16 32) (v821 : IVec S16 32) : Prop :=
  (∀ a x, ((![v821, v347] : Fin 2 → IVec S16 32) a x).toNat < S64x128.size a)
theorem k0_idx222_inb : ∀ (v347 : IVec S16 32) (v821 : IVec S16 32) (k0_hw222 : k0_chk222 v347 v821), ∀ a x, ((![v821, v347] : Fin 2 → IVec S16 32) a x).toNat < S64x128.size a := fun v347 v821 k0_hw222 => k0_hw222

def k0_chk223 (v347 : IVec S16 32) (v832 : IVec S16 32) : Prop :=
  (∀ a x, ((![v347, v832] : Fin 2 → IVec S16 32) a x).toNat < S128x128.size a)
theorem k0_idx223_inb : ∀ (v347 : IVec S16 32) (v832 : IVec S16 32) (k0_hw223 : k0_chk223 v347 v832), ∀ a x, ((![v347, v832] : Fin 2 → IVec S16 32) a x).toNat < S128x128.size a := fun v347 v832 k0_hw223 => k0_hw223

def k0_chk224 (v347 : IVec S16 32) (v831 : IVec S16 32) : Prop :=
  (∀ a x, ((![v831, v347] : Fin 2 → IVec S16 32) a x).toNat < S64x128.size a)
theorem k0_idx224_inb : ∀ (v347 : IVec S16 32) (v831 : IVec S16 32) (k0_hw224 : k0_chk224 v347 v831), ∀ a x, ((![v831, v347] : Fin 2 → IVec S16 32) a x).toNat < S64x128.size a := fun v347 v831 k0_hw224 => k0_hw224

def k0_chk225 (v347 : IVec S16 32) (v842 : IVec S16 32) : Prop :=
  (∀ a x, ((![v347, v842] : Fin 2 → IVec S16 32) a x).toNat < S128x128.size a)
theorem k0_idx225_inb : ∀ (v347 : IVec S16 32) (v842 : IVec S16 32) (k0_hw225 : k0_chk225 v347 v842), ∀ a x, ((![v347, v842] : Fin 2 → IVec S16 32) a x).toNat < S128x128.size a := fun v347 v842 k0_hw225 => k0_hw225

def k0_chk226 (v347 : IVec S16 32) (v841 : IVec S16 32) : Prop :=
  (∀ a x, ((![v841, v347] : Fin 2 → IVec S16 32) a x).toNat < S64x128.size a)
theorem k0_idx226_inb : ∀ (v347 : IVec S16 32) (v841 : IVec S16 32) (k0_hw226 : k0_chk226 v347 v841), ∀ a x, ((![v841, v347] : Fin 2 → IVec S16 32) a x).toNat < S64x128.size a := fun v347 v841 k0_hw226 => k0_hw226

def k0_chk227 (v347 : IVec S16 32) (v852 : IVec S16 32) : Prop :=
  (∀ a x, ((![v347, v852] : Fin 2 → IVec S16 32) a x).toNat < S128x128.size a)
theorem k0_idx227_inb : ∀ (v347 : IVec S16 32) (v852 : IVec S16 32) (k0_hw227 : k0_chk227 v347 v852), ∀ a x, ((![v347, v852] : Fin 2 → IVec S16 32) a x).toNat < S128x128.size a := fun v347 v852 k0_hw227 => k0_hw227

def k0_chk228 (v347 : IVec S16 32) (v851 : IVec S16 32) : Prop :=
  (∀ a x, ((![v851, v347] : Fin 2 → IVec S16 32) a x).toNat < S64x128.size a)
theorem k0_idx228_inb : ∀ (v347 : IVec S16 32) (v851 : IVec S16 32) (k0_hw228 : k0_chk228 v347 v851), ∀ a x, ((![v851, v347] : Fin 2 → IVec S16 32) a x).toNat < S64x128.size a := fun v347 v851 k0_hw228 => k0_hw228

def k0_chk229 (v347 : IVec S16 32) (v862 : IVec S16 32) : Prop :=
  (∀ a x, ((![v347, v862] : Fin 2 → IVec S16 32) a x).toNat < S128x128.size a)
theorem k0_idx229_inb : ∀ (v347 : IVec S16 32) (v862 : IVec S16 32) (k0_hw229 : k0_chk229 v347 v862), ∀ a x, ((![v347, v862] : Fin 2 → IVec S16 32) a x).toNat < S128x128.size a := fun v347 v862 k0_hw229 => k0_hw229

def k0_chk230 (v347 : IVec S16 32) (v861 : IVec S16 32) : Prop :=
  (∀ a x, ((![v861, v347] : Fin 2 → IVec S16 32) a x).toNat < S64x128.size a)
theorem k0_idx230_inb : ∀ (v347 : IVec S16 32) (v861 : IVec S16 32) (k0_hw230 : k0_chk230 v347 v861), ∀ a x, ((![v861, v347] : Fin 2 → IVec S16 32) a x).toNat < S64x128.size a := fun v347 v861 k0_hw230 => k0_hw230

def k0_chk231 (v347 : IVec S16 32) (v872 : IVec S16 32) : Prop :=
  (∀ a x, ((![v347, v872] : Fin 2 → IVec S16 32) a x).toNat < S128x128.size a)
theorem k0_idx231_inb : ∀ (v347 : IVec S16 32) (v872 : IVec S16 32) (k0_hw231 : k0_chk231 v347 v872), ∀ a x, ((![v347, v872] : Fin 2 → IVec S16 32) a x).toNat < S128x128.size a := fun v347 v872 k0_hw231 => k0_hw231

def k0_chk232 (v347 : IVec S16 32) (v871 : IVec S16 32) : Prop :=
  (∀ a x, ((![v871, v347] : Fin 2 → IVec S16 32) a x).toNat < S64x128.size a)
theorem k0_idx232_inb : ∀ (v347 : IVec S16 32) (v871 : IVec S16 32) (k0_hw232 : k0_chk232 v347 v871), ∀ a x, ((![v871, v347] : Fin 2 → IVec S16 32) a x).toNat < S64x128.size a := fun v347 v871 k0_hw232 => k0_hw232

def k0_chk233 (v347 : IVec S16 32) (v882 : IVec S16 32) : Prop :=
  (∀ a x, ((![v347, v882] : Fin 2 → IVec S16 32) a x).toNat < S128x128.size a)
theorem k0_idx233_inb : ∀ (v347 : IVec S16 32) (v882 : IVec S16 32) (k0_hw233 : k0_chk233 v347 v882), ∀ a x, ((![v347, v882] : Fin 2 → IVec S16 32) a x).toNat < S128x128.size a := fun v347 v882 k0_hw233 => k0_hw233

def k0_chk234 (v347 : IVec S16 32) (v881 : IVec S16 32) : Prop :=
  (∀ a x, ((![v881, v347] : Fin 2 → IVec S16 32) a x).toNat < S64x128.size a)
theorem k0_idx234_inb : ∀ (v347 : IVec S16 32) (v881 : IVec S16 32) (k0_hw234 : k0_chk234 v347 v881), ∀ a x, ((![v881, v347] : Fin 2 → IVec S16 32) a x).toNat < S64x128.size a := fun v347 v881 k0_hw234 => k0_hw234

def k0_chk235 (v347 : IVec S16 32) (v892 : IVec S16 32) : Prop :=
  (∀ a x, ((![v347, v892] : Fin 2 → IVec S16 32) a x).toNat < S128x128.size a)
theorem k0_idx235_inb : ∀ (v347 : IVec S16 32) (v892 : IVec S16 32) (k0_hw235 : k0_chk235 v347 v892), ∀ a x, ((![v347, v892] : Fin 2 → IVec S16 32) a x).toNat < S128x128.size a := fun v347 v892 k0_hw235 => k0_hw235

def k0_chk236 (v347 : IVec S16 32) (v891 : IVec S16 32) : Prop :=
  (∀ a x, ((![v891, v347] : Fin 2 → IVec S16 32) a x).toNat < S64x128.size a)
theorem k0_idx236_inb : ∀ (v347 : IVec S16 32) (v891 : IVec S16 32) (k0_hw236 : k0_chk236 v347 v891), ∀ a x, ((![v891, v347] : Fin 2 → IVec S16 32) a x).toNat < S64x128.size a := fun v347 v891 k0_hw236 => k0_hw236

def k0_chk237 (v347 : IVec S16 32) (v902 : IVec S16 32) : Prop :=
  (∀ a x, ((![v347, v902] : Fin 2 → IVec S16 32) a x).toNat < S128x128.size a)
theorem k0_idx237_inb : ∀ (v347 : IVec S16 32) (v902 : IVec S16 32) (k0_hw237 : k0_chk237 v347 v902), ∀ a x, ((![v347, v902] : Fin 2 → IVec S16 32) a x).toNat < S128x128.size a := fun v347 v902 k0_hw237 => k0_hw237

def k0_chk238 (v347 : IVec S16 32) (v901 : IVec S16 32) : Prop :=
  (∀ a x, ((![v901, v347] : Fin 2 → IVec S16 32) a x).toNat < S64x128.size a)
theorem k0_idx238_inb : ∀ (v347 : IVec S16 32) (v901 : IVec S16 32) (k0_hw238 : k0_chk238 v347 v901), ∀ a x, ((![v901, v347] : Fin 2 → IVec S16 32) a x).toNat < S64x128.size a := fun v347 v901 k0_hw238 => k0_hw238

def k0_chk239 (v347 : IVec S16 32) (v912 : IVec S16 32) : Prop :=
  (∀ a x, ((![v347, v912] : Fin 2 → IVec S16 32) a x).toNat < S128x128.size a)
theorem k0_idx239_inb : ∀ (v347 : IVec S16 32) (v912 : IVec S16 32) (k0_hw239 : k0_chk239 v347 v912), ∀ a x, ((![v347, v912] : Fin 2 → IVec S16 32) a x).toNat < S128x128.size a := fun v347 v912 k0_hw239 => k0_hw239

def k0_chk240 (v347 : IVec S16 32) (v911 : IVec S16 32) : Prop :=
  (∀ a x, ((![v911, v347] : Fin 2 → IVec S16 32) a x).toNat < S64x128.size a)
theorem k0_idx240_inb : ∀ (v347 : IVec S16 32) (v911 : IVec S16 32) (k0_hw240 : k0_chk240 v347 v911), ∀ a x, ((![v911, v347] : Fin 2 → IVec S16 32) a x).toNat < S64x128.size a := fun v347 v911 k0_hw240 => k0_hw240

def k0_chk241 (v347 : IVec S16 32) (v922 : IVec S16 32) : Prop :=
  (∀ a x, ((![v347, v922] : Fin 2 → IVec S16 32) a x).toNat < S128x128.size a)
theorem k0_idx241_inb : ∀ (v347 : IVec S16 32) (v922 : IVec S16 32) (k0_hw241 : k0_chk241 v347 v922), ∀ a x, ((![v347, v922] : Fin 2 → IVec S16 32) a x).toNat < S128x128.size a := fun v347 v922 k0_hw241 => k0_hw241

def k0_chk242 (v347 : IVec S16 32) (v921 : IVec S16 32) : Prop :=
  (∀ a x, ((![v921, v347] : Fin 2 → IVec S16 32) a x).toNat < S64x128.size a)
theorem k0_idx242_inb : ∀ (v347 : IVec S16 32) (v921 : IVec S16 32) (k0_hw242 : k0_chk242 v347 v921), ∀ a x, ((![v921, v347] : Fin 2 → IVec S16 32) a x).toNat < S64x128.size a := fun v347 v921 k0_hw242 => k0_hw242

def k0_chk243 (v347 : IVec S16 32) (v932 : IVec S16 32) : Prop :=
  (∀ a x, ((![v347, v932] : Fin 2 → IVec S16 32) a x).toNat < S128x128.size a)
theorem k0_idx243_inb : ∀ (v347 : IVec S16 32) (v932 : IVec S16 32) (k0_hw243 : k0_chk243 v347 v932), ∀ a x, ((![v347, v932] : Fin 2 → IVec S16 32) a x).toNat < S128x128.size a := fun v347 v932 k0_hw243 => k0_hw243

def k0_chk244 (v347 : IVec S16 32) (v931 : IVec S16 32) : Prop :=
  (∀ a x, ((![v931, v347] : Fin 2 → IVec S16 32) a x).toNat < S64x128.size a)
theorem k0_idx244_inb : ∀ (v347 : IVec S16 32) (v931 : IVec S16 32) (k0_hw244 : k0_chk244 v347 v931), ∀ a x, ((![v931, v347] : Fin 2 → IVec S16 32) a x).toNat < S64x128.size a := fun v347 v931 k0_hw244 => k0_hw244

def k0_chk245 (v347 : IVec S16 32) (v942 : IVec S16 32) : Prop :=
  (∀ a x, ((![v347, v942] : Fin 2 → IVec S16 32) a x).toNat < S128x128.size a)
theorem k0_idx245_inb : ∀ (v347 : IVec S16 32) (v942 : IVec S16 32) (k0_hw245 : k0_chk245 v347 v942), ∀ a x, ((![v347, v942] : Fin 2 → IVec S16 32) a x).toNat < S128x128.size a := fun v347 v942 k0_hw245 => k0_hw245

def k0_chk246 (v347 : IVec S16 32) (v941 : IVec S16 32) : Prop :=
  (∀ a x, ((![v941, v347] : Fin 2 → IVec S16 32) a x).toNat < S64x128.size a)
theorem k0_idx246_inb : ∀ (v347 : IVec S16 32) (v941 : IVec S16 32) (k0_hw246 : k0_chk246 v347 v941), ∀ a x, ((![v941, v347] : Fin 2 → IVec S16 32) a x).toNat < S64x128.size a := fun v347 v941 k0_hw246 => k0_hw246

def k0_chk247 (v347 : IVec S16 32) (v952 : IVec S16 32) : Prop :=
  (∀ a x, ((![v347, v952] : Fin 2 → IVec S16 32) a x).toNat < S128x128.size a)
theorem k0_idx247_inb : ∀ (v347 : IVec S16 32) (v952 : IVec S16 32) (k0_hw247 : k0_chk247 v347 v952), ∀ a x, ((![v347, v952] : Fin 2 → IVec S16 32) a x).toNat < S128x128.size a := fun v347 v952 k0_hw247 => k0_hw247

def k0_chk248 (v347 : IVec S16 32) (v951 : IVec S16 32) : Prop :=
  (∀ a x, ((![v951, v347] : Fin 2 → IVec S16 32) a x).toNat < S64x128.size a)
theorem k0_idx248_inb : ∀ (v347 : IVec S16 32) (v951 : IVec S16 32) (k0_hw248 : k0_chk248 v347 v951), ∀ a x, ((![v951, v347] : Fin 2 → IVec S16 32) a x).toNat < S64x128.size a := fun v347 v951 k0_hw248 => k0_hw248

def k0_chk249 (v347 : IVec S16 32) (v962 : IVec S16 32) : Prop :=
  (∀ a x, ((![v347, v962] : Fin 2 → IVec S16 32) a x).toNat < S128x128.size a)
theorem k0_idx249_inb : ∀ (v347 : IVec S16 32) (v962 : IVec S16 32) (k0_hw249 : k0_chk249 v347 v962), ∀ a x, ((![v347, v962] : Fin 2 → IVec S16 32) a x).toNat < S128x128.size a := fun v347 v962 k0_hw249 => k0_hw249

def k0_chk250 (v347 : IVec S16 32) (v961 : IVec S16 32) : Prop :=
  (∀ a x, ((![v961, v347] : Fin 2 → IVec S16 32) a x).toNat < S64x128.size a)
theorem k0_idx250_inb : ∀ (v347 : IVec S16 32) (v961 : IVec S16 32) (k0_hw250 : k0_chk250 v347 v961), ∀ a x, ((![v961, v347] : Fin 2 → IVec S16 32) a x).toNat < S64x128.size a := fun v347 v961 k0_hw250 => k0_hw250

def k0_chk251 (v347 : IVec S16 32) (v972 : IVec S16 32) : Prop :=
  (∀ a x, ((![v347, v972] : Fin 2 → IVec S16 32) a x).toNat < S128x128.size a)
theorem k0_idx251_inb : ∀ (v347 : IVec S16 32) (v972 : IVec S16 32) (k0_hw251 : k0_chk251 v347 v972), ∀ a x, ((![v347, v972] : Fin 2 → IVec S16 32) a x).toNat < S128x128.size a := fun v347 v972 k0_hw251 => k0_hw251

def k0_chk252 (v347 : IVec S16 32) (v971 : IVec S16 32) : Prop :=
  (∀ a x, ((![v971, v347] : Fin 2 → IVec S16 32) a x).toNat < S64x128.size a)
theorem k0_idx252_inb : ∀ (v347 : IVec S16 32) (v971 : IVec S16 32) (k0_hw252 : k0_chk252 v347 v971), ∀ a x, ((![v971, v347] : Fin 2 → IVec S16 32) a x).toNat < S64x128.size a := fun v347 v971 k0_hw252 => k0_hw252

def k0_chk253 (v347 : IVec S16 32) (v982 : IVec S16 32) : Prop :=
  (∀ a x, ((![v347, v982] : Fin 2 → IVec S16 32) a x).toNat < S128x128.size a)
theorem k0_idx253_inb : ∀ (v347 : IVec S16 32) (v982 : IVec S16 32) (k0_hw253 : k0_chk253 v347 v982), ∀ a x, ((![v347, v982] : Fin 2 → IVec S16 32) a x).toNat < S128x128.size a := fun v347 v982 k0_hw253 => k0_hw253

def k0_chk254 (v347 : IVec S16 32) (v981 : IVec S16 32) : Prop :=
  (∀ a x, ((![v981, v347] : Fin 2 → IVec S16 32) a x).toNat < S64x128.size a)
theorem k0_idx254_inb : ∀ (v347 : IVec S16 32) (v981 : IVec S16 32) (k0_hw254 : k0_chk254 v347 v981), ∀ a x, ((![v981, v347] : Fin 2 → IVec S16 32) a x).toNat < S64x128.size a := fun v347 v981 k0_hw254 => k0_hw254

def k0_chk255 (v347 : IVec S16 32) (v992 : IVec S16 32) : Prop :=
  (∀ a x, ((![v347, v992] : Fin 2 → IVec S16 32) a x).toNat < S128x128.size a)
theorem k0_idx255_inb : ∀ (v347 : IVec S16 32) (v992 : IVec S16 32) (k0_hw255 : k0_chk255 v347 v992), ∀ a x, ((![v347, v992] : Fin 2 → IVec S16 32) a x).toNat < S128x128.size a := fun v347 v992 k0_hw255 => k0_hw255

def k0_chk256 (v347 : IVec S16 32) (v991 : IVec S16 32) : Prop :=
  (∀ a x, ((![v991, v347] : Fin 2 → IVec S16 32) a x).toNat < S64x128.size a)
theorem k0_idx256_inb : ∀ (v347 : IVec S16 32) (v991 : IVec S16 32) (k0_hw256 : k0_chk256 v347 v991), ∀ a x, ((![v991, v347] : Fin 2 → IVec S16 32) a x).toNat < S64x128.size a := fun v347 v991 k0_hw256 => k0_hw256
def k0_cond4 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c49_i32_181 : BitVec 32 := 49#32
  let v307 : BitVec 1 := Scalar.cmpi .slt arg26 c49_i32_181
  let v308 : BitVec 32 := Scalar.extui v307
  let c0_i32_182 : BitVec 32 := 0#32
  let v309 : BitVec 1 := Scalar.cmpi .ne v308 c0_i32_182
  v309

def k0_off14 (k0_t1 : Fin k0_t1_loop.trips) (c0_i32_220 : BitVec 32) : Fin 2 → Nat :=
  let c0_i32_136 : BitVec 32 := 0#32
  let c1_i32_137 : BitVec 32 := 1#32
  let arg26 : BitVec 32 := Scf.iv c0_i32_136 c1_i32_137 k0_t1
  let c4_i32_170 : BitVec 32 := 4#32
  let v300 : BitVec 32 := Scalar.muli arg26 c4_i32_170
  let c1_i32_171 : BitVec 32 := 1#32
  let v301 : BitVec 32 := Scalar.addi v300 c1_i32_171
  let c4_i32_218 : BitVec 32 := 4#32
  let v345 : BitVec 32 := Scalar.addi v301 c4_i32_218
  let v347 : Index := Scalar.indexCast v345
  let c16_i32_221 : BitVec 32 := 16#32
  let v346 : BitVec 32 := Scalar.muli c16_i32_221 c0_i32_220
  let v348 : Index := Scalar.indexCast v346
  ![v347.toNat, v348.toNat]
def k0_off15 (c0_i32_220 : BitVec 32) : Fin 1 → Nat :=
  let c16_i32_221 : BitVec 32 := 16#32
  let v346 : BitVec 32 := Scalar.muli c16_i32_221 c0_i32_220
  let v352 : Index := Scalar.indexCast v346
  ![v352.toNat]
def k0_cond5 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c0_i32_190 : BitVec 32 := 0#32
  let v318 : BitVec 1 := Scalar.cmpi .sgt arg26 c0_i32_190
  let v319 : BitVec 32 := Scalar.extui v318
  let c0_i32_191 : BitVec 32 := 0#32
  let v320 : BitVec 1 := Scalar.cmpi .ne v319 c0_i32_191
  v320

def k0_off16 (i : grid0.Coords) : Fin 3 → Nat :=
  let c0_i32_219 : BitVec 32 := 0#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_218 : BitVec 32 := 128#32
  let v345 : BitVec 32 := Scalar.muli v1 c128_i32_218
  ![0, 0, v345.toNat]
@[reducible] def k0_t4_loop : Scf.Loop 32 :=
  let c0_i32_193 : BitVec 32 := 0#32
  let c8_i32_194 : BitVec 32 := 8#32
  let v321 : BitVec 32 := Scalar.addi c0_i32_193 c8_i32_194
  let c1_i32_195 : BitVec 32 := 1#32
  ⟨c0_i32_193, v321, c1_i32_195⟩
def k0_off17 (k0_t1 : Fin k0_t1_loop.trips) (k0_t4 : Fin k0_t4_loop.trips) : Fin 2 → Nat :=
  let c0_i32_136 : BitVec 32 := 0#32
  let c1_i32_137 : BitVec 32 := 1#32
  let arg26 : BitVec 32 := Scf.iv c0_i32_136 c1_i32_137 k0_t1
  let c4_i32_186 : BitVec 32 := 4#32
  let v315 : BitVec 32 := Scalar.muli arg26 c4_i32_186
  let c2_i32_187 : BitVec 32 := 2#32
  let v316 : BitVec 32 := Scalar.addi v315 c2_i32_187
  let v349 : Index := Scalar.indexCast v316
  let c0_i32_193 : BitVec 32 := 0#32
  let c1_i32_195 : BitVec 32 := 1#32
  let arg27 : BitVec 32 := Scf.iv c0_i32_193 c1_i32_195 k0_t4
  let c16_i32_219 : BitVec 32 := 16#32
  let v348 : BitVec 32 := Scalar.muli arg27 c16_i32_219
  let v350 : Index := Scalar.indexCast v348
  ![v349.toNat, v350.toNat]

def k0_chk257 (v347 : IVec S16 32) (v362 : IVec S16 32) : Prop :=
  (∀ a x, ((![v347, v362] : Fin 2 → IVec S16 32) a x).toNat < S128x128.size a)
theorem k0_idx257_inb : ∀ (v347 : IVec S16 32) (v362 : IVec S16 32) (k0_hw257 : k0_chk257 v347 v362), ∀ a x, ((![v347, v362] : Fin 2 → IVec S16 32) a x).toNat < S128x128.size a := fun v347 v362 k0_hw257 => k0_hw257

def k0_chk258 (v347 : IVec S16 32) (v361 : IVec S16 32) : Prop :=
  (∀ a x, ((![v361, v347] : Fin 2 → IVec S16 32) a x).toNat < S64x128.size a)
theorem k0_idx258_inb : ∀ (v347 : IVec S16 32) (v361 : IVec S16 32) (k0_hw258 : k0_chk258 v347 v361), ∀ a x, ((![v361, v347] : Fin 2 → IVec S16 32) a x).toNat < S64x128.size a := fun v347 v361 k0_hw258 => k0_hw258

def k0_chk259 (v347 : IVec S16 32) (v372 : IVec S16 32) : Prop :=
  (∀ a x, ((![v347, v372] : Fin 2 → IVec S16 32) a x).toNat < S128x128.size a)
theorem k0_idx259_inb : ∀ (v347 : IVec S16 32) (v372 : IVec S16 32) (k0_hw259 : k0_chk259 v347 v372), ∀ a x, ((![v347, v372] : Fin 2 → IVec S16 32) a x).toNat < S128x128.size a := fun v347 v372 k0_hw259 => k0_hw259

def k0_chk260 (v347 : IVec S16 32) (v371 : IVec S16 32) : Prop :=
  (∀ a x, ((![v371, v347] : Fin 2 → IVec S16 32) a x).toNat < S64x128.size a)
theorem k0_idx260_inb : ∀ (v347 : IVec S16 32) (v371 : IVec S16 32) (k0_hw260 : k0_chk260 v347 v371), ∀ a x, ((![v371, v347] : Fin 2 → IVec S16 32) a x).toNat < S64x128.size a := fun v347 v371 k0_hw260 => k0_hw260

def k0_chk261 (v347 : IVec S16 32) (v382 : IVec S16 32) : Prop :=
  (∀ a x, ((![v347, v382] : Fin 2 → IVec S16 32) a x).toNat < S128x128.size a)
theorem k0_idx261_inb : ∀ (v347 : IVec S16 32) (v382 : IVec S16 32) (k0_hw261 : k0_chk261 v347 v382), ∀ a x, ((![v347, v382] : Fin 2 → IVec S16 32) a x).toNat < S128x128.size a := fun v347 v382 k0_hw261 => k0_hw261

def k0_chk262 (v347 : IVec S16 32) (v381 : IVec S16 32) : Prop :=
  (∀ a x, ((![v381, v347] : Fin 2 → IVec S16 32) a x).toNat < S64x128.size a)
theorem k0_idx262_inb : ∀ (v347 : IVec S16 32) (v381 : IVec S16 32) (k0_hw262 : k0_chk262 v347 v381), ∀ a x, ((![v381, v347] : Fin 2 → IVec S16 32) a x).toNat < S64x128.size a := fun v347 v381 k0_hw262 => k0_hw262

def k0_chk263 (v347 : IVec S16 32) (v392 : IVec S16 32) : Prop :=
  (∀ a x, ((![v347, v392] : Fin 2 → IVec S16 32) a x).toNat < S128x128.size a)
theorem k0_idx263_inb : ∀ (v347 : IVec S16 32) (v392 : IVec S16 32) (k0_hw263 : k0_chk263 v347 v392), ∀ a x, ((![v347, v392] : Fin 2 → IVec S16 32) a x).toNat < S128x128.size a := fun v347 v392 k0_hw263 => k0_hw263

def k0_chk264 (v347 : IVec S16 32) (v391 : IVec S16 32) : Prop :=
  (∀ a x, ((![v391, v347] : Fin 2 → IVec S16 32) a x).toNat < S64x128.size a)
theorem k0_idx264_inb : ∀ (v347 : IVec S16 32) (v391 : IVec S16 32) (k0_hw264 : k0_chk264 v347 v391), ∀ a x, ((![v391, v347] : Fin 2 → IVec S16 32) a x).toNat < S64x128.size a := fun v347 v391 k0_hw264 => k0_hw264

def k0_chk265 (v347 : IVec S16 32) (v402 : IVec S16 32) : Prop :=
  (∀ a x, ((![v347, v402] : Fin 2 → IVec S16 32) a x).toNat < S128x128.size a)
theorem k0_idx265_inb : ∀ (v347 : IVec S16 32) (v402 : IVec S16 32) (k0_hw265 : k0_chk265 v347 v402), ∀ a x, ((![v347, v402] : Fin 2 → IVec S16 32) a x).toNat < S128x128.size a := fun v347 v402 k0_hw265 => k0_hw265

def k0_chk266 (v347 : IVec S16 32) (v401 : IVec S16 32) : Prop :=
  (∀ a x, ((![v401, v347] : Fin 2 → IVec S16 32) a x).toNat < S64x128.size a)
theorem k0_idx266_inb : ∀ (v347 : IVec S16 32) (v401 : IVec S16 32) (k0_hw266 : k0_chk266 v347 v401), ∀ a x, ((![v401, v347] : Fin 2 → IVec S16 32) a x).toNat < S64x128.size a := fun v347 v401 k0_hw266 => k0_hw266

def k0_chk267 (v347 : IVec S16 32) (v412 : IVec S16 32) : Prop :=
  (∀ a x, ((![v347, v412] : Fin 2 → IVec S16 32) a x).toNat < S128x128.size a)
theorem k0_idx267_inb : ∀ (v347 : IVec S16 32) (v412 : IVec S16 32) (k0_hw267 : k0_chk267 v347 v412), ∀ a x, ((![v347, v412] : Fin 2 → IVec S16 32) a x).toNat < S128x128.size a := fun v347 v412 k0_hw267 => k0_hw267

def k0_chk268 (v347 : IVec S16 32) (v411 : IVec S16 32) : Prop :=
  (∀ a x, ((![v411, v347] : Fin 2 → IVec S16 32) a x).toNat < S64x128.size a)
theorem k0_idx268_inb : ∀ (v347 : IVec S16 32) (v411 : IVec S16 32) (k0_hw268 : k0_chk268 v347 v411), ∀ a x, ((![v411, v347] : Fin 2 → IVec S16 32) a x).toNat < S64x128.size a := fun v347 v411 k0_hw268 => k0_hw268

def k0_chk269 (v347 : IVec S16 32) (v422 : IVec S16 32) : Prop :=
  (∀ a x, ((![v347, v422] : Fin 2 → IVec S16 32) a x).toNat < S128x128.size a)
theorem k0_idx269_inb : ∀ (v347 : IVec S16 32) (v422 : IVec S16 32) (k0_hw269 : k0_chk269 v347 v422), ∀ a x, ((![v347, v422] : Fin 2 → IVec S16 32) a x).toNat < S128x128.size a := fun v347 v422 k0_hw269 => k0_hw269

def k0_chk270 (v347 : IVec S16 32) (v421 : IVec S16 32) : Prop :=
  (∀ a x, ((![v421, v347] : Fin 2 → IVec S16 32) a x).toNat < S64x128.size a)
theorem k0_idx270_inb : ∀ (v347 : IVec S16 32) (v421 : IVec S16 32) (k0_hw270 : k0_chk270 v347 v421), ∀ a x, ((![v421, v347] : Fin 2 → IVec S16 32) a x).toNat < S64x128.size a := fun v347 v421 k0_hw270 => k0_hw270

def k0_chk271 (v347 : IVec S16 32) (v432 : IVec S16 32) : Prop :=
  (∀ a x, ((![v347, v432] : Fin 2 → IVec S16 32) a x).toNat < S128x128.size a)
theorem k0_idx271_inb : ∀ (v347 : IVec S16 32) (v432 : IVec S16 32) (k0_hw271 : k0_chk271 v347 v432), ∀ a x, ((![v347, v432] : Fin 2 → IVec S16 32) a x).toNat < S128x128.size a := fun v347 v432 k0_hw271 => k0_hw271

def k0_chk272 (v347 : IVec S16 32) (v431 : IVec S16 32) : Prop :=
  (∀ a x, ((![v431, v347] : Fin 2 → IVec S16 32) a x).toNat < S64x128.size a)
theorem k0_idx272_inb : ∀ (v347 : IVec S16 32) (v431 : IVec S16 32) (k0_hw272 : k0_chk272 v347 v431), ∀ a x, ((![v431, v347] : Fin 2 → IVec S16 32) a x).toNat < S64x128.size a := fun v347 v431 k0_hw272 => k0_hw272

def k0_chk273 (v347 : IVec S16 32) (v442 : IVec S16 32) : Prop :=
  (∀ a x, ((![v347, v442] : Fin 2 → IVec S16 32) a x).toNat < S128x128.size a)
theorem k0_idx273_inb : ∀ (v347 : IVec S16 32) (v442 : IVec S16 32) (k0_hw273 : k0_chk273 v347 v442), ∀ a x, ((![v347, v442] : Fin 2 → IVec S16 32) a x).toNat < S128x128.size a := fun v347 v442 k0_hw273 => k0_hw273

def k0_chk274 (v347 : IVec S16 32) (v441 : IVec S16 32) : Prop :=
  (∀ a x, ((![v441, v347] : Fin 2 → IVec S16 32) a x).toNat < S64x128.size a)
theorem k0_idx274_inb : ∀ (v347 : IVec S16 32) (v441 : IVec S16 32) (k0_hw274 : k0_chk274 v347 v441), ∀ a x, ((![v441, v347] : Fin 2 → IVec S16 32) a x).toNat < S64x128.size a := fun v347 v441 k0_hw274 => k0_hw274

def k0_chk275 (v347 : IVec S16 32) (v452 : IVec S16 32) : Prop :=
  (∀ a x, ((![v347, v452] : Fin 2 → IVec S16 32) a x).toNat < S128x128.size a)
theorem k0_idx275_inb : ∀ (v347 : IVec S16 32) (v452 : IVec S16 32) (k0_hw275 : k0_chk275 v347 v452), ∀ a x, ((![v347, v452] : Fin 2 → IVec S16 32) a x).toNat < S128x128.size a := fun v347 v452 k0_hw275 => k0_hw275

def k0_chk276 (v347 : IVec S16 32) (v451 : IVec S16 32) : Prop :=
  (∀ a x, ((![v451, v347] : Fin 2 → IVec S16 32) a x).toNat < S64x128.size a)
theorem k0_idx276_inb : ∀ (v347 : IVec S16 32) (v451 : IVec S16 32) (k0_hw276 : k0_chk276 v347 v451), ∀ a x, ((![v451, v347] : Fin 2 → IVec S16 32) a x).toNat < S64x128.size a := fun v347 v451 k0_hw276 => k0_hw276

def k0_chk277 (v347 : IVec S16 32) (v462 : IVec S16 32) : Prop :=
  (∀ a x, ((![v347, v462] : Fin 2 → IVec S16 32) a x).toNat < S128x128.size a)
theorem k0_idx277_inb : ∀ (v347 : IVec S16 32) (v462 : IVec S16 32) (k0_hw277 : k0_chk277 v347 v462), ∀ a x, ((![v347, v462] : Fin 2 → IVec S16 32) a x).toNat < S128x128.size a := fun v347 v462 k0_hw277 => k0_hw277

def k0_chk278 (v347 : IVec S16 32) (v461 : IVec S16 32) : Prop :=
  (∀ a x, ((![v461, v347] : Fin 2 → IVec S16 32) a x).toNat < S64x128.size a)
theorem k0_idx278_inb : ∀ (v347 : IVec S16 32) (v461 : IVec S16 32) (k0_hw278 : k0_chk278 v347 v461), ∀ a x, ((![v461, v347] : Fin 2 → IVec S16 32) a x).toNat < S64x128.size a := fun v347 v461 k0_hw278 => k0_hw278

def k0_chk279 (v347 : IVec S16 32) (v472 : IVec S16 32) : Prop :=
  (∀ a x, ((![v347, v472] : Fin 2 → IVec S16 32) a x).toNat < S128x128.size a)
theorem k0_idx279_inb : ∀ (v347 : IVec S16 32) (v472 : IVec S16 32) (k0_hw279 : k0_chk279 v347 v472), ∀ a x, ((![v347, v472] : Fin 2 → IVec S16 32) a x).toNat < S128x128.size a := fun v347 v472 k0_hw279 => k0_hw279

def k0_chk280 (v347 : IVec S16 32) (v471 : IVec S16 32) : Prop :=
  (∀ a x, ((![v471, v347] : Fin 2 → IVec S16 32) a x).toNat < S64x128.size a)
theorem k0_idx280_inb : ∀ (v347 : IVec S16 32) (v471 : IVec S16 32) (k0_hw280 : k0_chk280 v347 v471), ∀ a x, ((![v471, v347] : Fin 2 → IVec S16 32) a x).toNat < S64x128.size a := fun v347 v471 k0_hw280 => k0_hw280

def k0_chk281 (v347 : IVec S16 32) (v482 : IVec S16 32) : Prop :=
  (∀ a x, ((![v347, v482] : Fin 2 → IVec S16 32) a x).toNat < S128x128.size a)
theorem k0_idx281_inb : ∀ (v347 : IVec S16 32) (v482 : IVec S16 32) (k0_hw281 : k0_chk281 v347 v482), ∀ a x, ((![v347, v482] : Fin 2 → IVec S16 32) a x).toNat < S128x128.size a := fun v347 v482 k0_hw281 => k0_hw281

def k0_chk282 (v347 : IVec S16 32) (v481 : IVec S16 32) : Prop :=
  (∀ a x, ((![v481, v347] : Fin 2 → IVec S16 32) a x).toNat < S64x128.size a)
theorem k0_idx282_inb : ∀ (v347 : IVec S16 32) (v481 : IVec S16 32) (k0_hw282 : k0_chk282 v347 v481), ∀ a x, ((![v481, v347] : Fin 2 → IVec S16 32) a x).toNat < S64x128.size a := fun v347 v481 k0_hw282 => k0_hw282

def k0_chk283 (v347 : IVec S16 32) (v492 : IVec S16 32) : Prop :=
  (∀ a x, ((![v347, v492] : Fin 2 → IVec S16 32) a x).toNat < S128x128.size a)
theorem k0_idx283_inb : ∀ (v347 : IVec S16 32) (v492 : IVec S16 32) (k0_hw283 : k0_chk283 v347 v492), ∀ a x, ((![v347, v492] : Fin 2 → IVec S16 32) a x).toNat < S128x128.size a := fun v347 v492 k0_hw283 => k0_hw283

def k0_chk284 (v347 : IVec S16 32) (v491 : IVec S16 32) : Prop :=
  (∀ a x, ((![v491, v347] : Fin 2 → IVec S16 32) a x).toNat < S64x128.size a)
theorem k0_idx284_inb : ∀ (v347 : IVec S16 32) (v491 : IVec S16 32) (k0_hw284 : k0_chk284 v347 v491), ∀ a x, ((![v491, v347] : Fin 2 → IVec S16 32) a x).toNat < S64x128.size a := fun v347 v491 k0_hw284 => k0_hw284

def k0_chk285 (v347 : IVec S16 32) (v502 : IVec S16 32) : Prop :=
  (∀ a x, ((![v347, v502] : Fin 2 → IVec S16 32) a x).toNat < S128x128.size a)
theorem k0_idx285_inb : ∀ (v347 : IVec S16 32) (v502 : IVec S16 32) (k0_hw285 : k0_chk285 v347 v502), ∀ a x, ((![v347, v502] : Fin 2 → IVec S16 32) a x).toNat < S128x128.size a := fun v347 v502 k0_hw285 => k0_hw285

def k0_chk286 (v347 : IVec S16 32) (v501 : IVec S16 32) : Prop :=
  (∀ a x, ((![v501, v347] : Fin 2 → IVec S16 32) a x).toNat < S64x128.size a)
theorem k0_idx286_inb : ∀ (v347 : IVec S16 32) (v501 : IVec S16 32) (k0_hw286 : k0_chk286 v347 v501), ∀ a x, ((![v501, v347] : Fin 2 → IVec S16 32) a x).toNat < S64x128.size a := fun v347 v501 k0_hw286 => k0_hw286

def k0_chk287 (v347 : IVec S16 32) (v512 : IVec S16 32) : Prop :=
  (∀ a x, ((![v347, v512] : Fin 2 → IVec S16 32) a x).toNat < S128x128.size a)
theorem k0_idx287_inb : ∀ (v347 : IVec S16 32) (v512 : IVec S16 32) (k0_hw287 : k0_chk287 v347 v512), ∀ a x, ((![v347, v512] : Fin 2 → IVec S16 32) a x).toNat < S128x128.size a := fun v347 v512 k0_hw287 => k0_hw287

def k0_chk288 (v347 : IVec S16 32) (v511 : IVec S16 32) : Prop :=
  (∀ a x, ((![v511, v347] : Fin 2 → IVec S16 32) a x).toNat < S64x128.size a)
theorem k0_idx288_inb : ∀ (v347 : IVec S16 32) (v511 : IVec S16 32) (k0_hw288 : k0_chk288 v347 v511), ∀ a x, ((![v511, v347] : Fin 2 → IVec S16 32) a x).toNat < S64x128.size a := fun v347 v511 k0_hw288 => k0_hw288

def k0_chk289 (v347 : IVec S16 32) (v522 : IVec S16 32) : Prop :=
  (∀ a x, ((![v347, v522] : Fin 2 → IVec S16 32) a x).toNat < S128x128.size a)
theorem k0_idx289_inb : ∀ (v347 : IVec S16 32) (v522 : IVec S16 32) (k0_hw289 : k0_chk289 v347 v522), ∀ a x, ((![v347, v522] : Fin 2 → IVec S16 32) a x).toNat < S128x128.size a := fun v347 v522 k0_hw289 => k0_hw289

def k0_chk290 (v347 : IVec S16 32) (v521 : IVec S16 32) : Prop :=
  (∀ a x, ((![v521, v347] : Fin 2 → IVec S16 32) a x).toNat < S64x128.size a)
theorem k0_idx290_inb : ∀ (v347 : IVec S16 32) (v521 : IVec S16 32) (k0_hw290 : k0_chk290 v347 v521), ∀ a x, ((![v521, v347] : Fin 2 → IVec S16 32) a x).toNat < S64x128.size a := fun v347 v521 k0_hw290 => k0_hw290

def k0_chk291 (v347 : IVec S16 32) (v532 : IVec S16 32) : Prop :=
  (∀ a x, ((![v347, v532] : Fin 2 → IVec S16 32) a x).toNat < S128x128.size a)
theorem k0_idx291_inb : ∀ (v347 : IVec S16 32) (v532 : IVec S16 32) (k0_hw291 : k0_chk291 v347 v532), ∀ a x, ((![v347, v532] : Fin 2 → IVec S16 32) a x).toNat < S128x128.size a := fun v347 v532 k0_hw291 => k0_hw291

def k0_chk292 (v347 : IVec S16 32) (v531 : IVec S16 32) : Prop :=
  (∀ a x, ((![v531, v347] : Fin 2 → IVec S16 32) a x).toNat < S64x128.size a)
theorem k0_idx292_inb : ∀ (v347 : IVec S16 32) (v531 : IVec S16 32) (k0_hw292 : k0_chk292 v347 v531), ∀ a x, ((![v531, v347] : Fin 2 → IVec S16 32) a x).toNat < S64x128.size a := fun v347 v531 k0_hw292 => k0_hw292

def k0_chk293 (v347 : IVec S16 32) (v542 : IVec S16 32) : Prop :=
  (∀ a x, ((![v347, v542] : Fin 2 → IVec S16 32) a x).toNat < S128x128.size a)
theorem k0_idx293_inb : ∀ (v347 : IVec S16 32) (v542 : IVec S16 32) (k0_hw293 : k0_chk293 v347 v542), ∀ a x, ((![v347, v542] : Fin 2 → IVec S16 32) a x).toNat < S128x128.size a := fun v347 v542 k0_hw293 => k0_hw293

def k0_chk294 (v347 : IVec S16 32) (v541 : IVec S16 32) : Prop :=
  (∀ a x, ((![v541, v347] : Fin 2 → IVec S16 32) a x).toNat < S64x128.size a)
theorem k0_idx294_inb : ∀ (v347 : IVec S16 32) (v541 : IVec S16 32) (k0_hw294 : k0_chk294 v347 v541), ∀ a x, ((![v541, v347] : Fin 2 → IVec S16 32) a x).toNat < S64x128.size a := fun v347 v541 k0_hw294 => k0_hw294

def k0_chk295 (v347 : IVec S16 32) (v552 : IVec S16 32) : Prop :=
  (∀ a x, ((![v347, v552] : Fin 2 → IVec S16 32) a x).toNat < S128x128.size a)
theorem k0_idx295_inb : ∀ (v347 : IVec S16 32) (v552 : IVec S16 32) (k0_hw295 : k0_chk295 v347 v552), ∀ a x, ((![v347, v552] : Fin 2 → IVec S16 32) a x).toNat < S128x128.size a := fun v347 v552 k0_hw295 => k0_hw295

def k0_chk296 (v347 : IVec S16 32) (v551 : IVec S16 32) : Prop :=
  (∀ a x, ((![v551, v347] : Fin 2 → IVec S16 32) a x).toNat < S64x128.size a)
theorem k0_idx296_inb : ∀ (v347 : IVec S16 32) (v551 : IVec S16 32) (k0_hw296 : k0_chk296 v347 v551), ∀ a x, ((![v551, v347] : Fin 2 → IVec S16 32) a x).toNat < S64x128.size a := fun v347 v551 k0_hw296 => k0_hw296

def k0_chk297 (v347 : IVec S16 32) (v562 : IVec S16 32) : Prop :=
  (∀ a x, ((![v347, v562] : Fin 2 → IVec S16 32) a x).toNat < S128x128.size a)
theorem k0_idx297_inb : ∀ (v347 : IVec S16 32) (v562 : IVec S16 32) (k0_hw297 : k0_chk297 v347 v562), ∀ a x, ((![v347, v562] : Fin 2 → IVec S16 32) a x).toNat < S128x128.size a := fun v347 v562 k0_hw297 => k0_hw297

def k0_chk298 (v347 : IVec S16 32) (v561 : IVec S16 32) : Prop :=
  (∀ a x, ((![v561, v347] : Fin 2 → IVec S16 32) a x).toNat < S64x128.size a)
theorem k0_idx298_inb : ∀ (v347 : IVec S16 32) (v561 : IVec S16 32) (k0_hw298 : k0_chk298 v347 v561), ∀ a x, ((![v561, v347] : Fin 2 → IVec S16 32) a x).toNat < S64x128.size a := fun v347 v561 k0_hw298 => k0_hw298

def k0_chk299 (v347 : IVec S16 32) (v572 : IVec S16 32) : Prop :=
  (∀ a x, ((![v347, v572] : Fin 2 → IVec S16 32) a x).toNat < S128x128.size a)
theorem k0_idx299_inb : ∀ (v347 : IVec S16 32) (v572 : IVec S16 32) (k0_hw299 : k0_chk299 v347 v572), ∀ a x, ((![v347, v572] : Fin 2 → IVec S16 32) a x).toNat < S128x128.size a := fun v347 v572 k0_hw299 => k0_hw299

def k0_chk300 (v347 : IVec S16 32) (v571 : IVec S16 32) : Prop :=
  (∀ a x, ((![v571, v347] : Fin 2 → IVec S16 32) a x).toNat < S64x128.size a)
theorem k0_idx300_inb : ∀ (v347 : IVec S16 32) (v571 : IVec S16 32) (k0_hw300 : k0_chk300 v347 v571), ∀ a x, ((![v571, v347] : Fin 2 → IVec S16 32) a x).toNat < S64x128.size a := fun v347 v571 k0_hw300 => k0_hw300

def k0_chk301 (v347 : IVec S16 32) (v582 : IVec S16 32) : Prop :=
  (∀ a x, ((![v347, v582] : Fin 2 → IVec S16 32) a x).toNat < S128x128.size a)
theorem k0_idx301_inb : ∀ (v347 : IVec S16 32) (v582 : IVec S16 32) (k0_hw301 : k0_chk301 v347 v582), ∀ a x, ((![v347, v582] : Fin 2 → IVec S16 32) a x).toNat < S128x128.size a := fun v347 v582 k0_hw301 => k0_hw301

def k0_chk302 (v347 : IVec S16 32) (v581 : IVec S16 32) : Prop :=
  (∀ a x, ((![v581, v347] : Fin 2 → IVec S16 32) a x).toNat < S64x128.size a)
theorem k0_idx302_inb : ∀ (v347 : IVec S16 32) (v581 : IVec S16 32) (k0_hw302 : k0_chk302 v347 v581), ∀ a x, ((![v581, v347] : Fin 2 → IVec S16 32) a x).toNat < S64x128.size a := fun v347 v581 k0_hw302 => k0_hw302

def k0_chk303 (v347 : IVec S16 32) (v592 : IVec S16 32) : Prop :=
  (∀ a x, ((![v347, v592] : Fin 2 → IVec S16 32) a x).toNat < S128x128.size a)
theorem k0_idx303_inb : ∀ (v347 : IVec S16 32) (v592 : IVec S16 32) (k0_hw303 : k0_chk303 v347 v592), ∀ a x, ((![v347, v592] : Fin 2 → IVec S16 32) a x).toNat < S128x128.size a := fun v347 v592 k0_hw303 => k0_hw303

def k0_chk304 (v347 : IVec S16 32) (v591 : IVec S16 32) : Prop :=
  (∀ a x, ((![v591, v347] : Fin 2 → IVec S16 32) a x).toNat < S64x128.size a)
theorem k0_idx304_inb : ∀ (v347 : IVec S16 32) (v591 : IVec S16 32) (k0_hw304 : k0_chk304 v347 v591), ∀ a x, ((![v591, v347] : Fin 2 → IVec S16 32) a x).toNat < S64x128.size a := fun v347 v591 k0_hw304 => k0_hw304

def k0_chk305 (v347 : IVec S16 32) (v602 : IVec S16 32) : Prop :=
  (∀ a x, ((![v347, v602] : Fin 2 → IVec S16 32) a x).toNat < S128x128.size a)
theorem k0_idx305_inb : ∀ (v347 : IVec S16 32) (v602 : IVec S16 32) (k0_hw305 : k0_chk305 v347 v602), ∀ a x, ((![v347, v602] : Fin 2 → IVec S16 32) a x).toNat < S128x128.size a := fun v347 v602 k0_hw305 => k0_hw305

def k0_chk306 (v347 : IVec S16 32) (v601 : IVec S16 32) : Prop :=
  (∀ a x, ((![v601, v347] : Fin 2 → IVec S16 32) a x).toNat < S64x128.size a)
theorem k0_idx306_inb : ∀ (v347 : IVec S16 32) (v601 : IVec S16 32) (k0_hw306 : k0_chk306 v347 v601), ∀ a x, ((![v601, v347] : Fin 2 → IVec S16 32) a x).toNat < S64x128.size a := fun v347 v601 k0_hw306 => k0_hw306

def k0_chk307 (v347 : IVec S16 32) (v612 : IVec S16 32) : Prop :=
  (∀ a x, ((![v347, v612] : Fin 2 → IVec S16 32) a x).toNat < S128x128.size a)
theorem k0_idx307_inb : ∀ (v347 : IVec S16 32) (v612 : IVec S16 32) (k0_hw307 : k0_chk307 v347 v612), ∀ a x, ((![v347, v612] : Fin 2 → IVec S16 32) a x).toNat < S128x128.size a := fun v347 v612 k0_hw307 => k0_hw307

def k0_chk308 (v347 : IVec S16 32) (v611 : IVec S16 32) : Prop :=
  (∀ a x, ((![v611, v347] : Fin 2 → IVec S16 32) a x).toNat < S64x128.size a)
theorem k0_idx308_inb : ∀ (v347 : IVec S16 32) (v611 : IVec S16 32) (k0_hw308 : k0_chk308 v347 v611), ∀ a x, ((![v611, v347] : Fin 2 → IVec S16 32) a x).toNat < S64x128.size a := fun v347 v611 k0_hw308 => k0_hw308

def k0_chk309 (v347 : IVec S16 32) (v622 : IVec S16 32) : Prop :=
  (∀ a x, ((![v347, v622] : Fin 2 → IVec S16 32) a x).toNat < S128x128.size a)
theorem k0_idx309_inb : ∀ (v347 : IVec S16 32) (v622 : IVec S16 32) (k0_hw309 : k0_chk309 v347 v622), ∀ a x, ((![v347, v622] : Fin 2 → IVec S16 32) a x).toNat < S128x128.size a := fun v347 v622 k0_hw309 => k0_hw309

def k0_chk310 (v347 : IVec S16 32) (v621 : IVec S16 32) : Prop :=
  (∀ a x, ((![v621, v347] : Fin 2 → IVec S16 32) a x).toNat < S64x128.size a)
theorem k0_idx310_inb : ∀ (v347 : IVec S16 32) (v621 : IVec S16 32) (k0_hw310 : k0_chk310 v347 v621), ∀ a x, ((![v621, v347] : Fin 2 → IVec S16 32) a x).toNat < S64x128.size a := fun v347 v621 k0_hw310 => k0_hw310

def k0_chk311 (v347 : IVec S16 32) (v632 : IVec S16 32) : Prop :=
  (∀ a x, ((![v347, v632] : Fin 2 → IVec S16 32) a x).toNat < S128x128.size a)
theorem k0_idx311_inb : ∀ (v347 : IVec S16 32) (v632 : IVec S16 32) (k0_hw311 : k0_chk311 v347 v632), ∀ a x, ((![v347, v632] : Fin 2 → IVec S16 32) a x).toNat < S128x128.size a := fun v347 v632 k0_hw311 => k0_hw311

def k0_chk312 (v347 : IVec S16 32) (v631 : IVec S16 32) : Prop :=
  (∀ a x, ((![v631, v347] : Fin 2 → IVec S16 32) a x).toNat < S64x128.size a)
theorem k0_idx312_inb : ∀ (v347 : IVec S16 32) (v631 : IVec S16 32) (k0_hw312 : k0_chk312 v347 v631), ∀ a x, ((![v631, v347] : Fin 2 → IVec S16 32) a x).toNat < S64x128.size a := fun v347 v631 k0_hw312 => k0_hw312

def k0_chk313 (v347 : IVec S16 32) (v642 : IVec S16 32) : Prop :=
  (∀ a x, ((![v347, v642] : Fin 2 → IVec S16 32) a x).toNat < S128x128.size a)
theorem k0_idx313_inb : ∀ (v347 : IVec S16 32) (v642 : IVec S16 32) (k0_hw313 : k0_chk313 v347 v642), ∀ a x, ((![v347, v642] : Fin 2 → IVec S16 32) a x).toNat < S128x128.size a := fun v347 v642 k0_hw313 => k0_hw313

def k0_chk314 (v347 : IVec S16 32) (v641 : IVec S16 32) : Prop :=
  (∀ a x, ((![v641, v347] : Fin 2 → IVec S16 32) a x).toNat < S64x128.size a)
theorem k0_idx314_inb : ∀ (v347 : IVec S16 32) (v641 : IVec S16 32) (k0_hw314 : k0_chk314 v347 v641), ∀ a x, ((![v641, v347] : Fin 2 → IVec S16 32) a x).toNat < S64x128.size a := fun v347 v641 k0_hw314 => k0_hw314

def k0_chk315 (v347 : IVec S16 32) (v652 : IVec S16 32) : Prop :=
  (∀ a x, ((![v347, v652] : Fin 2 → IVec S16 32) a x).toNat < S128x128.size a)
theorem k0_idx315_inb : ∀ (v347 : IVec S16 32) (v652 : IVec S16 32) (k0_hw315 : k0_chk315 v347 v652), ∀ a x, ((![v347, v652] : Fin 2 → IVec S16 32) a x).toNat < S128x128.size a := fun v347 v652 k0_hw315 => k0_hw315

def k0_chk316 (v347 : IVec S16 32) (v651 : IVec S16 32) : Prop :=
  (∀ a x, ((![v651, v347] : Fin 2 → IVec S16 32) a x).toNat < S64x128.size a)
theorem k0_idx316_inb : ∀ (v347 : IVec S16 32) (v651 : IVec S16 32) (k0_hw316 : k0_chk316 v347 v651), ∀ a x, ((![v651, v347] : Fin 2 → IVec S16 32) a x).toNat < S64x128.size a := fun v347 v651 k0_hw316 => k0_hw316

def k0_chk317 (v347 : IVec S16 32) (v662 : IVec S16 32) : Prop :=
  (∀ a x, ((![v347, v662] : Fin 2 → IVec S16 32) a x).toNat < S128x128.size a)
theorem k0_idx317_inb : ∀ (v347 : IVec S16 32) (v662 : IVec S16 32) (k0_hw317 : k0_chk317 v347 v662), ∀ a x, ((![v347, v662] : Fin 2 → IVec S16 32) a x).toNat < S128x128.size a := fun v347 v662 k0_hw317 => k0_hw317

def k0_chk318 (v347 : IVec S16 32) (v661 : IVec S16 32) : Prop :=
  (∀ a x, ((![v661, v347] : Fin 2 → IVec S16 32) a x).toNat < S64x128.size a)
theorem k0_idx318_inb : ∀ (v347 : IVec S16 32) (v661 : IVec S16 32) (k0_hw318 : k0_chk318 v347 v661), ∀ a x, ((![v661, v347] : Fin 2 → IVec S16 32) a x).toNat < S64x128.size a := fun v347 v661 k0_hw318 => k0_hw318

def k0_chk319 (v347 : IVec S16 32) (v672 : IVec S16 32) : Prop :=
  (∀ a x, ((![v347, v672] : Fin 2 → IVec S16 32) a x).toNat < S128x128.size a)
theorem k0_idx319_inb : ∀ (v347 : IVec S16 32) (v672 : IVec S16 32) (k0_hw319 : k0_chk319 v347 v672), ∀ a x, ((![v347, v672] : Fin 2 → IVec S16 32) a x).toNat < S128x128.size a := fun v347 v672 k0_hw319 => k0_hw319

def k0_chk320 (v347 : IVec S16 32) (v671 : IVec S16 32) : Prop :=
  (∀ a x, ((![v671, v347] : Fin 2 → IVec S16 32) a x).toNat < S64x128.size a)
theorem k0_idx320_inb : ∀ (v347 : IVec S16 32) (v671 : IVec S16 32) (k0_hw320 : k0_chk320 v347 v671), ∀ a x, ((![v671, v347] : Fin 2 → IVec S16 32) a x).toNat < S64x128.size a := fun v347 v671 k0_hw320 => k0_hw320

def k0_chk321 (v347 : IVec S16 32) (v682 : IVec S16 32) : Prop :=
  (∀ a x, ((![v347, v682] : Fin 2 → IVec S16 32) a x).toNat < S128x128.size a)
theorem k0_idx321_inb : ∀ (v347 : IVec S16 32) (v682 : IVec S16 32) (k0_hw321 : k0_chk321 v347 v682), ∀ a x, ((![v347, v682] : Fin 2 → IVec S16 32) a x).toNat < S128x128.size a := fun v347 v682 k0_hw321 => k0_hw321

def k0_chk322 (v347 : IVec S16 32) (v681 : IVec S16 32) : Prop :=
  (∀ a x, ((![v681, v347] : Fin 2 → IVec S16 32) a x).toNat < S64x128.size a)
theorem k0_idx322_inb : ∀ (v347 : IVec S16 32) (v681 : IVec S16 32) (k0_hw322 : k0_chk322 v347 v681), ∀ a x, ((![v681, v347] : Fin 2 → IVec S16 32) a x).toNat < S64x128.size a := fun v347 v681 k0_hw322 => k0_hw322

def k0_chk323 (v347 : IVec S16 32) (v692 : IVec S16 32) : Prop :=
  (∀ a x, ((![v347, v692] : Fin 2 → IVec S16 32) a x).toNat < S128x128.size a)
theorem k0_idx323_inb : ∀ (v347 : IVec S16 32) (v692 : IVec S16 32) (k0_hw323 : k0_chk323 v347 v692), ∀ a x, ((![v347, v692] : Fin 2 → IVec S16 32) a x).toNat < S128x128.size a := fun v347 v692 k0_hw323 => k0_hw323

def k0_chk324 (v347 : IVec S16 32) (v691 : IVec S16 32) : Prop :=
  (∀ a x, ((![v691, v347] : Fin 2 → IVec S16 32) a x).toNat < S64x128.size a)
theorem k0_idx324_inb : ∀ (v347 : IVec S16 32) (v691 : IVec S16 32) (k0_hw324 : k0_chk324 v347 v691), ∀ a x, ((![v691, v347] : Fin 2 → IVec S16 32) a x).toNat < S64x128.size a := fun v347 v691 k0_hw324 => k0_hw324

def k0_chk325 (v347 : IVec S16 32) (v702 : IVec S16 32) : Prop :=
  (∀ a x, ((![v347, v702] : Fin 2 → IVec S16 32) a x).toNat < S128x128.size a)
theorem k0_idx325_inb : ∀ (v347 : IVec S16 32) (v702 : IVec S16 32) (k0_hw325 : k0_chk325 v347 v702), ∀ a x, ((![v347, v702] : Fin 2 → IVec S16 32) a x).toNat < S128x128.size a := fun v347 v702 k0_hw325 => k0_hw325

def k0_chk326 (v347 : IVec S16 32) (v701 : IVec S16 32) : Prop :=
  (∀ a x, ((![v701, v347] : Fin 2 → IVec S16 32) a x).toNat < S64x128.size a)
theorem k0_idx326_inb : ∀ (v347 : IVec S16 32) (v701 : IVec S16 32) (k0_hw326 : k0_chk326 v347 v701), ∀ a x, ((![v701, v347] : Fin 2 → IVec S16 32) a x).toNat < S64x128.size a := fun v347 v701 k0_hw326 => k0_hw326

def k0_chk327 (v347 : IVec S16 32) (v712 : IVec S16 32) : Prop :=
  (∀ a x, ((![v347, v712] : Fin 2 → IVec S16 32) a x).toNat < S128x128.size a)
theorem k0_idx327_inb : ∀ (v347 : IVec S16 32) (v712 : IVec S16 32) (k0_hw327 : k0_chk327 v347 v712), ∀ a x, ((![v347, v712] : Fin 2 → IVec S16 32) a x).toNat < S128x128.size a := fun v347 v712 k0_hw327 => k0_hw327

def k0_chk328 (v347 : IVec S16 32) (v711 : IVec S16 32) : Prop :=
  (∀ a x, ((![v711, v347] : Fin 2 → IVec S16 32) a x).toNat < S64x128.size a)
theorem k0_idx328_inb : ∀ (v347 : IVec S16 32) (v711 : IVec S16 32) (k0_hw328 : k0_chk328 v347 v711), ∀ a x, ((![v711, v347] : Fin 2 → IVec S16 32) a x).toNat < S64x128.size a := fun v347 v711 k0_hw328 => k0_hw328

def k0_chk329 (v347 : IVec S16 32) (v722 : IVec S16 32) : Prop :=
  (∀ a x, ((![v347, v722] : Fin 2 → IVec S16 32) a x).toNat < S128x128.size a)
theorem k0_idx329_inb : ∀ (v347 : IVec S16 32) (v722 : IVec S16 32) (k0_hw329 : k0_chk329 v347 v722), ∀ a x, ((![v347, v722] : Fin 2 → IVec S16 32) a x).toNat < S128x128.size a := fun v347 v722 k0_hw329 => k0_hw329

def k0_chk330 (v347 : IVec S16 32) (v721 : IVec S16 32) : Prop :=
  (∀ a x, ((![v721, v347] : Fin 2 → IVec S16 32) a x).toNat < S64x128.size a)
theorem k0_idx330_inb : ∀ (v347 : IVec S16 32) (v721 : IVec S16 32) (k0_hw330 : k0_chk330 v347 v721), ∀ a x, ((![v721, v347] : Fin 2 → IVec S16 32) a x).toNat < S64x128.size a := fun v347 v721 k0_hw330 => k0_hw330

def k0_chk331 (v347 : IVec S16 32) (v732 : IVec S16 32) : Prop :=
  (∀ a x, ((![v347, v732] : Fin 2 → IVec S16 32) a x).toNat < S128x128.size a)
theorem k0_idx331_inb : ∀ (v347 : IVec S16 32) (v732 : IVec S16 32) (k0_hw331 : k0_chk331 v347 v732), ∀ a x, ((![v347, v732] : Fin 2 → IVec S16 32) a x).toNat < S128x128.size a := fun v347 v732 k0_hw331 => k0_hw331

def k0_chk332 (v347 : IVec S16 32) (v731 : IVec S16 32) : Prop :=
  (∀ a x, ((![v731, v347] : Fin 2 → IVec S16 32) a x).toNat < S64x128.size a)
theorem k0_idx332_inb : ∀ (v347 : IVec S16 32) (v731 : IVec S16 32) (k0_hw332 : k0_chk332 v347 v731), ∀ a x, ((![v731, v347] : Fin 2 → IVec S16 32) a x).toNat < S64x128.size a := fun v347 v731 k0_hw332 => k0_hw332

def k0_chk333 (v347 : IVec S16 32) (v742 : IVec S16 32) : Prop :=
  (∀ a x, ((![v347, v742] : Fin 2 → IVec S16 32) a x).toNat < S128x128.size a)
theorem k0_idx333_inb : ∀ (v347 : IVec S16 32) (v742 : IVec S16 32) (k0_hw333 : k0_chk333 v347 v742), ∀ a x, ((![v347, v742] : Fin 2 → IVec S16 32) a x).toNat < S128x128.size a := fun v347 v742 k0_hw333 => k0_hw333

def k0_chk334 (v347 : IVec S16 32) (v741 : IVec S16 32) : Prop :=
  (∀ a x, ((![v741, v347] : Fin 2 → IVec S16 32) a x).toNat < S64x128.size a)
theorem k0_idx334_inb : ∀ (v347 : IVec S16 32) (v741 : IVec S16 32) (k0_hw334 : k0_chk334 v347 v741), ∀ a x, ((![v741, v347] : Fin 2 → IVec S16 32) a x).toNat < S64x128.size a := fun v347 v741 k0_hw334 => k0_hw334

def k0_chk335 (v347 : IVec S16 32) (v752 : IVec S16 32) : Prop :=
  (∀ a x, ((![v347, v752] : Fin 2 → IVec S16 32) a x).toNat < S128x128.size a)
theorem k0_idx335_inb : ∀ (v347 : IVec S16 32) (v752 : IVec S16 32) (k0_hw335 : k0_chk335 v347 v752), ∀ a x, ((![v347, v752] : Fin 2 → IVec S16 32) a x).toNat < S128x128.size a := fun v347 v752 k0_hw335 => k0_hw335

def k0_chk336 (v347 : IVec S16 32) (v751 : IVec S16 32) : Prop :=
  (∀ a x, ((![v751, v347] : Fin 2 → IVec S16 32) a x).toNat < S64x128.size a)
theorem k0_idx336_inb : ∀ (v347 : IVec S16 32) (v751 : IVec S16 32) (k0_hw336 : k0_chk336 v347 v751), ∀ a x, ((![v751, v347] : Fin 2 → IVec S16 32) a x).toNat < S64x128.size a := fun v347 v751 k0_hw336 => k0_hw336

def k0_chk337 (v347 : IVec S16 32) (v762 : IVec S16 32) : Prop :=
  (∀ a x, ((![v347, v762] : Fin 2 → IVec S16 32) a x).toNat < S128x128.size a)
theorem k0_idx337_inb : ∀ (v347 : IVec S16 32) (v762 : IVec S16 32) (k0_hw337 : k0_chk337 v347 v762), ∀ a x, ((![v347, v762] : Fin 2 → IVec S16 32) a x).toNat < S128x128.size a := fun v347 v762 k0_hw337 => k0_hw337

def k0_chk338 (v347 : IVec S16 32) (v761 : IVec S16 32) : Prop :=
  (∀ a x, ((![v761, v347] : Fin 2 → IVec S16 32) a x).toNat < S64x128.size a)
theorem k0_idx338_inb : ∀ (v347 : IVec S16 32) (v761 : IVec S16 32) (k0_hw338 : k0_chk338 v347 v761), ∀ a x, ((![v761, v347] : Fin 2 → IVec S16 32) a x).toNat < S64x128.size a := fun v347 v761 k0_hw338 => k0_hw338

def k0_chk339 (v347 : IVec S16 32) (v772 : IVec S16 32) : Prop :=
  (∀ a x, ((![v347, v772] : Fin 2 → IVec S16 32) a x).toNat < S128x128.size a)
theorem k0_idx339_inb : ∀ (v347 : IVec S16 32) (v772 : IVec S16 32) (k0_hw339 : k0_chk339 v347 v772), ∀ a x, ((![v347, v772] : Fin 2 → IVec S16 32) a x).toNat < S128x128.size a := fun v347 v772 k0_hw339 => k0_hw339

def k0_chk340 (v347 : IVec S16 32) (v771 : IVec S16 32) : Prop :=
  (∀ a x, ((![v771, v347] : Fin 2 → IVec S16 32) a x).toNat < S64x128.size a)
theorem k0_idx340_inb : ∀ (v347 : IVec S16 32) (v771 : IVec S16 32) (k0_hw340 : k0_chk340 v347 v771), ∀ a x, ((![v771, v347] : Fin 2 → IVec S16 32) a x).toNat < S64x128.size a := fun v347 v771 k0_hw340 => k0_hw340

def k0_chk341 (v347 : IVec S16 32) (v782 : IVec S16 32) : Prop :=
  (∀ a x, ((![v347, v782] : Fin 2 → IVec S16 32) a x).toNat < S128x128.size a)
theorem k0_idx341_inb : ∀ (v347 : IVec S16 32) (v782 : IVec S16 32) (k0_hw341 : k0_chk341 v347 v782), ∀ a x, ((![v347, v782] : Fin 2 → IVec S16 32) a x).toNat < S128x128.size a := fun v347 v782 k0_hw341 => k0_hw341

def k0_chk342 (v347 : IVec S16 32) (v781 : IVec S16 32) : Prop :=
  (∀ a x, ((![v781, v347] : Fin 2 → IVec S16 32) a x).toNat < S64x128.size a)
theorem k0_idx342_inb : ∀ (v347 : IVec S16 32) (v781 : IVec S16 32) (k0_hw342 : k0_chk342 v347 v781), ∀ a x, ((![v781, v347] : Fin 2 → IVec S16 32) a x).toNat < S64x128.size a := fun v347 v781 k0_hw342 => k0_hw342

def k0_chk343 (v347 : IVec S16 32) (v792 : IVec S16 32) : Prop :=
  (∀ a x, ((![v347, v792] : Fin 2 → IVec S16 32) a x).toNat < S128x128.size a)
theorem k0_idx343_inb : ∀ (v347 : IVec S16 32) (v792 : IVec S16 32) (k0_hw343 : k0_chk343 v347 v792), ∀ a x, ((![v347, v792] : Fin 2 → IVec S16 32) a x).toNat < S128x128.size a := fun v347 v792 k0_hw343 => k0_hw343

def k0_chk344 (v347 : IVec S16 32) (v791 : IVec S16 32) : Prop :=
  (∀ a x, ((![v791, v347] : Fin 2 → IVec S16 32) a x).toNat < S64x128.size a)
theorem k0_idx344_inb : ∀ (v347 : IVec S16 32) (v791 : IVec S16 32) (k0_hw344 : k0_chk344 v347 v791), ∀ a x, ((![v791, v347] : Fin 2 → IVec S16 32) a x).toNat < S64x128.size a := fun v347 v791 k0_hw344 => k0_hw344

def k0_chk345 (v347 : IVec S16 32) (v802 : IVec S16 32) : Prop :=
  (∀ a x, ((![v347, v802] : Fin 2 → IVec S16 32) a x).toNat < S128x128.size a)
theorem k0_idx345_inb : ∀ (v347 : IVec S16 32) (v802 : IVec S16 32) (k0_hw345 : k0_chk345 v347 v802), ∀ a x, ((![v347, v802] : Fin 2 → IVec S16 32) a x).toNat < S128x128.size a := fun v347 v802 k0_hw345 => k0_hw345

def k0_chk346 (v347 : IVec S16 32) (v801 : IVec S16 32) : Prop :=
  (∀ a x, ((![v801, v347] : Fin 2 → IVec S16 32) a x).toNat < S64x128.size a)
theorem k0_idx346_inb : ∀ (v347 : IVec S16 32) (v801 : IVec S16 32) (k0_hw346 : k0_chk346 v347 v801), ∀ a x, ((![v801, v347] : Fin 2 → IVec S16 32) a x).toNat < S64x128.size a := fun v347 v801 k0_hw346 => k0_hw346

def k0_chk347 (v347 : IVec S16 32) (v812 : IVec S16 32) : Prop :=
  (∀ a x, ((![v347, v812] : Fin 2 → IVec S16 32) a x).toNat < S128x128.size a)
theorem k0_idx347_inb : ∀ (v347 : IVec S16 32) (v812 : IVec S16 32) (k0_hw347 : k0_chk347 v347 v812), ∀ a x, ((![v347, v812] : Fin 2 → IVec S16 32) a x).toNat < S128x128.size a := fun v347 v812 k0_hw347 => k0_hw347

def k0_chk348 (v347 : IVec S16 32) (v811 : IVec S16 32) : Prop :=
  (∀ a x, ((![v811, v347] : Fin 2 → IVec S16 32) a x).toNat < S64x128.size a)
theorem k0_idx348_inb : ∀ (v347 : IVec S16 32) (v811 : IVec S16 32) (k0_hw348 : k0_chk348 v347 v811), ∀ a x, ((![v811, v347] : Fin 2 → IVec S16 32) a x).toNat < S64x128.size a := fun v347 v811 k0_hw348 => k0_hw348

def k0_chk349 (v347 : IVec S16 32) (v822 : IVec S16 32) : Prop :=
  (∀ a x, ((![v347, v822] : Fin 2 → IVec S16 32) a x).toNat < S128x128.size a)
theorem k0_idx349_inb : ∀ (v347 : IVec S16 32) (v822 : IVec S16 32) (k0_hw349 : k0_chk349 v347 v822), ∀ a x, ((![v347, v822] : Fin 2 → IVec S16 32) a x).toNat < S128x128.size a := fun v347 v822 k0_hw349 => k0_hw349

def k0_chk350 (v347 : IVec S16 32) (v821 : IVec S16 32) : Prop :=
  (∀ a x, ((![v821, v347] : Fin 2 → IVec S16 32) a x).toNat < S64x128.size a)
theorem k0_idx350_inb : ∀ (v347 : IVec S16 32) (v821 : IVec S16 32) (k0_hw350 : k0_chk350 v347 v821), ∀ a x, ((![v821, v347] : Fin 2 → IVec S16 32) a x).toNat < S64x128.size a := fun v347 v821 k0_hw350 => k0_hw350

def k0_chk351 (v347 : IVec S16 32) (v832 : IVec S16 32) : Prop :=
  (∀ a x, ((![v347, v832] : Fin 2 → IVec S16 32) a x).toNat < S128x128.size a)
theorem k0_idx351_inb : ∀ (v347 : IVec S16 32) (v832 : IVec S16 32) (k0_hw351 : k0_chk351 v347 v832), ∀ a x, ((![v347, v832] : Fin 2 → IVec S16 32) a x).toNat < S128x128.size a := fun v347 v832 k0_hw351 => k0_hw351

def k0_chk352 (v347 : IVec S16 32) (v831 : IVec S16 32) : Prop :=
  (∀ a x, ((![v831, v347] : Fin 2 → IVec S16 32) a x).toNat < S64x128.size a)
theorem k0_idx352_inb : ∀ (v347 : IVec S16 32) (v831 : IVec S16 32) (k0_hw352 : k0_chk352 v347 v831), ∀ a x, ((![v831, v347] : Fin 2 → IVec S16 32) a x).toNat < S64x128.size a := fun v347 v831 k0_hw352 => k0_hw352

def k0_chk353 (v347 : IVec S16 32) (v842 : IVec S16 32) : Prop :=
  (∀ a x, ((![v347, v842] : Fin 2 → IVec S16 32) a x).toNat < S128x128.size a)
theorem k0_idx353_inb : ∀ (v347 : IVec S16 32) (v842 : IVec S16 32) (k0_hw353 : k0_chk353 v347 v842), ∀ a x, ((![v347, v842] : Fin 2 → IVec S16 32) a x).toNat < S128x128.size a := fun v347 v842 k0_hw353 => k0_hw353

def k0_chk354 (v347 : IVec S16 32) (v841 : IVec S16 32) : Prop :=
  (∀ a x, ((![v841, v347] : Fin 2 → IVec S16 32) a x).toNat < S64x128.size a)
theorem k0_idx354_inb : ∀ (v347 : IVec S16 32) (v841 : IVec S16 32) (k0_hw354 : k0_chk354 v347 v841), ∀ a x, ((![v841, v347] : Fin 2 → IVec S16 32) a x).toNat < S64x128.size a := fun v347 v841 k0_hw354 => k0_hw354

def k0_chk355 (v347 : IVec S16 32) (v852 : IVec S16 32) : Prop :=
  (∀ a x, ((![v347, v852] : Fin 2 → IVec S16 32) a x).toNat < S128x128.size a)
theorem k0_idx355_inb : ∀ (v347 : IVec S16 32) (v852 : IVec S16 32) (k0_hw355 : k0_chk355 v347 v852), ∀ a x, ((![v347, v852] : Fin 2 → IVec S16 32) a x).toNat < S128x128.size a := fun v347 v852 k0_hw355 => k0_hw355

def k0_chk356 (v347 : IVec S16 32) (v851 : IVec S16 32) : Prop :=
  (∀ a x, ((![v851, v347] : Fin 2 → IVec S16 32) a x).toNat < S64x128.size a)
theorem k0_idx356_inb : ∀ (v347 : IVec S16 32) (v851 : IVec S16 32) (k0_hw356 : k0_chk356 v347 v851), ∀ a x, ((![v851, v347] : Fin 2 → IVec S16 32) a x).toNat < S64x128.size a := fun v347 v851 k0_hw356 => k0_hw356

def k0_chk357 (v347 : IVec S16 32) (v862 : IVec S16 32) : Prop :=
  (∀ a x, ((![v347, v862] : Fin 2 → IVec S16 32) a x).toNat < S128x128.size a)
theorem k0_idx357_inb : ∀ (v347 : IVec S16 32) (v862 : IVec S16 32) (k0_hw357 : k0_chk357 v347 v862), ∀ a x, ((![v347, v862] : Fin 2 → IVec S16 32) a x).toNat < S128x128.size a := fun v347 v862 k0_hw357 => k0_hw357

def k0_chk358 (v347 : IVec S16 32) (v861 : IVec S16 32) : Prop :=
  (∀ a x, ((![v861, v347] : Fin 2 → IVec S16 32) a x).toNat < S64x128.size a)
theorem k0_idx358_inb : ∀ (v347 : IVec S16 32) (v861 : IVec S16 32) (k0_hw358 : k0_chk358 v347 v861), ∀ a x, ((![v861, v347] : Fin 2 → IVec S16 32) a x).toNat < S64x128.size a := fun v347 v861 k0_hw358 => k0_hw358

def k0_chk359 (v347 : IVec S16 32) (v872 : IVec S16 32) : Prop :=
  (∀ a x, ((![v347, v872] : Fin 2 → IVec S16 32) a x).toNat < S128x128.size a)
theorem k0_idx359_inb : ∀ (v347 : IVec S16 32) (v872 : IVec S16 32) (k0_hw359 : k0_chk359 v347 v872), ∀ a x, ((![v347, v872] : Fin 2 → IVec S16 32) a x).toNat < S128x128.size a := fun v347 v872 k0_hw359 => k0_hw359

def k0_chk360 (v347 : IVec S16 32) (v871 : IVec S16 32) : Prop :=
  (∀ a x, ((![v871, v347] : Fin 2 → IVec S16 32) a x).toNat < S64x128.size a)
theorem k0_idx360_inb : ∀ (v347 : IVec S16 32) (v871 : IVec S16 32) (k0_hw360 : k0_chk360 v347 v871), ∀ a x, ((![v871, v347] : Fin 2 → IVec S16 32) a x).toNat < S64x128.size a := fun v347 v871 k0_hw360 => k0_hw360

def k0_chk361 (v347 : IVec S16 32) (v882 : IVec S16 32) : Prop :=
  (∀ a x, ((![v347, v882] : Fin 2 → IVec S16 32) a x).toNat < S128x128.size a)
theorem k0_idx361_inb : ∀ (v347 : IVec S16 32) (v882 : IVec S16 32) (k0_hw361 : k0_chk361 v347 v882), ∀ a x, ((![v347, v882] : Fin 2 → IVec S16 32) a x).toNat < S128x128.size a := fun v347 v882 k0_hw361 => k0_hw361

def k0_chk362 (v347 : IVec S16 32) (v881 : IVec S16 32) : Prop :=
  (∀ a x, ((![v881, v347] : Fin 2 → IVec S16 32) a x).toNat < S64x128.size a)
theorem k0_idx362_inb : ∀ (v347 : IVec S16 32) (v881 : IVec S16 32) (k0_hw362 : k0_chk362 v347 v881), ∀ a x, ((![v881, v347] : Fin 2 → IVec S16 32) a x).toNat < S64x128.size a := fun v347 v881 k0_hw362 => k0_hw362

def k0_chk363 (v347 : IVec S16 32) (v892 : IVec S16 32) : Prop :=
  (∀ a x, ((![v347, v892] : Fin 2 → IVec S16 32) a x).toNat < S128x128.size a)
theorem k0_idx363_inb : ∀ (v347 : IVec S16 32) (v892 : IVec S16 32) (k0_hw363 : k0_chk363 v347 v892), ∀ a x, ((![v347, v892] : Fin 2 → IVec S16 32) a x).toNat < S128x128.size a := fun v347 v892 k0_hw363 => k0_hw363

def k0_chk364 (v347 : IVec S16 32) (v891 : IVec S16 32) : Prop :=
  (∀ a x, ((![v891, v347] : Fin 2 → IVec S16 32) a x).toNat < S64x128.size a)
theorem k0_idx364_inb : ∀ (v347 : IVec S16 32) (v891 : IVec S16 32) (k0_hw364 : k0_chk364 v347 v891), ∀ a x, ((![v891, v347] : Fin 2 → IVec S16 32) a x).toNat < S64x128.size a := fun v347 v891 k0_hw364 => k0_hw364

def k0_chk365 (v347 : IVec S16 32) (v902 : IVec S16 32) : Prop :=
  (∀ a x, ((![v347, v902] : Fin 2 → IVec S16 32) a x).toNat < S128x128.size a)
theorem k0_idx365_inb : ∀ (v347 : IVec S16 32) (v902 : IVec S16 32) (k0_hw365 : k0_chk365 v347 v902), ∀ a x, ((![v347, v902] : Fin 2 → IVec S16 32) a x).toNat < S128x128.size a := fun v347 v902 k0_hw365 => k0_hw365

def k0_chk366 (v347 : IVec S16 32) (v901 : IVec S16 32) : Prop :=
  (∀ a x, ((![v901, v347] : Fin 2 → IVec S16 32) a x).toNat < S64x128.size a)
theorem k0_idx366_inb : ∀ (v347 : IVec S16 32) (v901 : IVec S16 32) (k0_hw366 : k0_chk366 v347 v901), ∀ a x, ((![v901, v347] : Fin 2 → IVec S16 32) a x).toNat < S64x128.size a := fun v347 v901 k0_hw366 => k0_hw366

def k0_chk367 (v347 : IVec S16 32) (v912 : IVec S16 32) : Prop :=
  (∀ a x, ((![v347, v912] : Fin 2 → IVec S16 32) a x).toNat < S128x128.size a)
theorem k0_idx367_inb : ∀ (v347 : IVec S16 32) (v912 : IVec S16 32) (k0_hw367 : k0_chk367 v347 v912), ∀ a x, ((![v347, v912] : Fin 2 → IVec S16 32) a x).toNat < S128x128.size a := fun v347 v912 k0_hw367 => k0_hw367

def k0_chk368 (v347 : IVec S16 32) (v911 : IVec S16 32) : Prop :=
  (∀ a x, ((![v911, v347] : Fin 2 → IVec S16 32) a x).toNat < S64x128.size a)
theorem k0_idx368_inb : ∀ (v347 : IVec S16 32) (v911 : IVec S16 32) (k0_hw368 : k0_chk368 v347 v911), ∀ a x, ((![v911, v347] : Fin 2 → IVec S16 32) a x).toNat < S64x128.size a := fun v347 v911 k0_hw368 => k0_hw368

def k0_chk369 (v347 : IVec S16 32) (v922 : IVec S16 32) : Prop :=
  (∀ a x, ((![v347, v922] : Fin 2 → IVec S16 32) a x).toNat < S128x128.size a)
theorem k0_idx369_inb : ∀ (v347 : IVec S16 32) (v922 : IVec S16 32) (k0_hw369 : k0_chk369 v347 v922), ∀ a x, ((![v347, v922] : Fin 2 → IVec S16 32) a x).toNat < S128x128.size a := fun v347 v922 k0_hw369 => k0_hw369

def k0_chk370 (v347 : IVec S16 32) (v921 : IVec S16 32) : Prop :=
  (∀ a x, ((![v921, v347] : Fin 2 → IVec S16 32) a x).toNat < S64x128.size a)
theorem k0_idx370_inb : ∀ (v347 : IVec S16 32) (v921 : IVec S16 32) (k0_hw370 : k0_chk370 v347 v921), ∀ a x, ((![v921, v347] : Fin 2 → IVec S16 32) a x).toNat < S64x128.size a := fun v347 v921 k0_hw370 => k0_hw370

def k0_chk371 (v347 : IVec S16 32) (v932 : IVec S16 32) : Prop :=
  (∀ a x, ((![v347, v932] : Fin 2 → IVec S16 32) a x).toNat < S128x128.size a)
theorem k0_idx371_inb : ∀ (v347 : IVec S16 32) (v932 : IVec S16 32) (k0_hw371 : k0_chk371 v347 v932), ∀ a x, ((![v347, v932] : Fin 2 → IVec S16 32) a x).toNat < S128x128.size a := fun v347 v932 k0_hw371 => k0_hw371

def k0_chk372 (v347 : IVec S16 32) (v931 : IVec S16 32) : Prop :=
  (∀ a x, ((![v931, v347] : Fin 2 → IVec S16 32) a x).toNat < S64x128.size a)
theorem k0_idx372_inb : ∀ (v347 : IVec S16 32) (v931 : IVec S16 32) (k0_hw372 : k0_chk372 v347 v931), ∀ a x, ((![v931, v347] : Fin 2 → IVec S16 32) a x).toNat < S64x128.size a := fun v347 v931 k0_hw372 => k0_hw372

def k0_chk373 (v347 : IVec S16 32) (v942 : IVec S16 32) : Prop :=
  (∀ a x, ((![v347, v942] : Fin 2 → IVec S16 32) a x).toNat < S128x128.size a)
theorem k0_idx373_inb : ∀ (v347 : IVec S16 32) (v942 : IVec S16 32) (k0_hw373 : k0_chk373 v347 v942), ∀ a x, ((![v347, v942] : Fin 2 → IVec S16 32) a x).toNat < S128x128.size a := fun v347 v942 k0_hw373 => k0_hw373

def k0_chk374 (v347 : IVec S16 32) (v941 : IVec S16 32) : Prop :=
  (∀ a x, ((![v941, v347] : Fin 2 → IVec S16 32) a x).toNat < S64x128.size a)
theorem k0_idx374_inb : ∀ (v347 : IVec S16 32) (v941 : IVec S16 32) (k0_hw374 : k0_chk374 v347 v941), ∀ a x, ((![v941, v347] : Fin 2 → IVec S16 32) a x).toNat < S64x128.size a := fun v347 v941 k0_hw374 => k0_hw374

def k0_chk375 (v347 : IVec S16 32) (v952 : IVec S16 32) : Prop :=
  (∀ a x, ((![v347, v952] : Fin 2 → IVec S16 32) a x).toNat < S128x128.size a)
theorem k0_idx375_inb : ∀ (v347 : IVec S16 32) (v952 : IVec S16 32) (k0_hw375 : k0_chk375 v347 v952), ∀ a x, ((![v347, v952] : Fin 2 → IVec S16 32) a x).toNat < S128x128.size a := fun v347 v952 k0_hw375 => k0_hw375

def k0_chk376 (v347 : IVec S16 32) (v951 : IVec S16 32) : Prop :=
  (∀ a x, ((![v951, v347] : Fin 2 → IVec S16 32) a x).toNat < S64x128.size a)
theorem k0_idx376_inb : ∀ (v347 : IVec S16 32) (v951 : IVec S16 32) (k0_hw376 : k0_chk376 v347 v951), ∀ a x, ((![v951, v347] : Fin 2 → IVec S16 32) a x).toNat < S64x128.size a := fun v347 v951 k0_hw376 => k0_hw376

def k0_chk377 (v347 : IVec S16 32) (v962 : IVec S16 32) : Prop :=
  (∀ a x, ((![v347, v962] : Fin 2 → IVec S16 32) a x).toNat < S128x128.size a)
theorem k0_idx377_inb : ∀ (v347 : IVec S16 32) (v962 : IVec S16 32) (k0_hw377 : k0_chk377 v347 v962), ∀ a x, ((![v347, v962] : Fin 2 → IVec S16 32) a x).toNat < S128x128.size a := fun v347 v962 k0_hw377 => k0_hw377

def k0_chk378 (v347 : IVec S16 32) (v961 : IVec S16 32) : Prop :=
  (∀ a x, ((![v961, v347] : Fin 2 → IVec S16 32) a x).toNat < S64x128.size a)
theorem k0_idx378_inb : ∀ (v347 : IVec S16 32) (v961 : IVec S16 32) (k0_hw378 : k0_chk378 v347 v961), ∀ a x, ((![v961, v347] : Fin 2 → IVec S16 32) a x).toNat < S64x128.size a := fun v347 v961 k0_hw378 => k0_hw378

def k0_chk379 (v347 : IVec S16 32) (v972 : IVec S16 32) : Prop :=
  (∀ a x, ((![v347, v972] : Fin 2 → IVec S16 32) a x).toNat < S128x128.size a)
theorem k0_idx379_inb : ∀ (v347 : IVec S16 32) (v972 : IVec S16 32) (k0_hw379 : k0_chk379 v347 v972), ∀ a x, ((![v347, v972] : Fin 2 → IVec S16 32) a x).toNat < S128x128.size a := fun v347 v972 k0_hw379 => k0_hw379

def k0_chk380 (v347 : IVec S16 32) (v971 : IVec S16 32) : Prop :=
  (∀ a x, ((![v971, v347] : Fin 2 → IVec S16 32) a x).toNat < S64x128.size a)
theorem k0_idx380_inb : ∀ (v347 : IVec S16 32) (v971 : IVec S16 32) (k0_hw380 : k0_chk380 v347 v971), ∀ a x, ((![v971, v347] : Fin 2 → IVec S16 32) a x).toNat < S64x128.size a := fun v347 v971 k0_hw380 => k0_hw380

def k0_chk381 (v347 : IVec S16 32) (v982 : IVec S16 32) : Prop :=
  (∀ a x, ((![v347, v982] : Fin 2 → IVec S16 32) a x).toNat < S128x128.size a)
theorem k0_idx381_inb : ∀ (v347 : IVec S16 32) (v982 : IVec S16 32) (k0_hw381 : k0_chk381 v347 v982), ∀ a x, ((![v347, v982] : Fin 2 → IVec S16 32) a x).toNat < S128x128.size a := fun v347 v982 k0_hw381 => k0_hw381

def k0_chk382 (v347 : IVec S16 32) (v981 : IVec S16 32) : Prop :=
  (∀ a x, ((![v981, v347] : Fin 2 → IVec S16 32) a x).toNat < S64x128.size a)
theorem k0_idx382_inb : ∀ (v347 : IVec S16 32) (v981 : IVec S16 32) (k0_hw382 : k0_chk382 v347 v981), ∀ a x, ((![v981, v347] : Fin 2 → IVec S16 32) a x).toNat < S64x128.size a := fun v347 v981 k0_hw382 => k0_hw382

def k0_chk383 (v347 : IVec S16 32) (v992 : IVec S16 32) : Prop :=
  (∀ a x, ((![v347, v992] : Fin 2 → IVec S16 32) a x).toNat < S128x128.size a)
theorem k0_idx383_inb : ∀ (v347 : IVec S16 32) (v992 : IVec S16 32) (k0_hw383 : k0_chk383 v347 v992), ∀ a x, ((![v347, v992] : Fin 2 → IVec S16 32) a x).toNat < S128x128.size a := fun v347 v992 k0_hw383 => k0_hw383

def k0_chk384 (v347 : IVec S16 32) (v991 : IVec S16 32) : Prop :=
  (∀ a x, ((![v991, v347] : Fin 2 → IVec S16 32) a x).toNat < S64x128.size a)
theorem k0_idx384_inb : ∀ (v347 : IVec S16 32) (v991 : IVec S16 32) (k0_hw384 : k0_chk384 v347 v991), ∀ a x, ((![v991, v347] : Fin 2 → IVec S16 32) a x).toNat < S64x128.size a := fun v347 v991 k0_hw384 => k0_hw384
def k0_cond6 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c49_i32_197 : BitVec 32 := 49#32
  let v322 : BitVec 1 := Scalar.cmpi .slt arg26 c49_i32_197
  let v323 : BitVec 32 := Scalar.extui v322
  let c0_i32_198 : BitVec 32 := 0#32
  let v324 : BitVec 1 := Scalar.cmpi .ne v323 c0_i32_198
  v324

def k0_off18 (k0_t1 : Fin k0_t1_loop.trips) (c0_i32_220 : BitVec 32) : Fin 2 → Nat :=
  let c0_i32_136 : BitVec 32 := 0#32
  let c1_i32_137 : BitVec 32 := 1#32
  let arg26 : BitVec 32 := Scf.iv c0_i32_136 c1_i32_137 k0_t1
  let c4_i32_186 : BitVec 32 := 4#32
  let v315 : BitVec 32 := Scalar.muli arg26 c4_i32_186
  let c2_i32_187 : BitVec 32 := 2#32
  let v316 : BitVec 32 := Scalar.addi v315 c2_i32_187
  let c4_i32_218 : BitVec 32 := 4#32
  let v345 : BitVec 32 := Scalar.addi v316 c4_i32_218
  let v347 : Index := Scalar.indexCast v345
  let c16_i32_221 : BitVec 32 := 16#32
  let v346 : BitVec 32 := Scalar.muli c16_i32_221 c0_i32_220
  let v348 : Index := Scalar.indexCast v346
  ![v347.toNat, v348.toNat]
def k0_off19 (c0_i32_220 : BitVec 32) : Fin 1 → Nat :=
  let c16_i32_221 : BitVec 32 := 16#32
  let v346 : BitVec 32 := Scalar.muli c16_i32_221 c0_i32_220
  let v352 : Index := Scalar.indexCast v346
  ![v352.toNat]
def k0_cond7 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c0_i32_206 : BitVec 32 := 0#32
  let v333 : BitVec 1 := Scalar.cmpi .sgt arg26 c0_i32_206
  let v334 : BitVec 32 := Scalar.extui v333
  let c0_i32_207 : BitVec 32 := 0#32
  let v335 : BitVec 1 := Scalar.cmpi .ne v334 c0_i32_207
  v335

def k0_off20 (i : grid0.Coords) : Fin 3 → Nat :=
  let c0_i32_219 : BitVec 32 := 0#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_218 : BitVec 32 := 128#32
  let v345 : BitVec 32 := Scalar.muli v1 c128_i32_218
  ![0, 0, v345.toNat]
@[reducible] def k0_t5_loop : Scf.Loop 32 :=
  let c0_i32_209 : BitVec 32 := 0#32
  let c8_i32_210 : BitVec 32 := 8#32
  let v336 : BitVec 32 := Scalar.addi c0_i32_209 c8_i32_210
  let c1_i32_211 : BitVec 32 := 1#32
  ⟨c0_i32_209, v336, c1_i32_211⟩
def k0_off21 (k0_t1 : Fin k0_t1_loop.trips) (k0_t5 : Fin k0_t5_loop.trips) : Fin 2 → Nat :=
  let c0_i32_136 : BitVec 32 := 0#32
  let c1_i32_137 : BitVec 32 := 1#32
  let arg26 : BitVec 32 := Scf.iv c0_i32_136 c1_i32_137 k0_t1
  let c4_i32_202 : BitVec 32 := 4#32
  let v330 : BitVec 32 := Scalar.muli arg26 c4_i32_202
  let c3_i32_203 : BitVec 32 := 3#32
  let v331 : BitVec 32 := Scalar.addi v330 c3_i32_203
  let v349 : Index := Scalar.indexCast v331
  let c0_i32_209 : BitVec 32 := 0#32
  let c1_i32_211 : BitVec 32 := 1#32
  let arg27 : BitVec 32 := Scf.iv c0_i32_209 c1_i32_211 k0_t5
  let c16_i32_219 : BitVec 32 := 16#32
  let v348 : BitVec 32 := Scalar.muli arg27 c16_i32_219
  let v350 : Index := Scalar.indexCast v348
  ![v349.toNat, v350.toNat]

def k0_chk385 (v347 : IVec S16 32) (v362 : IVec S16 32) : Prop :=
  (∀ a x, ((![v347, v362] : Fin 2 → IVec S16 32) a x).toNat < S128x128.size a)
theorem k0_idx385_inb : ∀ (v347 : IVec S16 32) (v362 : IVec S16 32) (k0_hw385 : k0_chk385 v347 v362), ∀ a x, ((![v347, v362] : Fin 2 → IVec S16 32) a x).toNat < S128x128.size a := fun v347 v362 k0_hw385 => k0_hw385

def k0_chk386 (v347 : IVec S16 32) (v361 : IVec S16 32) : Prop :=
  (∀ a x, ((![v361, v347] : Fin 2 → IVec S16 32) a x).toNat < S64x128.size a)
theorem k0_idx386_inb : ∀ (v347 : IVec S16 32) (v361 : IVec S16 32) (k0_hw386 : k0_chk386 v347 v361), ∀ a x, ((![v361, v347] : Fin 2 → IVec S16 32) a x).toNat < S64x128.size a := fun v347 v361 k0_hw386 => k0_hw386

def k0_chk387 (v347 : IVec S16 32) (v372 : IVec S16 32) : Prop :=
  (∀ a x, ((![v347, v372] : Fin 2 → IVec S16 32) a x).toNat < S128x128.size a)
theorem k0_idx387_inb : ∀ (v347 : IVec S16 32) (v372 : IVec S16 32) (k0_hw387 : k0_chk387 v347 v372), ∀ a x, ((![v347, v372] : Fin 2 → IVec S16 32) a x).toNat < S128x128.size a := fun v347 v372 k0_hw387 => k0_hw387

def k0_chk388 (v347 : IVec S16 32) (v371 : IVec S16 32) : Prop :=
  (∀ a x, ((![v371, v347] : Fin 2 → IVec S16 32) a x).toNat < S64x128.size a)
theorem k0_idx388_inb : ∀ (v347 : IVec S16 32) (v371 : IVec S16 32) (k0_hw388 : k0_chk388 v347 v371), ∀ a x, ((![v371, v347] : Fin 2 → IVec S16 32) a x).toNat < S64x128.size a := fun v347 v371 k0_hw388 => k0_hw388

def k0_chk389 (v347 : IVec S16 32) (v382 : IVec S16 32) : Prop :=
  (∀ a x, ((![v347, v382] : Fin 2 → IVec S16 32) a x).toNat < S128x128.size a)
theorem k0_idx389_inb : ∀ (v347 : IVec S16 32) (v382 : IVec S16 32) (k0_hw389 : k0_chk389 v347 v382), ∀ a x, ((![v347, v382] : Fin 2 → IVec S16 32) a x).toNat < S128x128.size a := fun v347 v382 k0_hw389 => k0_hw389

def k0_chk390 (v347 : IVec S16 32) (v381 : IVec S16 32) : Prop :=
  (∀ a x, ((![v381, v347] : Fin 2 → IVec S16 32) a x).toNat < S64x128.size a)
theorem k0_idx390_inb : ∀ (v347 : IVec S16 32) (v381 : IVec S16 32) (k0_hw390 : k0_chk390 v347 v381), ∀ a x, ((![v381, v347] : Fin 2 → IVec S16 32) a x).toNat < S64x128.size a := fun v347 v381 k0_hw390 => k0_hw390

def k0_chk391 (v347 : IVec S16 32) (v392 : IVec S16 32) : Prop :=
  (∀ a x, ((![v347, v392] : Fin 2 → IVec S16 32) a x).toNat < S128x128.size a)
theorem k0_idx391_inb : ∀ (v347 : IVec S16 32) (v392 : IVec S16 32) (k0_hw391 : k0_chk391 v347 v392), ∀ a x, ((![v347, v392] : Fin 2 → IVec S16 32) a x).toNat < S128x128.size a := fun v347 v392 k0_hw391 => k0_hw391

def k0_chk392 (v347 : IVec S16 32) (v391 : IVec S16 32) : Prop :=
  (∀ a x, ((![v391, v347] : Fin 2 → IVec S16 32) a x).toNat < S64x128.size a)
theorem k0_idx392_inb : ∀ (v347 : IVec S16 32) (v391 : IVec S16 32) (k0_hw392 : k0_chk392 v347 v391), ∀ a x, ((![v391, v347] : Fin 2 → IVec S16 32) a x).toNat < S64x128.size a := fun v347 v391 k0_hw392 => k0_hw392

def k0_chk393 (v347 : IVec S16 32) (v402 : IVec S16 32) : Prop :=
  (∀ a x, ((![v347, v402] : Fin 2 → IVec S16 32) a x).toNat < S128x128.size a)
theorem k0_idx393_inb : ∀ (v347 : IVec S16 32) (v402 : IVec S16 32) (k0_hw393 : k0_chk393 v347 v402), ∀ a x, ((![v347, v402] : Fin 2 → IVec S16 32) a x).toNat < S128x128.size a := fun v347 v402 k0_hw393 => k0_hw393

def k0_chk394 (v347 : IVec S16 32) (v401 : IVec S16 32) : Prop :=
  (∀ a x, ((![v401, v347] : Fin 2 → IVec S16 32) a x).toNat < S64x128.size a)
theorem k0_idx394_inb : ∀ (v347 : IVec S16 32) (v401 : IVec S16 32) (k0_hw394 : k0_chk394 v347 v401), ∀ a x, ((![v401, v347] : Fin 2 → IVec S16 32) a x).toNat < S64x128.size a := fun v347 v401 k0_hw394 => k0_hw394

def k0_chk395 (v347 : IVec S16 32) (v412 : IVec S16 32) : Prop :=
  (∀ a x, ((![v347, v412] : Fin 2 → IVec S16 32) a x).toNat < S128x128.size a)
theorem k0_idx395_inb : ∀ (v347 : IVec S16 32) (v412 : IVec S16 32) (k0_hw395 : k0_chk395 v347 v412), ∀ a x, ((![v347, v412] : Fin 2 → IVec S16 32) a x).toNat < S128x128.size a := fun v347 v412 k0_hw395 => k0_hw395

def k0_chk396 (v347 : IVec S16 32) (v411 : IVec S16 32) : Prop :=
  (∀ a x, ((![v411, v347] : Fin 2 → IVec S16 32) a x).toNat < S64x128.size a)
theorem k0_idx396_inb : ∀ (v347 : IVec S16 32) (v411 : IVec S16 32) (k0_hw396 : k0_chk396 v347 v411), ∀ a x, ((![v411, v347] : Fin 2 → IVec S16 32) a x).toNat < S64x128.size a := fun v347 v411 k0_hw396 => k0_hw396

def k0_chk397 (v347 : IVec S16 32) (v422 : IVec S16 32) : Prop :=
  (∀ a x, ((![v347, v422] : Fin 2 → IVec S16 32) a x).toNat < S128x128.size a)
theorem k0_idx397_inb : ∀ (v347 : IVec S16 32) (v422 : IVec S16 32) (k0_hw397 : k0_chk397 v347 v422), ∀ a x, ((![v347, v422] : Fin 2 → IVec S16 32) a x).toNat < S128x128.size a := fun v347 v422 k0_hw397 => k0_hw397

def k0_chk398 (v347 : IVec S16 32) (v421 : IVec S16 32) : Prop :=
  (∀ a x, ((![v421, v347] : Fin 2 → IVec S16 32) a x).toNat < S64x128.size a)
theorem k0_idx398_inb : ∀ (v347 : IVec S16 32) (v421 : IVec S16 32) (k0_hw398 : k0_chk398 v347 v421), ∀ a x, ((![v421, v347] : Fin 2 → IVec S16 32) a x).toNat < S64x128.size a := fun v347 v421 k0_hw398 => k0_hw398

def k0_chk399 (v347 : IVec S16 32) (v432 : IVec S16 32) : Prop :=
  (∀ a x, ((![v347, v432] : Fin 2 → IVec S16 32) a x).toNat < S128x128.size a)
theorem k0_idx399_inb : ∀ (v347 : IVec S16 32) (v432 : IVec S16 32) (k0_hw399 : k0_chk399 v347 v432), ∀ a x, ((![v347, v432] : Fin 2 → IVec S16 32) a x).toNat < S128x128.size a := fun v347 v432 k0_hw399 => k0_hw399

def k0_chk400 (v347 : IVec S16 32) (v431 : IVec S16 32) : Prop :=
  (∀ a x, ((![v431, v347] : Fin 2 → IVec S16 32) a x).toNat < S64x128.size a)
theorem k0_idx400_inb : ∀ (v347 : IVec S16 32) (v431 : IVec S16 32) (k0_hw400 : k0_chk400 v347 v431), ∀ a x, ((![v431, v347] : Fin 2 → IVec S16 32) a x).toNat < S64x128.size a := fun v347 v431 k0_hw400 => k0_hw400

def k0_chk401 (v347 : IVec S16 32) (v442 : IVec S16 32) : Prop :=
  (∀ a x, ((![v347, v442] : Fin 2 → IVec S16 32) a x).toNat < S128x128.size a)
theorem k0_idx401_inb : ∀ (v347 : IVec S16 32) (v442 : IVec S16 32) (k0_hw401 : k0_chk401 v347 v442), ∀ a x, ((![v347, v442] : Fin 2 → IVec S16 32) a x).toNat < S128x128.size a := fun v347 v442 k0_hw401 => k0_hw401

def k0_chk402 (v347 : IVec S16 32) (v441 : IVec S16 32) : Prop :=
  (∀ a x, ((![v441, v347] : Fin 2 → IVec S16 32) a x).toNat < S64x128.size a)
theorem k0_idx402_inb : ∀ (v347 : IVec S16 32) (v441 : IVec S16 32) (k0_hw402 : k0_chk402 v347 v441), ∀ a x, ((![v441, v347] : Fin 2 → IVec S16 32) a x).toNat < S64x128.size a := fun v347 v441 k0_hw402 => k0_hw402

def k0_chk403 (v347 : IVec S16 32) (v452 : IVec S16 32) : Prop :=
  (∀ a x, ((![v347, v452] : Fin 2 → IVec S16 32) a x).toNat < S128x128.size a)
theorem k0_idx403_inb : ∀ (v347 : IVec S16 32) (v452 : IVec S16 32) (k0_hw403 : k0_chk403 v347 v452), ∀ a x, ((![v347, v452] : Fin 2 → IVec S16 32) a x).toNat < S128x128.size a := fun v347 v452 k0_hw403 => k0_hw403

def k0_chk404 (v347 : IVec S16 32) (v451 : IVec S16 32) : Prop :=
  (∀ a x, ((![v451, v347] : Fin 2 → IVec S16 32) a x).toNat < S64x128.size a)
theorem k0_idx404_inb : ∀ (v347 : IVec S16 32) (v451 : IVec S16 32) (k0_hw404 : k0_chk404 v347 v451), ∀ a x, ((![v451, v347] : Fin 2 → IVec S16 32) a x).toNat < S64x128.size a := fun v347 v451 k0_hw404 => k0_hw404

def k0_chk405 (v347 : IVec S16 32) (v462 : IVec S16 32) : Prop :=
  (∀ a x, ((![v347, v462] : Fin 2 → IVec S16 32) a x).toNat < S128x128.size a)
theorem k0_idx405_inb : ∀ (v347 : IVec S16 32) (v462 : IVec S16 32) (k0_hw405 : k0_chk405 v347 v462), ∀ a x, ((![v347, v462] : Fin 2 → IVec S16 32) a x).toNat < S128x128.size a := fun v347 v462 k0_hw405 => k0_hw405

def k0_chk406 (v347 : IVec S16 32) (v461 : IVec S16 32) : Prop :=
  (∀ a x, ((![v461, v347] : Fin 2 → IVec S16 32) a x).toNat < S64x128.size a)
theorem k0_idx406_inb : ∀ (v347 : IVec S16 32) (v461 : IVec S16 32) (k0_hw406 : k0_chk406 v347 v461), ∀ a x, ((![v461, v347] : Fin 2 → IVec S16 32) a x).toNat < S64x128.size a := fun v347 v461 k0_hw406 => k0_hw406

def k0_chk407 (v347 : IVec S16 32) (v472 : IVec S16 32) : Prop :=
  (∀ a x, ((![v347, v472] : Fin 2 → IVec S16 32) a x).toNat < S128x128.size a)
theorem k0_idx407_inb : ∀ (v347 : IVec S16 32) (v472 : IVec S16 32) (k0_hw407 : k0_chk407 v347 v472), ∀ a x, ((![v347, v472] : Fin 2 → IVec S16 32) a x).toNat < S128x128.size a := fun v347 v472 k0_hw407 => k0_hw407

def k0_chk408 (v347 : IVec S16 32) (v471 : IVec S16 32) : Prop :=
  (∀ a x, ((![v471, v347] : Fin 2 → IVec S16 32) a x).toNat < S64x128.size a)
theorem k0_idx408_inb : ∀ (v347 : IVec S16 32) (v471 : IVec S16 32) (k0_hw408 : k0_chk408 v347 v471), ∀ a x, ((![v471, v347] : Fin 2 → IVec S16 32) a x).toNat < S64x128.size a := fun v347 v471 k0_hw408 => k0_hw408

def k0_chk409 (v347 : IVec S16 32) (v482 : IVec S16 32) : Prop :=
  (∀ a x, ((![v347, v482] : Fin 2 → IVec S16 32) a x).toNat < S128x128.size a)
theorem k0_idx409_inb : ∀ (v347 : IVec S16 32) (v482 : IVec S16 32) (k0_hw409 : k0_chk409 v347 v482), ∀ a x, ((![v347, v482] : Fin 2 → IVec S16 32) a x).toNat < S128x128.size a := fun v347 v482 k0_hw409 => k0_hw409

def k0_chk410 (v347 : IVec S16 32) (v481 : IVec S16 32) : Prop :=
  (∀ a x, ((![v481, v347] : Fin 2 → IVec S16 32) a x).toNat < S64x128.size a)
theorem k0_idx410_inb : ∀ (v347 : IVec S16 32) (v481 : IVec S16 32) (k0_hw410 : k0_chk410 v347 v481), ∀ a x, ((![v481, v347] : Fin 2 → IVec S16 32) a x).toNat < S64x128.size a := fun v347 v481 k0_hw410 => k0_hw410

def k0_chk411 (v347 : IVec S16 32) (v492 : IVec S16 32) : Prop :=
  (∀ a x, ((![v347, v492] : Fin 2 → IVec S16 32) a x).toNat < S128x128.size a)
theorem k0_idx411_inb : ∀ (v347 : IVec S16 32) (v492 : IVec S16 32) (k0_hw411 : k0_chk411 v347 v492), ∀ a x, ((![v347, v492] : Fin 2 → IVec S16 32) a x).toNat < S128x128.size a := fun v347 v492 k0_hw411 => k0_hw411

def k0_chk412 (v347 : IVec S16 32) (v491 : IVec S16 32) : Prop :=
  (∀ a x, ((![v491, v347] : Fin 2 → IVec S16 32) a x).toNat < S64x128.size a)
theorem k0_idx412_inb : ∀ (v347 : IVec S16 32) (v491 : IVec S16 32) (k0_hw412 : k0_chk412 v347 v491), ∀ a x, ((![v491, v347] : Fin 2 → IVec S16 32) a x).toNat < S64x128.size a := fun v347 v491 k0_hw412 => k0_hw412

def k0_chk413 (v347 : IVec S16 32) (v502 : IVec S16 32) : Prop :=
  (∀ a x, ((![v347, v502] : Fin 2 → IVec S16 32) a x).toNat < S128x128.size a)
theorem k0_idx413_inb : ∀ (v347 : IVec S16 32) (v502 : IVec S16 32) (k0_hw413 : k0_chk413 v347 v502), ∀ a x, ((![v347, v502] : Fin 2 → IVec S16 32) a x).toNat < S128x128.size a := fun v347 v502 k0_hw413 => k0_hw413

def k0_chk414 (v347 : IVec S16 32) (v501 : IVec S16 32) : Prop :=
  (∀ a x, ((![v501, v347] : Fin 2 → IVec S16 32) a x).toNat < S64x128.size a)
theorem k0_idx414_inb : ∀ (v347 : IVec S16 32) (v501 : IVec S16 32) (k0_hw414 : k0_chk414 v347 v501), ∀ a x, ((![v501, v347] : Fin 2 → IVec S16 32) a x).toNat < S64x128.size a := fun v347 v501 k0_hw414 => k0_hw414

def k0_chk415 (v347 : IVec S16 32) (v512 : IVec S16 32) : Prop :=
  (∀ a x, ((![v347, v512] : Fin 2 → IVec S16 32) a x).toNat < S128x128.size a)
theorem k0_idx415_inb : ∀ (v347 : IVec S16 32) (v512 : IVec S16 32) (k0_hw415 : k0_chk415 v347 v512), ∀ a x, ((![v347, v512] : Fin 2 → IVec S16 32) a x).toNat < S128x128.size a := fun v347 v512 k0_hw415 => k0_hw415

def k0_chk416 (v347 : IVec S16 32) (v511 : IVec S16 32) : Prop :=
  (∀ a x, ((![v511, v347] : Fin 2 → IVec S16 32) a x).toNat < S64x128.size a)
theorem k0_idx416_inb : ∀ (v347 : IVec S16 32) (v511 : IVec S16 32) (k0_hw416 : k0_chk416 v347 v511), ∀ a x, ((![v511, v347] : Fin 2 → IVec S16 32) a x).toNat < S64x128.size a := fun v347 v511 k0_hw416 => k0_hw416

def k0_chk417 (v347 : IVec S16 32) (v522 : IVec S16 32) : Prop :=
  (∀ a x, ((![v347, v522] : Fin 2 → IVec S16 32) a x).toNat < S128x128.size a)
theorem k0_idx417_inb : ∀ (v347 : IVec S16 32) (v522 : IVec S16 32) (k0_hw417 : k0_chk417 v347 v522), ∀ a x, ((![v347, v522] : Fin 2 → IVec S16 32) a x).toNat < S128x128.size a := fun v347 v522 k0_hw417 => k0_hw417

def k0_chk418 (v347 : IVec S16 32) (v521 : IVec S16 32) : Prop :=
  (∀ a x, ((![v521, v347] : Fin 2 → IVec S16 32) a x).toNat < S64x128.size a)
theorem k0_idx418_inb : ∀ (v347 : IVec S16 32) (v521 : IVec S16 32) (k0_hw418 : k0_chk418 v347 v521), ∀ a x, ((![v521, v347] : Fin 2 → IVec S16 32) a x).toNat < S64x128.size a := fun v347 v521 k0_hw418 => k0_hw418

def k0_chk419 (v347 : IVec S16 32) (v532 : IVec S16 32) : Prop :=
  (∀ a x, ((![v347, v532] : Fin 2 → IVec S16 32) a x).toNat < S128x128.size a)
theorem k0_idx419_inb : ∀ (v347 : IVec S16 32) (v532 : IVec S16 32) (k0_hw419 : k0_chk419 v347 v532), ∀ a x, ((![v347, v532] : Fin 2 → IVec S16 32) a x).toNat < S128x128.size a := fun v347 v532 k0_hw419 => k0_hw419

def k0_chk420 (v347 : IVec S16 32) (v531 : IVec S16 32) : Prop :=
  (∀ a x, ((![v531, v347] : Fin 2 → IVec S16 32) a x).toNat < S64x128.size a)
theorem k0_idx420_inb : ∀ (v347 : IVec S16 32) (v531 : IVec S16 32) (k0_hw420 : k0_chk420 v347 v531), ∀ a x, ((![v531, v347] : Fin 2 → IVec S16 32) a x).toNat < S64x128.size a := fun v347 v531 k0_hw420 => k0_hw420

def k0_chk421 (v347 : IVec S16 32) (v542 : IVec S16 32) : Prop :=
  (∀ a x, ((![v347, v542] : Fin 2 → IVec S16 32) a x).toNat < S128x128.size a)
theorem k0_idx421_inb : ∀ (v347 : IVec S16 32) (v542 : IVec S16 32) (k0_hw421 : k0_chk421 v347 v542), ∀ a x, ((![v347, v542] : Fin 2 → IVec S16 32) a x).toNat < S128x128.size a := fun v347 v542 k0_hw421 => k0_hw421

def k0_chk422 (v347 : IVec S16 32) (v541 : IVec S16 32) : Prop :=
  (∀ a x, ((![v541, v347] : Fin 2 → IVec S16 32) a x).toNat < S64x128.size a)
theorem k0_idx422_inb : ∀ (v347 : IVec S16 32) (v541 : IVec S16 32) (k0_hw422 : k0_chk422 v347 v541), ∀ a x, ((![v541, v347] : Fin 2 → IVec S16 32) a x).toNat < S64x128.size a := fun v347 v541 k0_hw422 => k0_hw422

def k0_chk423 (v347 : IVec S16 32) (v552 : IVec S16 32) : Prop :=
  (∀ a x, ((![v347, v552] : Fin 2 → IVec S16 32) a x).toNat < S128x128.size a)
theorem k0_idx423_inb : ∀ (v347 : IVec S16 32) (v552 : IVec S16 32) (k0_hw423 : k0_chk423 v347 v552), ∀ a x, ((![v347, v552] : Fin 2 → IVec S16 32) a x).toNat < S128x128.size a := fun v347 v552 k0_hw423 => k0_hw423

def k0_chk424 (v347 : IVec S16 32) (v551 : IVec S16 32) : Prop :=
  (∀ a x, ((![v551, v347] : Fin 2 → IVec S16 32) a x).toNat < S64x128.size a)
theorem k0_idx424_inb : ∀ (v347 : IVec S16 32) (v551 : IVec S16 32) (k0_hw424 : k0_chk424 v347 v551), ∀ a x, ((![v551, v347] : Fin 2 → IVec S16 32) a x).toNat < S64x128.size a := fun v347 v551 k0_hw424 => k0_hw424

def k0_chk425 (v347 : IVec S16 32) (v562 : IVec S16 32) : Prop :=
  (∀ a x, ((![v347, v562] : Fin 2 → IVec S16 32) a x).toNat < S128x128.size a)
theorem k0_idx425_inb : ∀ (v347 : IVec S16 32) (v562 : IVec S16 32) (k0_hw425 : k0_chk425 v347 v562), ∀ a x, ((![v347, v562] : Fin 2 → IVec S16 32) a x).toNat < S128x128.size a := fun v347 v562 k0_hw425 => k0_hw425

def k0_chk426 (v347 : IVec S16 32) (v561 : IVec S16 32) : Prop :=
  (∀ a x, ((![v561, v347] : Fin 2 → IVec S16 32) a x).toNat < S64x128.size a)
theorem k0_idx426_inb : ∀ (v347 : IVec S16 32) (v561 : IVec S16 32) (k0_hw426 : k0_chk426 v347 v561), ∀ a x, ((![v561, v347] : Fin 2 → IVec S16 32) a x).toNat < S64x128.size a := fun v347 v561 k0_hw426 => k0_hw426

def k0_chk427 (v347 : IVec S16 32) (v572 : IVec S16 32) : Prop :=
  (∀ a x, ((![v347, v572] : Fin 2 → IVec S16 32) a x).toNat < S128x128.size a)
theorem k0_idx427_inb : ∀ (v347 : IVec S16 32) (v572 : IVec S16 32) (k0_hw427 : k0_chk427 v347 v572), ∀ a x, ((![v347, v572] : Fin 2 → IVec S16 32) a x).toNat < S128x128.size a := fun v347 v572 k0_hw427 => k0_hw427

def k0_chk428 (v347 : IVec S16 32) (v571 : IVec S16 32) : Prop :=
  (∀ a x, ((![v571, v347] : Fin 2 → IVec S16 32) a x).toNat < S64x128.size a)
theorem k0_idx428_inb : ∀ (v347 : IVec S16 32) (v571 : IVec S16 32) (k0_hw428 : k0_chk428 v347 v571), ∀ a x, ((![v571, v347] : Fin 2 → IVec S16 32) a x).toNat < S64x128.size a := fun v347 v571 k0_hw428 => k0_hw428

def k0_chk429 (v347 : IVec S16 32) (v582 : IVec S16 32) : Prop :=
  (∀ a x, ((![v347, v582] : Fin 2 → IVec S16 32) a x).toNat < S128x128.size a)
theorem k0_idx429_inb : ∀ (v347 : IVec S16 32) (v582 : IVec S16 32) (k0_hw429 : k0_chk429 v347 v582), ∀ a x, ((![v347, v582] : Fin 2 → IVec S16 32) a x).toNat < S128x128.size a := fun v347 v582 k0_hw429 => k0_hw429

def k0_chk430 (v347 : IVec S16 32) (v581 : IVec S16 32) : Prop :=
  (∀ a x, ((![v581, v347] : Fin 2 → IVec S16 32) a x).toNat < S64x128.size a)
theorem k0_idx430_inb : ∀ (v347 : IVec S16 32) (v581 : IVec S16 32) (k0_hw430 : k0_chk430 v347 v581), ∀ a x, ((![v581, v347] : Fin 2 → IVec S16 32) a x).toNat < S64x128.size a := fun v347 v581 k0_hw430 => k0_hw430

def k0_chk431 (v347 : IVec S16 32) (v592 : IVec S16 32) : Prop :=
  (∀ a x, ((![v347, v592] : Fin 2 → IVec S16 32) a x).toNat < S128x128.size a)
theorem k0_idx431_inb : ∀ (v347 : IVec S16 32) (v592 : IVec S16 32) (k0_hw431 : k0_chk431 v347 v592), ∀ a x, ((![v347, v592] : Fin 2 → IVec S16 32) a x).toNat < S128x128.size a := fun v347 v592 k0_hw431 => k0_hw431

def k0_chk432 (v347 : IVec S16 32) (v591 : IVec S16 32) : Prop :=
  (∀ a x, ((![v591, v347] : Fin 2 → IVec S16 32) a x).toNat < S64x128.size a)
theorem k0_idx432_inb : ∀ (v347 : IVec S16 32) (v591 : IVec S16 32) (k0_hw432 : k0_chk432 v347 v591), ∀ a x, ((![v591, v347] : Fin 2 → IVec S16 32) a x).toNat < S64x128.size a := fun v347 v591 k0_hw432 => k0_hw432

def k0_chk433 (v347 : IVec S16 32) (v602 : IVec S16 32) : Prop :=
  (∀ a x, ((![v347, v602] : Fin 2 → IVec S16 32) a x).toNat < S128x128.size a)
theorem k0_idx433_inb : ∀ (v347 : IVec S16 32) (v602 : IVec S16 32) (k0_hw433 : k0_chk433 v347 v602), ∀ a x, ((![v347, v602] : Fin 2 → IVec S16 32) a x).toNat < S128x128.size a := fun v347 v602 k0_hw433 => k0_hw433

def k0_chk434 (v347 : IVec S16 32) (v601 : IVec S16 32) : Prop :=
  (∀ a x, ((![v601, v347] : Fin 2 → IVec S16 32) a x).toNat < S64x128.size a)
theorem k0_idx434_inb : ∀ (v347 : IVec S16 32) (v601 : IVec S16 32) (k0_hw434 : k0_chk434 v347 v601), ∀ a x, ((![v601, v347] : Fin 2 → IVec S16 32) a x).toNat < S64x128.size a := fun v347 v601 k0_hw434 => k0_hw434

def k0_chk435 (v347 : IVec S16 32) (v612 : IVec S16 32) : Prop :=
  (∀ a x, ((![v347, v612] : Fin 2 → IVec S16 32) a x).toNat < S128x128.size a)
theorem k0_idx435_inb : ∀ (v347 : IVec S16 32) (v612 : IVec S16 32) (k0_hw435 : k0_chk435 v347 v612), ∀ a x, ((![v347, v612] : Fin 2 → IVec S16 32) a x).toNat < S128x128.size a := fun v347 v612 k0_hw435 => k0_hw435

def k0_chk436 (v347 : IVec S16 32) (v611 : IVec S16 32) : Prop :=
  (∀ a x, ((![v611, v347] : Fin 2 → IVec S16 32) a x).toNat < S64x128.size a)
theorem k0_idx436_inb : ∀ (v347 : IVec S16 32) (v611 : IVec S16 32) (k0_hw436 : k0_chk436 v347 v611), ∀ a x, ((![v611, v347] : Fin 2 → IVec S16 32) a x).toNat < S64x128.size a := fun v347 v611 k0_hw436 => k0_hw436

def k0_chk437 (v347 : IVec S16 32) (v622 : IVec S16 32) : Prop :=
  (∀ a x, ((![v347, v622] : Fin 2 → IVec S16 32) a x).toNat < S128x128.size a)
theorem k0_idx437_inb : ∀ (v347 : IVec S16 32) (v622 : IVec S16 32) (k0_hw437 : k0_chk437 v347 v622), ∀ a x, ((![v347, v622] : Fin 2 → IVec S16 32) a x).toNat < S128x128.size a := fun v347 v622 k0_hw437 => k0_hw437

def k0_chk438 (v347 : IVec S16 32) (v621 : IVec S16 32) : Prop :=
  (∀ a x, ((![v621, v347] : Fin 2 → IVec S16 32) a x).toNat < S64x128.size a)
theorem k0_idx438_inb : ∀ (v347 : IVec S16 32) (v621 : IVec S16 32) (k0_hw438 : k0_chk438 v347 v621), ∀ a x, ((![v621, v347] : Fin 2 → IVec S16 32) a x).toNat < S64x128.size a := fun v347 v621 k0_hw438 => k0_hw438

def k0_chk439 (v347 : IVec S16 32) (v632 : IVec S16 32) : Prop :=
  (∀ a x, ((![v347, v632] : Fin 2 → IVec S16 32) a x).toNat < S128x128.size a)
theorem k0_idx439_inb : ∀ (v347 : IVec S16 32) (v632 : IVec S16 32) (k0_hw439 : k0_chk439 v347 v632), ∀ a x, ((![v347, v632] : Fin 2 → IVec S16 32) a x).toNat < S128x128.size a := fun v347 v632 k0_hw439 => k0_hw439

def k0_chk440 (v347 : IVec S16 32) (v631 : IVec S16 32) : Prop :=
  (∀ a x, ((![v631, v347] : Fin 2 → IVec S16 32) a x).toNat < S64x128.size a)
theorem k0_idx440_inb : ∀ (v347 : IVec S16 32) (v631 : IVec S16 32) (k0_hw440 : k0_chk440 v347 v631), ∀ a x, ((![v631, v347] : Fin 2 → IVec S16 32) a x).toNat < S64x128.size a := fun v347 v631 k0_hw440 => k0_hw440

def k0_chk441 (v347 : IVec S16 32) (v642 : IVec S16 32) : Prop :=
  (∀ a x, ((![v347, v642] : Fin 2 → IVec S16 32) a x).toNat < S128x128.size a)
theorem k0_idx441_inb : ∀ (v347 : IVec S16 32) (v642 : IVec S16 32) (k0_hw441 : k0_chk441 v347 v642), ∀ a x, ((![v347, v642] : Fin 2 → IVec S16 32) a x).toNat < S128x128.size a := fun v347 v642 k0_hw441 => k0_hw441

def k0_chk442 (v347 : IVec S16 32) (v641 : IVec S16 32) : Prop :=
  (∀ a x, ((![v641, v347] : Fin 2 → IVec S16 32) a x).toNat < S64x128.size a)
theorem k0_idx442_inb : ∀ (v347 : IVec S16 32) (v641 : IVec S16 32) (k0_hw442 : k0_chk442 v347 v641), ∀ a x, ((![v641, v347] : Fin 2 → IVec S16 32) a x).toNat < S64x128.size a := fun v347 v641 k0_hw442 => k0_hw442

def k0_chk443 (v347 : IVec S16 32) (v652 : IVec S16 32) : Prop :=
  (∀ a x, ((![v347, v652] : Fin 2 → IVec S16 32) a x).toNat < S128x128.size a)
theorem k0_idx443_inb : ∀ (v347 : IVec S16 32) (v652 : IVec S16 32) (k0_hw443 : k0_chk443 v347 v652), ∀ a x, ((![v347, v652] : Fin 2 → IVec S16 32) a x).toNat < S128x128.size a := fun v347 v652 k0_hw443 => k0_hw443

def k0_chk444 (v347 : IVec S16 32) (v651 : IVec S16 32) : Prop :=
  (∀ a x, ((![v651, v347] : Fin 2 → IVec S16 32) a x).toNat < S64x128.size a)
theorem k0_idx444_inb : ∀ (v347 : IVec S16 32) (v651 : IVec S16 32) (k0_hw444 : k0_chk444 v347 v651), ∀ a x, ((![v651, v347] : Fin 2 → IVec S16 32) a x).toNat < S64x128.size a := fun v347 v651 k0_hw444 => k0_hw444

def k0_chk445 (v347 : IVec S16 32) (v662 : IVec S16 32) : Prop :=
  (∀ a x, ((![v347, v662] : Fin 2 → IVec S16 32) a x).toNat < S128x128.size a)
theorem k0_idx445_inb : ∀ (v347 : IVec S16 32) (v662 : IVec S16 32) (k0_hw445 : k0_chk445 v347 v662), ∀ a x, ((![v347, v662] : Fin 2 → IVec S16 32) a x).toNat < S128x128.size a := fun v347 v662 k0_hw445 => k0_hw445

def k0_chk446 (v347 : IVec S16 32) (v661 : IVec S16 32) : Prop :=
  (∀ a x, ((![v661, v347] : Fin 2 → IVec S16 32) a x).toNat < S64x128.size a)
theorem k0_idx446_inb : ∀ (v347 : IVec S16 32) (v661 : IVec S16 32) (k0_hw446 : k0_chk446 v347 v661), ∀ a x, ((![v661, v347] : Fin 2 → IVec S16 32) a x).toNat < S64x128.size a := fun v347 v661 k0_hw446 => k0_hw446

def k0_chk447 (v347 : IVec S16 32) (v672 : IVec S16 32) : Prop :=
  (∀ a x, ((![v347, v672] : Fin 2 → IVec S16 32) a x).toNat < S128x128.size a)
theorem k0_idx447_inb : ∀ (v347 : IVec S16 32) (v672 : IVec S16 32) (k0_hw447 : k0_chk447 v347 v672), ∀ a x, ((![v347, v672] : Fin 2 → IVec S16 32) a x).toNat < S128x128.size a := fun v347 v672 k0_hw447 => k0_hw447

def k0_chk448 (v347 : IVec S16 32) (v671 : IVec S16 32) : Prop :=
  (∀ a x, ((![v671, v347] : Fin 2 → IVec S16 32) a x).toNat < S64x128.size a)
theorem k0_idx448_inb : ∀ (v347 : IVec S16 32) (v671 : IVec S16 32) (k0_hw448 : k0_chk448 v347 v671), ∀ a x, ((![v671, v347] : Fin 2 → IVec S16 32) a x).toNat < S64x128.size a := fun v347 v671 k0_hw448 => k0_hw448

def k0_chk449 (v347 : IVec S16 32) (v682 : IVec S16 32) : Prop :=
  (∀ a x, ((![v347, v682] : Fin 2 → IVec S16 32) a x).toNat < S128x128.size a)
theorem k0_idx449_inb : ∀ (v347 : IVec S16 32) (v682 : IVec S16 32) (k0_hw449 : k0_chk449 v347 v682), ∀ a x, ((![v347, v682] : Fin 2 → IVec S16 32) a x).toNat < S128x128.size a := fun v347 v682 k0_hw449 => k0_hw449

def k0_chk450 (v347 : IVec S16 32) (v681 : IVec S16 32) : Prop :=
  (∀ a x, ((![v681, v347] : Fin 2 → IVec S16 32) a x).toNat < S64x128.size a)
theorem k0_idx450_inb : ∀ (v347 : IVec S16 32) (v681 : IVec S16 32) (k0_hw450 : k0_chk450 v347 v681), ∀ a x, ((![v681, v347] : Fin 2 → IVec S16 32) a x).toNat < S64x128.size a := fun v347 v681 k0_hw450 => k0_hw450

def k0_chk451 (v347 : IVec S16 32) (v692 : IVec S16 32) : Prop :=
  (∀ a x, ((![v347, v692] : Fin 2 → IVec S16 32) a x).toNat < S128x128.size a)
theorem k0_idx451_inb : ∀ (v347 : IVec S16 32) (v692 : IVec S16 32) (k0_hw451 : k0_chk451 v347 v692), ∀ a x, ((![v347, v692] : Fin 2 → IVec S16 32) a x).toNat < S128x128.size a := fun v347 v692 k0_hw451 => k0_hw451

def k0_chk452 (v347 : IVec S16 32) (v691 : IVec S16 32) : Prop :=
  (∀ a x, ((![v691, v347] : Fin 2 → IVec S16 32) a x).toNat < S64x128.size a)
theorem k0_idx452_inb : ∀ (v347 : IVec S16 32) (v691 : IVec S16 32) (k0_hw452 : k0_chk452 v347 v691), ∀ a x, ((![v691, v347] : Fin 2 → IVec S16 32) a x).toNat < S64x128.size a := fun v347 v691 k0_hw452 => k0_hw452

def k0_chk453 (v347 : IVec S16 32) (v702 : IVec S16 32) : Prop :=
  (∀ a x, ((![v347, v702] : Fin 2 → IVec S16 32) a x).toNat < S128x128.size a)
theorem k0_idx453_inb : ∀ (v347 : IVec S16 32) (v702 : IVec S16 32) (k0_hw453 : k0_chk453 v347 v702), ∀ a x, ((![v347, v702] : Fin 2 → IVec S16 32) a x).toNat < S128x128.size a := fun v347 v702 k0_hw453 => k0_hw453

def k0_chk454 (v347 : IVec S16 32) (v701 : IVec S16 32) : Prop :=
  (∀ a x, ((![v701, v347] : Fin 2 → IVec S16 32) a x).toNat < S64x128.size a)
theorem k0_idx454_inb : ∀ (v347 : IVec S16 32) (v701 : IVec S16 32) (k0_hw454 : k0_chk454 v347 v701), ∀ a x, ((![v701, v347] : Fin 2 → IVec S16 32) a x).toNat < S64x128.size a := fun v347 v701 k0_hw454 => k0_hw454

def k0_chk455 (v347 : IVec S16 32) (v712 : IVec S16 32) : Prop :=
  (∀ a x, ((![v347, v712] : Fin 2 → IVec S16 32) a x).toNat < S128x128.size a)
theorem k0_idx455_inb : ∀ (v347 : IVec S16 32) (v712 : IVec S16 32) (k0_hw455 : k0_chk455 v347 v712), ∀ a x, ((![v347, v712] : Fin 2 → IVec S16 32) a x).toNat < S128x128.size a := fun v347 v712 k0_hw455 => k0_hw455

def k0_chk456 (v347 : IVec S16 32) (v711 : IVec S16 32) : Prop :=
  (∀ a x, ((![v711, v347] : Fin 2 → IVec S16 32) a x).toNat < S64x128.size a)
theorem k0_idx456_inb : ∀ (v347 : IVec S16 32) (v711 : IVec S16 32) (k0_hw456 : k0_chk456 v347 v711), ∀ a x, ((![v711, v347] : Fin 2 → IVec S16 32) a x).toNat < S64x128.size a := fun v347 v711 k0_hw456 => k0_hw456

def k0_chk457 (v347 : IVec S16 32) (v722 : IVec S16 32) : Prop :=
  (∀ a x, ((![v347, v722] : Fin 2 → IVec S16 32) a x).toNat < S128x128.size a)
theorem k0_idx457_inb : ∀ (v347 : IVec S16 32) (v722 : IVec S16 32) (k0_hw457 : k0_chk457 v347 v722), ∀ a x, ((![v347, v722] : Fin 2 → IVec S16 32) a x).toNat < S128x128.size a := fun v347 v722 k0_hw457 => k0_hw457

def k0_chk458 (v347 : IVec S16 32) (v721 : IVec S16 32) : Prop :=
  (∀ a x, ((![v721, v347] : Fin 2 → IVec S16 32) a x).toNat < S64x128.size a)
theorem k0_idx458_inb : ∀ (v347 : IVec S16 32) (v721 : IVec S16 32) (k0_hw458 : k0_chk458 v347 v721), ∀ a x, ((![v721, v347] : Fin 2 → IVec S16 32) a x).toNat < S64x128.size a := fun v347 v721 k0_hw458 => k0_hw458

def k0_chk459 (v347 : IVec S16 32) (v732 : IVec S16 32) : Prop :=
  (∀ a x, ((![v347, v732] : Fin 2 → IVec S16 32) a x).toNat < S128x128.size a)
theorem k0_idx459_inb : ∀ (v347 : IVec S16 32) (v732 : IVec S16 32) (k0_hw459 : k0_chk459 v347 v732), ∀ a x, ((![v347, v732] : Fin 2 → IVec S16 32) a x).toNat < S128x128.size a := fun v347 v732 k0_hw459 => k0_hw459

def k0_chk460 (v347 : IVec S16 32) (v731 : IVec S16 32) : Prop :=
  (∀ a x, ((![v731, v347] : Fin 2 → IVec S16 32) a x).toNat < S64x128.size a)
theorem k0_idx460_inb : ∀ (v347 : IVec S16 32) (v731 : IVec S16 32) (k0_hw460 : k0_chk460 v347 v731), ∀ a x, ((![v731, v347] : Fin 2 → IVec S16 32) a x).toNat < S64x128.size a := fun v347 v731 k0_hw460 => k0_hw460

def k0_chk461 (v347 : IVec S16 32) (v742 : IVec S16 32) : Prop :=
  (∀ a x, ((![v347, v742] : Fin 2 → IVec S16 32) a x).toNat < S128x128.size a)
theorem k0_idx461_inb : ∀ (v347 : IVec S16 32) (v742 : IVec S16 32) (k0_hw461 : k0_chk461 v347 v742), ∀ a x, ((![v347, v742] : Fin 2 → IVec S16 32) a x).toNat < S128x128.size a := fun v347 v742 k0_hw461 => k0_hw461

def k0_chk462 (v347 : IVec S16 32) (v741 : IVec S16 32) : Prop :=
  (∀ a x, ((![v741, v347] : Fin 2 → IVec S16 32) a x).toNat < S64x128.size a)
theorem k0_idx462_inb : ∀ (v347 : IVec S16 32) (v741 : IVec S16 32) (k0_hw462 : k0_chk462 v347 v741), ∀ a x, ((![v741, v347] : Fin 2 → IVec S16 32) a x).toNat < S64x128.size a := fun v347 v741 k0_hw462 => k0_hw462

def k0_chk463 (v347 : IVec S16 32) (v752 : IVec S16 32) : Prop :=
  (∀ a x, ((![v347, v752] : Fin 2 → IVec S16 32) a x).toNat < S128x128.size a)
theorem k0_idx463_inb : ∀ (v347 : IVec S16 32) (v752 : IVec S16 32) (k0_hw463 : k0_chk463 v347 v752), ∀ a x, ((![v347, v752] : Fin 2 → IVec S16 32) a x).toNat < S128x128.size a := fun v347 v752 k0_hw463 => k0_hw463

def k0_chk464 (v347 : IVec S16 32) (v751 : IVec S16 32) : Prop :=
  (∀ a x, ((![v751, v347] : Fin 2 → IVec S16 32) a x).toNat < S64x128.size a)
theorem k0_idx464_inb : ∀ (v347 : IVec S16 32) (v751 : IVec S16 32) (k0_hw464 : k0_chk464 v347 v751), ∀ a x, ((![v751, v347] : Fin 2 → IVec S16 32) a x).toNat < S64x128.size a := fun v347 v751 k0_hw464 => k0_hw464

def k0_chk465 (v347 : IVec S16 32) (v762 : IVec S16 32) : Prop :=
  (∀ a x, ((![v347, v762] : Fin 2 → IVec S16 32) a x).toNat < S128x128.size a)
theorem k0_idx465_inb : ∀ (v347 : IVec S16 32) (v762 : IVec S16 32) (k0_hw465 : k0_chk465 v347 v762), ∀ a x, ((![v347, v762] : Fin 2 → IVec S16 32) a x).toNat < S128x128.size a := fun v347 v762 k0_hw465 => k0_hw465

def k0_chk466 (v347 : IVec S16 32) (v761 : IVec S16 32) : Prop :=
  (∀ a x, ((![v761, v347] : Fin 2 → IVec S16 32) a x).toNat < S64x128.size a)
theorem k0_idx466_inb : ∀ (v347 : IVec S16 32) (v761 : IVec S16 32) (k0_hw466 : k0_chk466 v347 v761), ∀ a x, ((![v761, v347] : Fin 2 → IVec S16 32) a x).toNat < S64x128.size a := fun v347 v761 k0_hw466 => k0_hw466

def k0_chk467 (v347 : IVec S16 32) (v772 : IVec S16 32) : Prop :=
  (∀ a x, ((![v347, v772] : Fin 2 → IVec S16 32) a x).toNat < S128x128.size a)
theorem k0_idx467_inb : ∀ (v347 : IVec S16 32) (v772 : IVec S16 32) (k0_hw467 : k0_chk467 v347 v772), ∀ a x, ((![v347, v772] : Fin 2 → IVec S16 32) a x).toNat < S128x128.size a := fun v347 v772 k0_hw467 => k0_hw467

def k0_chk468 (v347 : IVec S16 32) (v771 : IVec S16 32) : Prop :=
  (∀ a x, ((![v771, v347] : Fin 2 → IVec S16 32) a x).toNat < S64x128.size a)
theorem k0_idx468_inb : ∀ (v347 : IVec S16 32) (v771 : IVec S16 32) (k0_hw468 : k0_chk468 v347 v771), ∀ a x, ((![v771, v347] : Fin 2 → IVec S16 32) a x).toNat < S64x128.size a := fun v347 v771 k0_hw468 => k0_hw468

def k0_chk469 (v347 : IVec S16 32) (v782 : IVec S16 32) : Prop :=
  (∀ a x, ((![v347, v782] : Fin 2 → IVec S16 32) a x).toNat < S128x128.size a)
theorem k0_idx469_inb : ∀ (v347 : IVec S16 32) (v782 : IVec S16 32) (k0_hw469 : k0_chk469 v347 v782), ∀ a x, ((![v347, v782] : Fin 2 → IVec S16 32) a x).toNat < S128x128.size a := fun v347 v782 k0_hw469 => k0_hw469

def k0_chk470 (v347 : IVec S16 32) (v781 : IVec S16 32) : Prop :=
  (∀ a x, ((![v781, v347] : Fin 2 → IVec S16 32) a x).toNat < S64x128.size a)
theorem k0_idx470_inb : ∀ (v347 : IVec S16 32) (v781 : IVec S16 32) (k0_hw470 : k0_chk470 v347 v781), ∀ a x, ((![v781, v347] : Fin 2 → IVec S16 32) a x).toNat < S64x128.size a := fun v347 v781 k0_hw470 => k0_hw470

def k0_chk471 (v347 : IVec S16 32) (v792 : IVec S16 32) : Prop :=
  (∀ a x, ((![v347, v792] : Fin 2 → IVec S16 32) a x).toNat < S128x128.size a)
theorem k0_idx471_inb : ∀ (v347 : IVec S16 32) (v792 : IVec S16 32) (k0_hw471 : k0_chk471 v347 v792), ∀ a x, ((![v347, v792] : Fin 2 → IVec S16 32) a x).toNat < S128x128.size a := fun v347 v792 k0_hw471 => k0_hw471

def k0_chk472 (v347 : IVec S16 32) (v791 : IVec S16 32) : Prop :=
  (∀ a x, ((![v791, v347] : Fin 2 → IVec S16 32) a x).toNat < S64x128.size a)
theorem k0_idx472_inb : ∀ (v347 : IVec S16 32) (v791 : IVec S16 32) (k0_hw472 : k0_chk472 v347 v791), ∀ a x, ((![v791, v347] : Fin 2 → IVec S16 32) a x).toNat < S64x128.size a := fun v347 v791 k0_hw472 => k0_hw472

def k0_chk473 (v347 : IVec S16 32) (v802 : IVec S16 32) : Prop :=
  (∀ a x, ((![v347, v802] : Fin 2 → IVec S16 32) a x).toNat < S128x128.size a)
theorem k0_idx473_inb : ∀ (v347 : IVec S16 32) (v802 : IVec S16 32) (k0_hw473 : k0_chk473 v347 v802), ∀ a x, ((![v347, v802] : Fin 2 → IVec S16 32) a x).toNat < S128x128.size a := fun v347 v802 k0_hw473 => k0_hw473

def k0_chk474 (v347 : IVec S16 32) (v801 : IVec S16 32) : Prop :=
  (∀ a x, ((![v801, v347] : Fin 2 → IVec S16 32) a x).toNat < S64x128.size a)
theorem k0_idx474_inb : ∀ (v347 : IVec S16 32) (v801 : IVec S16 32) (k0_hw474 : k0_chk474 v347 v801), ∀ a x, ((![v801, v347] : Fin 2 → IVec S16 32) a x).toNat < S64x128.size a := fun v347 v801 k0_hw474 => k0_hw474

def k0_chk475 (v347 : IVec S16 32) (v812 : IVec S16 32) : Prop :=
  (∀ a x, ((![v347, v812] : Fin 2 → IVec S16 32) a x).toNat < S128x128.size a)
theorem k0_idx475_inb : ∀ (v347 : IVec S16 32) (v812 : IVec S16 32) (k0_hw475 : k0_chk475 v347 v812), ∀ a x, ((![v347, v812] : Fin 2 → IVec S16 32) a x).toNat < S128x128.size a := fun v347 v812 k0_hw475 => k0_hw475

def k0_chk476 (v347 : IVec S16 32) (v811 : IVec S16 32) : Prop :=
  (∀ a x, ((![v811, v347] : Fin 2 → IVec S16 32) a x).toNat < S64x128.size a)
theorem k0_idx476_inb : ∀ (v347 : IVec S16 32) (v811 : IVec S16 32) (k0_hw476 : k0_chk476 v347 v811), ∀ a x, ((![v811, v347] : Fin 2 → IVec S16 32) a x).toNat < S64x128.size a := fun v347 v811 k0_hw476 => k0_hw476

def k0_chk477 (v347 : IVec S16 32) (v822 : IVec S16 32) : Prop :=
  (∀ a x, ((![v347, v822] : Fin 2 → IVec S16 32) a x).toNat < S128x128.size a)
theorem k0_idx477_inb : ∀ (v347 : IVec S16 32) (v822 : IVec S16 32) (k0_hw477 : k0_chk477 v347 v822), ∀ a x, ((![v347, v822] : Fin 2 → IVec S16 32) a x).toNat < S128x128.size a := fun v347 v822 k0_hw477 => k0_hw477

def k0_chk478 (v347 : IVec S16 32) (v821 : IVec S16 32) : Prop :=
  (∀ a x, ((![v821, v347] : Fin 2 → IVec S16 32) a x).toNat < S64x128.size a)
theorem k0_idx478_inb : ∀ (v347 : IVec S16 32) (v821 : IVec S16 32) (k0_hw478 : k0_chk478 v347 v821), ∀ a x, ((![v821, v347] : Fin 2 → IVec S16 32) a x).toNat < S64x128.size a := fun v347 v821 k0_hw478 => k0_hw478

def k0_chk479 (v347 : IVec S16 32) (v832 : IVec S16 32) : Prop :=
  (∀ a x, ((![v347, v832] : Fin 2 → IVec S16 32) a x).toNat < S128x128.size a)
theorem k0_idx479_inb : ∀ (v347 : IVec S16 32) (v832 : IVec S16 32) (k0_hw479 : k0_chk479 v347 v832), ∀ a x, ((![v347, v832] : Fin 2 → IVec S16 32) a x).toNat < S128x128.size a := fun v347 v832 k0_hw479 => k0_hw479

def k0_chk480 (v347 : IVec S16 32) (v831 : IVec S16 32) : Prop :=
  (∀ a x, ((![v831, v347] : Fin 2 → IVec S16 32) a x).toNat < S64x128.size a)
theorem k0_idx480_inb : ∀ (v347 : IVec S16 32) (v831 : IVec S16 32) (k0_hw480 : k0_chk480 v347 v831), ∀ a x, ((![v831, v347] : Fin 2 → IVec S16 32) a x).toNat < S64x128.size a := fun v347 v831 k0_hw480 => k0_hw480

def k0_chk481 (v347 : IVec S16 32) (v842 : IVec S16 32) : Prop :=
  (∀ a x, ((![v347, v842] : Fin 2 → IVec S16 32) a x).toNat < S128x128.size a)
theorem k0_idx481_inb : ∀ (v347 : IVec S16 32) (v842 : IVec S16 32) (k0_hw481 : k0_chk481 v347 v842), ∀ a x, ((![v347, v842] : Fin 2 → IVec S16 32) a x).toNat < S128x128.size a := fun v347 v842 k0_hw481 => k0_hw481

def k0_chk482 (v347 : IVec S16 32) (v841 : IVec S16 32) : Prop :=
  (∀ a x, ((![v841, v347] : Fin 2 → IVec S16 32) a x).toNat < S64x128.size a)
theorem k0_idx482_inb : ∀ (v347 : IVec S16 32) (v841 : IVec S16 32) (k0_hw482 : k0_chk482 v347 v841), ∀ a x, ((![v841, v347] : Fin 2 → IVec S16 32) a x).toNat < S64x128.size a := fun v347 v841 k0_hw482 => k0_hw482

def k0_chk483 (v347 : IVec S16 32) (v852 : IVec S16 32) : Prop :=
  (∀ a x, ((![v347, v852] : Fin 2 → IVec S16 32) a x).toNat < S128x128.size a)
theorem k0_idx483_inb : ∀ (v347 : IVec S16 32) (v852 : IVec S16 32) (k0_hw483 : k0_chk483 v347 v852), ∀ a x, ((![v347, v852] : Fin 2 → IVec S16 32) a x).toNat < S128x128.size a := fun v347 v852 k0_hw483 => k0_hw483

def k0_chk484 (v347 : IVec S16 32) (v851 : IVec S16 32) : Prop :=
  (∀ a x, ((![v851, v347] : Fin 2 → IVec S16 32) a x).toNat < S64x128.size a)
theorem k0_idx484_inb : ∀ (v347 : IVec S16 32) (v851 : IVec S16 32) (k0_hw484 : k0_chk484 v347 v851), ∀ a x, ((![v851, v347] : Fin 2 → IVec S16 32) a x).toNat < S64x128.size a := fun v347 v851 k0_hw484 => k0_hw484

def k0_chk485 (v347 : IVec S16 32) (v862 : IVec S16 32) : Prop :=
  (∀ a x, ((![v347, v862] : Fin 2 → IVec S16 32) a x).toNat < S128x128.size a)
theorem k0_idx485_inb : ∀ (v347 : IVec S16 32) (v862 : IVec S16 32) (k0_hw485 : k0_chk485 v347 v862), ∀ a x, ((![v347, v862] : Fin 2 → IVec S16 32) a x).toNat < S128x128.size a := fun v347 v862 k0_hw485 => k0_hw485

def k0_chk486 (v347 : IVec S16 32) (v861 : IVec S16 32) : Prop :=
  (∀ a x, ((![v861, v347] : Fin 2 → IVec S16 32) a x).toNat < S64x128.size a)
theorem k0_idx486_inb : ∀ (v347 : IVec S16 32) (v861 : IVec S16 32) (k0_hw486 : k0_chk486 v347 v861), ∀ a x, ((![v861, v347] : Fin 2 → IVec S16 32) a x).toNat < S64x128.size a := fun v347 v861 k0_hw486 => k0_hw486

def k0_chk487 (v347 : IVec S16 32) (v872 : IVec S16 32) : Prop :=
  (∀ a x, ((![v347, v872] : Fin 2 → IVec S16 32) a x).toNat < S128x128.size a)
theorem k0_idx487_inb : ∀ (v347 : IVec S16 32) (v872 : IVec S16 32) (k0_hw487 : k0_chk487 v347 v872), ∀ a x, ((![v347, v872] : Fin 2 → IVec S16 32) a x).toNat < S128x128.size a := fun v347 v872 k0_hw487 => k0_hw487

def k0_chk488 (v347 : IVec S16 32) (v871 : IVec S16 32) : Prop :=
  (∀ a x, ((![v871, v347] : Fin 2 → IVec S16 32) a x).toNat < S64x128.size a)
theorem k0_idx488_inb : ∀ (v347 : IVec S16 32) (v871 : IVec S16 32) (k0_hw488 : k0_chk488 v347 v871), ∀ a x, ((![v871, v347] : Fin 2 → IVec S16 32) a x).toNat < S64x128.size a := fun v347 v871 k0_hw488 => k0_hw488

def k0_chk489 (v347 : IVec S16 32) (v882 : IVec S16 32) : Prop :=
  (∀ a x, ((![v347, v882] : Fin 2 → IVec S16 32) a x).toNat < S128x128.size a)
theorem k0_idx489_inb : ∀ (v347 : IVec S16 32) (v882 : IVec S16 32) (k0_hw489 : k0_chk489 v347 v882), ∀ a x, ((![v347, v882] : Fin 2 → IVec S16 32) a x).toNat < S128x128.size a := fun v347 v882 k0_hw489 => k0_hw489

def k0_chk490 (v347 : IVec S16 32) (v881 : IVec S16 32) : Prop :=
  (∀ a x, ((![v881, v347] : Fin 2 → IVec S16 32) a x).toNat < S64x128.size a)
theorem k0_idx490_inb : ∀ (v347 : IVec S16 32) (v881 : IVec S16 32) (k0_hw490 : k0_chk490 v347 v881), ∀ a x, ((![v881, v347] : Fin 2 → IVec S16 32) a x).toNat < S64x128.size a := fun v347 v881 k0_hw490 => k0_hw490

def k0_chk491 (v347 : IVec S16 32) (v892 : IVec S16 32) : Prop :=
  (∀ a x, ((![v347, v892] : Fin 2 → IVec S16 32) a x).toNat < S128x128.size a)
theorem k0_idx491_inb : ∀ (v347 : IVec S16 32) (v892 : IVec S16 32) (k0_hw491 : k0_chk491 v347 v892), ∀ a x, ((![v347, v892] : Fin 2 → IVec S16 32) a x).toNat < S128x128.size a := fun v347 v892 k0_hw491 => k0_hw491

def k0_chk492 (v347 : IVec S16 32) (v891 : IVec S16 32) : Prop :=
  (∀ a x, ((![v891, v347] : Fin 2 → IVec S16 32) a x).toNat < S64x128.size a)
theorem k0_idx492_inb : ∀ (v347 : IVec S16 32) (v891 : IVec S16 32) (k0_hw492 : k0_chk492 v347 v891), ∀ a x, ((![v891, v347] : Fin 2 → IVec S16 32) a x).toNat < S64x128.size a := fun v347 v891 k0_hw492 => k0_hw492

def k0_chk493 (v347 : IVec S16 32) (v902 : IVec S16 32) : Prop :=
  (∀ a x, ((![v347, v902] : Fin 2 → IVec S16 32) a x).toNat < S128x128.size a)
theorem k0_idx493_inb : ∀ (v347 : IVec S16 32) (v902 : IVec S16 32) (k0_hw493 : k0_chk493 v347 v902), ∀ a x, ((![v347, v902] : Fin 2 → IVec S16 32) a x).toNat < S128x128.size a := fun v347 v902 k0_hw493 => k0_hw493

def k0_chk494 (v347 : IVec S16 32) (v901 : IVec S16 32) : Prop :=
  (∀ a x, ((![v901, v347] : Fin 2 → IVec S16 32) a x).toNat < S64x128.size a)
theorem k0_idx494_inb : ∀ (v347 : IVec S16 32) (v901 : IVec S16 32) (k0_hw494 : k0_chk494 v347 v901), ∀ a x, ((![v901, v347] : Fin 2 → IVec S16 32) a x).toNat < S64x128.size a := fun v347 v901 k0_hw494 => k0_hw494

def k0_chk495 (v347 : IVec S16 32) (v912 : IVec S16 32) : Prop :=
  (∀ a x, ((![v347, v912] : Fin 2 → IVec S16 32) a x).toNat < S128x128.size a)
theorem k0_idx495_inb : ∀ (v347 : IVec S16 32) (v912 : IVec S16 32) (k0_hw495 : k0_chk495 v347 v912), ∀ a x, ((![v347, v912] : Fin 2 → IVec S16 32) a x).toNat < S128x128.size a := fun v347 v912 k0_hw495 => k0_hw495

def k0_chk496 (v347 : IVec S16 32) (v911 : IVec S16 32) : Prop :=
  (∀ a x, ((![v911, v347] : Fin 2 → IVec S16 32) a x).toNat < S64x128.size a)
theorem k0_idx496_inb : ∀ (v347 : IVec S16 32) (v911 : IVec S16 32) (k0_hw496 : k0_chk496 v347 v911), ∀ a x, ((![v911, v347] : Fin 2 → IVec S16 32) a x).toNat < S64x128.size a := fun v347 v911 k0_hw496 => k0_hw496

def k0_chk497 (v347 : IVec S16 32) (v922 : IVec S16 32) : Prop :=
  (∀ a x, ((![v347, v922] : Fin 2 → IVec S16 32) a x).toNat < S128x128.size a)
theorem k0_idx497_inb : ∀ (v347 : IVec S16 32) (v922 : IVec S16 32) (k0_hw497 : k0_chk497 v347 v922), ∀ a x, ((![v347, v922] : Fin 2 → IVec S16 32) a x).toNat < S128x128.size a := fun v347 v922 k0_hw497 => k0_hw497

def k0_chk498 (v347 : IVec S16 32) (v921 : IVec S16 32) : Prop :=
  (∀ a x, ((![v921, v347] : Fin 2 → IVec S16 32) a x).toNat < S64x128.size a)
theorem k0_idx498_inb : ∀ (v347 : IVec S16 32) (v921 : IVec S16 32) (k0_hw498 : k0_chk498 v347 v921), ∀ a x, ((![v921, v347] : Fin 2 → IVec S16 32) a x).toNat < S64x128.size a := fun v347 v921 k0_hw498 => k0_hw498

def k0_chk499 (v347 : IVec S16 32) (v932 : IVec S16 32) : Prop :=
  (∀ a x, ((![v347, v932] : Fin 2 → IVec S16 32) a x).toNat < S128x128.size a)
theorem k0_idx499_inb : ∀ (v347 : IVec S16 32) (v932 : IVec S16 32) (k0_hw499 : k0_chk499 v347 v932), ∀ a x, ((![v347, v932] : Fin 2 → IVec S16 32) a x).toNat < S128x128.size a := fun v347 v932 k0_hw499 => k0_hw499

def k0_chk500 (v347 : IVec S16 32) (v931 : IVec S16 32) : Prop :=
  (∀ a x, ((![v931, v347] : Fin 2 → IVec S16 32) a x).toNat < S64x128.size a)
theorem k0_idx500_inb : ∀ (v347 : IVec S16 32) (v931 : IVec S16 32) (k0_hw500 : k0_chk500 v347 v931), ∀ a x, ((![v931, v347] : Fin 2 → IVec S16 32) a x).toNat < S64x128.size a := fun v347 v931 k0_hw500 => k0_hw500

def k0_chk501 (v347 : IVec S16 32) (v942 : IVec S16 32) : Prop :=
  (∀ a x, ((![v347, v942] : Fin 2 → IVec S16 32) a x).toNat < S128x128.size a)
theorem k0_idx501_inb : ∀ (v347 : IVec S16 32) (v942 : IVec S16 32) (k0_hw501 : k0_chk501 v347 v942), ∀ a x, ((![v347, v942] : Fin 2 → IVec S16 32) a x).toNat < S128x128.size a := fun v347 v942 k0_hw501 => k0_hw501

def k0_chk502 (v347 : IVec S16 32) (v941 : IVec S16 32) : Prop :=
  (∀ a x, ((![v941, v347] : Fin 2 → IVec S16 32) a x).toNat < S64x128.size a)
theorem k0_idx502_inb : ∀ (v347 : IVec S16 32) (v941 : IVec S16 32) (k0_hw502 : k0_chk502 v347 v941), ∀ a x, ((![v941, v347] : Fin 2 → IVec S16 32) a x).toNat < S64x128.size a := fun v347 v941 k0_hw502 => k0_hw502

def k0_chk503 (v347 : IVec S16 32) (v952 : IVec S16 32) : Prop :=
  (∀ a x, ((![v347, v952] : Fin 2 → IVec S16 32) a x).toNat < S128x128.size a)
theorem k0_idx503_inb : ∀ (v347 : IVec S16 32) (v952 : IVec S16 32) (k0_hw503 : k0_chk503 v347 v952), ∀ a x, ((![v347, v952] : Fin 2 → IVec S16 32) a x).toNat < S128x128.size a := fun v347 v952 k0_hw503 => k0_hw503

def k0_chk504 (v347 : IVec S16 32) (v951 : IVec S16 32) : Prop :=
  (∀ a x, ((![v951, v347] : Fin 2 → IVec S16 32) a x).toNat < S64x128.size a)
theorem k0_idx504_inb : ∀ (v347 : IVec S16 32) (v951 : IVec S16 32) (k0_hw504 : k0_chk504 v347 v951), ∀ a x, ((![v951, v347] : Fin 2 → IVec S16 32) a x).toNat < S64x128.size a := fun v347 v951 k0_hw504 => k0_hw504

def k0_chk505 (v347 : IVec S16 32) (v962 : IVec S16 32) : Prop :=
  (∀ a x, ((![v347, v962] : Fin 2 → IVec S16 32) a x).toNat < S128x128.size a)
theorem k0_idx505_inb : ∀ (v347 : IVec S16 32) (v962 : IVec S16 32) (k0_hw505 : k0_chk505 v347 v962), ∀ a x, ((![v347, v962] : Fin 2 → IVec S16 32) a x).toNat < S128x128.size a := fun v347 v962 k0_hw505 => k0_hw505

def k0_chk506 (v347 : IVec S16 32) (v961 : IVec S16 32) : Prop :=
  (∀ a x, ((![v961, v347] : Fin 2 → IVec S16 32) a x).toNat < S64x128.size a)
theorem k0_idx506_inb : ∀ (v347 : IVec S16 32) (v961 : IVec S16 32) (k0_hw506 : k0_chk506 v347 v961), ∀ a x, ((![v961, v347] : Fin 2 → IVec S16 32) a x).toNat < S64x128.size a := fun v347 v961 k0_hw506 => k0_hw506

def k0_chk507 (v347 : IVec S16 32) (v972 : IVec S16 32) : Prop :=
  (∀ a x, ((![v347, v972] : Fin 2 → IVec S16 32) a x).toNat < S128x128.size a)
theorem k0_idx507_inb : ∀ (v347 : IVec S16 32) (v972 : IVec S16 32) (k0_hw507 : k0_chk507 v347 v972), ∀ a x, ((![v347, v972] : Fin 2 → IVec S16 32) a x).toNat < S128x128.size a := fun v347 v972 k0_hw507 => k0_hw507

def k0_chk508 (v347 : IVec S16 32) (v971 : IVec S16 32) : Prop :=
  (∀ a x, ((![v971, v347] : Fin 2 → IVec S16 32) a x).toNat < S64x128.size a)
theorem k0_idx508_inb : ∀ (v347 : IVec S16 32) (v971 : IVec S16 32) (k0_hw508 : k0_chk508 v347 v971), ∀ a x, ((![v971, v347] : Fin 2 → IVec S16 32) a x).toNat < S64x128.size a := fun v347 v971 k0_hw508 => k0_hw508

def k0_chk509 (v347 : IVec S16 32) (v982 : IVec S16 32) : Prop :=
  (∀ a x, ((![v347, v982] : Fin 2 → IVec S16 32) a x).toNat < S128x128.size a)
theorem k0_idx509_inb : ∀ (v347 : IVec S16 32) (v982 : IVec S16 32) (k0_hw509 : k0_chk509 v347 v982), ∀ a x, ((![v347, v982] : Fin 2 → IVec S16 32) a x).toNat < S128x128.size a := fun v347 v982 k0_hw509 => k0_hw509

def k0_chk510 (v347 : IVec S16 32) (v981 : IVec S16 32) : Prop :=
  (∀ a x, ((![v981, v347] : Fin 2 → IVec S16 32) a x).toNat < S64x128.size a)
theorem k0_idx510_inb : ∀ (v347 : IVec S16 32) (v981 : IVec S16 32) (k0_hw510 : k0_chk510 v347 v981), ∀ a x, ((![v981, v347] : Fin 2 → IVec S16 32) a x).toNat < S64x128.size a := fun v347 v981 k0_hw510 => k0_hw510

def k0_chk511 (v347 : IVec S16 32) (v992 : IVec S16 32) : Prop :=
  (∀ a x, ((![v347, v992] : Fin 2 → IVec S16 32) a x).toNat < S128x128.size a)
theorem k0_idx511_inb : ∀ (v347 : IVec S16 32) (v992 : IVec S16 32) (k0_hw511 : k0_chk511 v347 v992), ∀ a x, ((![v347, v992] : Fin 2 → IVec S16 32) a x).toNat < S128x128.size a := fun v347 v992 k0_hw511 => k0_hw511

def k0_chk512 (v347 : IVec S16 32) (v991 : IVec S16 32) : Prop :=
  (∀ a x, ((![v991, v347] : Fin 2 → IVec S16 32) a x).toNat < S64x128.size a)
theorem k0_idx512_inb : ∀ (v347 : IVec S16 32) (v991 : IVec S16 32) (k0_hw512 : k0_chk512 v347 v991), ∀ a x, ((![v991, v347] : Fin 2 → IVec S16 32) a x).toNat < S64x128.size a := fun v347 v991 k0_hw512 => k0_hw512
def k0_cond8 (k0_t1 : Fin k0_t1_loop.trips) : BitVec 1 :=
  let c0_i32_136 : BitVec 32 := 0#32
  let c1_i32_137 : BitVec 32 := 1#32
  let arg26 : BitVec 32 := Scf.iv c0_i32_136 c1_i32_137 k0_t1
  let c49_i32_213 : BitVec 32 := 49#32
  let v337 : BitVec 1 := Scalar.cmpi .slt arg26 c49_i32_213
  let v338 : BitVec 32 := Scalar.extui v337
  let c0_i32_214 : BitVec 32 := 0#32
  let v339 : BitVec 1 := Scalar.cmpi .ne v338 c0_i32_214
  v339

def k0_off22 (k0_t1 : Fin k0_t1_loop.trips) (c0_i32_220 : BitVec 32) : Fin 2 → Nat :=
  let c0_i32_136 : BitVec 32 := 0#32
  let c1_i32_137 : BitVec 32 := 1#32
  let arg26 : BitVec 32 := Scf.iv c0_i32_136 c1_i32_137 k0_t1
  let c4_i32_202 : BitVec 32 := 4#32
  let v330 : BitVec 32 := Scalar.muli arg26 c4_i32_202
  let c3_i32_203 : BitVec 32 := 3#32
  let v331 : BitVec 32 := Scalar.addi v330 c3_i32_203
  let c4_i32_218 : BitVec 32 := 4#32
  let v345 : BitVec 32 := Scalar.addi v331 c4_i32_218
  let v347 : Index := Scalar.indexCast v345
  let c16_i32_221 : BitVec 32 := 16#32
  let v346 : BitVec 32 := Scalar.muli c16_i32_221 c0_i32_220
  let v348 : Index := Scalar.indexCast v346
  ![v347.toNat, v348.toNat]
def k0_off23 (c0_i32_220 : BitVec 32) : Fin 1 → Nat :=
  let c16_i32_221 : BitVec 32 := 16#32
  let v346 : BitVec 32 := Scalar.muli c16_i32_221 c0_i32_220
  let v352 : Index := Scalar.indexCast v346
  ![v352.toNat]
def k0_off24 (i : grid0.Coords) : Fin 3 → Nat :=
  let c0_i32_140 : BitVec 32 := 0#32
  let c0_i32_141 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_139 : BitVec 32 := 128#32
  let v265 : BitVec 32 := Scalar.muli v1 c128_i32_139
  ![0, 0, v265.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S_, .f32⟩
  | .hbm, ⟨26, _⟩ => ⟨S_, .f32⟩
  | .hbm, ⟨27, _⟩ => ⟨S4096x200x64, .f32⟩
  | .hbm, ⟨28, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.KI.Setup.lean ====
/-
  The launch's set-up: the thread a tile task runs on, the program's labels and definitions, the ghost state.
-/
module

public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.ShloMosaic.Rounds

/-- The handshakes' rounds, and the transfers' counters. -/
abbrev UH : Type := URounds (GSem nD τ sig) ℕ
abbrev UU : Type := UH × Counters

/-- The resources of the run. -/
abbrev Res (F : FTy → Type) : Type := MT nD τ sig (HIx 1) (Elt F) ℕ UU ℕ

abbrev EH {F : FTy → Type} : Emb UH (Res F) := embL
abbrev EC {F : FTy → Type} : UEmb Counters (Res F) := countersEmb

abbrev 𝒱₀ : Variants := Variants.none

/-- The thread of the tile at grid position `i`. -/
abbrev thr (d : Dev nD) (i : grid0.Coords) : Thread nD τ := V d ((i 0).castLE hcore0) ((i 1).castLE hsub0)

end Cert.KernelIdeal.Body
-- ==== Proof.KI.Rules.lean ====
/-
  The rules the tile task uses, over what a tile holds of a memref and reads through it (`owns`).
-/
module

public import proofs.«01_k».proof.Proof.KI.Setup
public import Idealize.ShloMosaic.Lib.Memref
public import Idealize.ShloMosaic.Lib.ValueIdxCore

@[expose] public section

noncomputable section

namespace Cert.KernelIdeal.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The weakest precondition of a program of the tile at `i`. -/
abbrev WP (d : Dev nD) (i : grid0.Coords) {α : Type} (p : Prog (TpuEff nD τ sig (Elt F) Λ₀ (thr d i).2) α) (Q : α → sProp 𝕄) : sProp 𝕄 :=
  wp frame (wpE (defs₀ (F := F)) 𝒱₀ (thr d i) none) Set.univ p Q

/-- What the tile at `i` holds of a memref. -/
abbrev Own (d : Dev nD) (i : grid0.Coords) {sp : Space} {s : Shape} {e : EltTy} (m : Memref sig .scVector sp s e) (q : PosShare TreeShare)
    (X : s.Idx → Elt F e) : sProp 𝕄 :=
  owns (thr d i) m q X

/-- What a tile still owes, after waits on cells of its own only. -/
def Owe (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- A transfer in flight on a cell of the tile's own, which delivers `D`. -/
abbrev Fly (d : Dev nD) (i : grid0.Coords) (sem : DmaSem sig) (N : ℕ) (D : sProp 𝕄) : sProp 𝕄 :=
  Transfers.Flight EC (thr d i) (.dma sem) none N D

/-- A cell of the tile's own at zero. -/
abbrev Zero (d : Dev nD) (i : grid0.Coords) (sem : DmaSem sig) : sProp 𝕄 := semVal (thr d i, SemLoc.dma sem) 0

variable (d : Dev nD) (i : grid0.Coords)

/-- A load reads the held contents at the rectangle's places. -/
theorem wp_ld {cs : CoreSpace} {s : Shape} {e : EltTy} {m : Memref sig .scVector cs s e} {r : Rect s} {hl : m.view.LoadsAt r.toLoadRect} {α : Type}
    {k : (r.shape.Idx → Elt F e) → Prog (TpuEff nD τ sig (Elt F) Λ₀ (thr d i).2) α} {Q : α → sProp 𝕄} {q : PosShare TreeShare} {X : s.Idx → Elt F e} :
    Own d i m q X ⊢ iprop((Own d i m q X -∗ WP d i (k fun x => X (r.emb x)) Q) -∗ WP d i (Prog.lift (.load m r.toLoadRect hl) >>= k) Q) := by
  unfold Own owns
  iintro ⟨%f, %hf, H⟩ HK
  iapply (wp_load_rect (defs := defs₀ (F := F)) 𝒱₀ (thr d i) none Set.univ (Q := Q) (m := m) (r := r) (hl := hl) (k := k) (q := q) (f := f)
    (S := m.view.set) (m.view.set_slice_subset r)) $$ H
  iintro H
  have e : (m.access r).read (Elt F) f = fun x => X (r.emb x) := by subst hf; rfl
  rw [e]
  iapply HK
  iexists f; isplitr; · ipureintro; exact hf
  iexact H

/-- A store of a whole rectangle overlays the held contents. -/
theorem wp_st {s : Shape} {e : EltTy} {m : Memref sig .scVector .vmem s e} {r : Rect s} {w : r.shape.Idx → Elt F e}
    {hx : (m.access r).Stores Finset.univ} {hm} {α : Type}
    {k : PUnit → Prog (TpuEff nD τ sig (Elt F) Λ₀ (thr d i).2) α} {Q : α → sProp 𝕄} {X : s.Idx → Elt F e} :
    Own d i m fullShare X ⊢ iprop((Own d i m fullShare (r.overlay X w) -∗ WP d i (k ⟨⟩) Q) -∗ WP d i (Prog.lift (.store m r w Finset.univ hx hm) >>= k) Q) := by
  unfold Own owns
  iintro ⟨%f, %hf, H⟩ HK
  iapply (wp_store (defs := defs₀ (F := F)) 𝒱₀ (thr d i) none Set.univ (Q := Q) (m := m) (r := r) (w := w) (Mk := Finset.univ) (hx := hx) (hm := hm) (k := k) (f := f)
    (S := m.view.set) (m.view.set_slice_subset r)) $$ H
  iintro H
  iapply HK
  iexists ((m.access r).write (Elt F) f w Finset.univ); isplitr
  · ipureintro
    funext y
    by_cases hy : y ∈ r.set
    · obtain ⟨x, rfl⟩ := r.exists_idx_of_mem hy
      show m.view.read (Elt F) _ (r.emb x) = r.overlay X w (r.emb x)
      rw [Rect.overlay_emb]
      exact View.read_slice_write_emb r f w (Finset.mem_univ x)
    · rw [Rect.overlay_of_not_mem r X w hy, ← hf]
      exact View.read_slice_write_of_not_mem r f w Finset.univ (by rw [Rect.map_emb_univ]; exact hy)
  iexact H

/-- An indexed load reads the held contents at the places the index vectors name. -/
theorem wp_ldx {s t : Shape} {e : EltTy} {m : Memref sig .scVector .vmem s e} {idxs : Fin s.rank → IVec t 32} {h : ∀ a x, (idxs a x).toNat < s.size a}
    {hl : m.view.Loads} {α : Type} {k : Vec F t e → Prog (TpuEff nD τ sig (Elt F) Λ₀ (thr d i).2) α} {Q : α → sProp 𝕄} {q : PosShare TreeShare} {X : s.Idx → Elt F e} :
    Own d i m q X ⊢ iprop((Own d i m q X -∗ WP d i (k (loadIdx X idxs h)) Q) -∗ WP d i (SparseCore.vectorLoadIdx m idxs h hl >>= k) Q) := by
  unfold Own owns
  iintro ⟨%f, %hf, H⟩ HK
  iapply (SparseCore.wp_vectorLoadIdx (defs := defs₀ (F := F)) 𝒱₀ (thr d i) none Set.univ (Q := Q) (base := m) (idxs := idxs) (h := h) (hl := hl) (k := k) (q := q) (f := f)
    (S := m.view.set) (m.view.set_slice_subset _)) $$ H
  iintro H
  have e : (m.access (.whole s)).read (Elt F) f = X := by
    subst hf; funext x
    show m.view.read (Elt F) f ((Rect.whole s).emb x) = m.view.read (Elt F) f x
    rw [Rect.emb_whole_apply]
  rw [e]
  iapply HK
  iexists f; isplitr; · ipureintro; exact hf
  iexact H

/-- An indexed store under a mask rewrites the held contents. -/
theorem wp_stx {s : Shape} {e : EltTy} {dd : Fin 1 → Nat} {m : Memref sig .scVector .vmem s e} {idxs : Fin s.rank → IVec ⟨1, dd⟩ 32} {v : Vec F ⟨1, dd⟩ e}
    {mask : IVec ⟨1, dd⟩ 1} {add : Bool} {h : ∀ a x, (idxs a x).toNat < s.size a} {hs : (m.access (.whole s)).Stores Finset.univ} {α : Type}
    {k : PUnit → Prog (TpuEff nD τ sig (Elt F) Λ₀ (thr d i).2) α} {Q : α → sProp 𝕄} {X : s.Idx → Elt F e} :
    Own d i m fullShare X ⊢ iprop((Own d i m fullShare (storeIdx X idxs v mask add h) -∗ WP d i (k ⟨⟩) Q)
      -∗ WP d i (SparseCore.vectorStoreIdx m idxs v mask add h hs >>= k) Q) := by
  have hset : (m.access (.whole s)).set = m.view.set := by
    show (m.view.slice (.whole s)).set = _
    rw [View.set_slice, Rect.set_whole]; rfl
  unfold Own owns
  iintro ⟨%f, %hf, H⟩ HK
  iapply (SparseCore.wp_vectorStoreIdx (defs := defs₀ (F := F)) 𝒱₀ (thr d i) none Set.univ (Q := Q) (base := m) (idxs := idxs) (v := v) (mask := mask) (add := add)
    (h := h) (hs := hs) (k := k) (f := f)) $$ [H]
  · rw [hset]; iexact H
  iintro H
  have e : ∀ g, (m.access (.whole s)).read (Elt F) g = m.view.read (Elt F) g := by
    intro g; funext x
    show m.view.read (Elt F) g ((Rect.whole s).emb x) = m.view.read (Elt F) g x
    rw [Rect.emb_whole_apply]
  iapply HK
  iexists _; isplitr
  rotate_left
  · rw [← hset]; iexact H
  ipureintro
  rw [← e, View.read_write_univ, e, hf]

/-- A local copy: the destination's elements will hold what the source's hold. -/
theorem wp_cp {sp sp' : Space} {s : Shape} {e : EltTy} {src : Memref sig .scVector sp s e} {dst : Memref sig (thr d i).2.kind sp' s e} {sem : DmaSem sig}
    {hsrc : src.view.WordExact} {hdst : dst.view.WordExact} {hsem : DmaTarget.Typed (nD := nD) (p := (thr d i).2) sp (.dma sem) (.here dst)} {α : Type}
    {k : PUnit → Prog (TpuEff nD τ sig (Elt F) Λ₀ (thr d i).2) α} {Q : α → sProp 𝕄} {q : PosShare TreeShare} {X Z : s.Idx → Elt F e}
    (N : ℕ) (hN : dst.view.dmaCredit = N) (hN0 : 0 < N) :
    iprop(Own d i src q X ∗ Own d i dst fullShare Z ∗ Zero d i sem)
      ⊢ iprop((Fly d i sem N iprop(Own d i dst fullShare X ∗ Own d i src q X) -∗ WP d i (k ⟨⟩) Q)
        -∗ WP d i (Prog.lift (.enqueueDma src (.here dst) (.dma sem) hsrc hdst hsem) >>= k) Q) := by
  iintro ⟨HS, HD, Hz⟩ HK
  unfold Own owns
  icases HS with ⟨%f, %hf, HS⟩
  icases HD with ⟨%g, %hg, HD⟩
  iapply (Transfers.wp_dmaLocal (defs := defs₀ (F := F)) EC 𝒱₀ (thr d i) none (src := src) (dst := dst) (sm := .dma sem) (via := ReadAs.same)
    (hsrc := hsrc) (hdst := hdst) (hsem := hsem) (k := k) (q := q) (fs := f) (Sd := dst.view.set) (fd := g) (Q := Q) none N hN hN0 (Finset.Subset.refl _)) $$ [HS HD Hz]
  · isplitl [HS]; · iexact HS
    isplitl [HD]; · iexact HD
    iexact Hz
  iintro HF
  iapply HK
  iapply (Transfers.Flight_mono EC (thr d i) (D := iprop((dst.view.loc (thr d i) ↦[dst.view.set]{fullShare} (dst.view.write (Elt F) g (ReadAs.same.apply (src.view.read (Elt F) f)) Finset.univ))
      ∗ (src.view.loc (thr d i) ↦[src.view.set]{q} f))) ?_) $$ HF
  iintro ⟨HD, HS⟩
  isplitl [HD]
  · iexists _; isplitr
    rotate_left
    · iexact HD
    ipureintro
    rw [View.read_write_univ, ← hf]
  · iexists f; isplitr; · ipureintro; exact hf
    iexact HS

/-- The rows a list names, gathered. -/
def gathered (X : S500000x128.Idx → Elt F .f32) (L : S128.Idx → Elt F .i32) : S128x128.Idx → Elt F .f32 := fun y =>
  X (ValueIdx.ix2 ⟨(L (ValueIdx.ix1 (n := 128) (y 0))).toNat % 500000, Nat.mod_lt _ (by decide)⟩ (y 1))

omit [FloatOps F] in
theorem gatherPayload_eq (hg : S500000x128.Gathers 0 S128x128) (X : S500000x128.Idx → Elt F .f32) (L : S128.Idx → Elt F .i32)
    (hn : S128.numel = S128x128.size hg.axis') (hL : ∀ x, (L x).toNat < S500000x128.size hg.axis) :
    SparseCore.gatherPayload (F := F) (e := .f32) hg X (SparseCore.rows L hn hL) = gathered X L := by
  funext y
  unfold gathered SparseCore.gatherPayload
  congr 1
  funext a
  match a with
  | 0 =>
    apply Fin.ext
    have h1 : ((hg.idx (SparseCore.rows L hn hL) y) hg.axis).val = (L (S128.rowMajor.symm ((y hg.axis').cast hn.symm))).toNat := by
      rw [Shape.Gathers.idx_axis]; rfl
    refine (show ((hg.idx (SparseCore.rows L hn hL) y) 0).val = _ from h1).trans ?_
    have h2 : S128.rowMajor.symm ((y hg.axis').cast hn.symm) = ValueIdx.ix1 (n := 128) (y 0) := by
      refine (Equiv.symm_apply_eq _).mpr ?_
      apply Fin.ext
      exact (Shape.rowMajor_val_one (ValueIdx.ix1 (n := 128) (y 0))).symm
    rw [h2]
    exact (Nat.mod_eq_of_lt (hL _)).symm
  | 1 =>
    apply Fin.ext
    exact Shape.Gathers.idx_of_ne hg _ y 1 (by decide)

/-- An indirect gather of a hundred and twenty-eight rows, the list's words in range. -/
theorem wp_gather {src : Memref sig .scVector .hbm S500000x128 .f32} {dst : Memref sig .scVector .vmem S128x128 .f32}
    {hg : S500000x128.Gathers 0 S128x128} {offs : Memref sig .scVector .vmem S128 .i32} {hn : S128.numel = S128x128.size hg.axis'} {sem : DmaSem sig}
    {hp : (thr d i).2.kind = .scVector} {hsrc : src.view.WordExact} {he : EltTy.f32.bits = 32} {hsp : Space.hbm = .hbm ∨ Space.hbm = .shared} {hr : S500000x128.StreamRows 0} {α : Type}
    {k : PUnit → Prog (TpuEff nD τ sig (Elt F) Λ₀ (thr d i).2) α} {Q : α → sProp 𝕄} {q : PosShare TreeShare} {X : S500000x128.Idx → Elt F .f32}
    {Z : S128x128.Idx → Elt F .f32} {L : S128.Idx → Elt F .i32}
    (N : ℕ) (hN : ∑ j, (dst.slice (S128x128.rowRect hg.axis' j) (S128x128.stride_rowRect hg.axis' j)).view.dmaCredit = N) (hL : ∀ x, (L x).toNat < 500000) :
    iprop(Own d i src q X ∗ Own d i dst fullShare Z ∗ Own d i offs fullShare L ∗ Zero d i sem)
      ⊢ iprop((Fly d i sem N iprop(Own d i dst fullShare (gathered X L) ∗ Own d i src q X ∗ Own d i offs fullShare L) -∗ WP d i (k ⟨⟩) Q)
        -∗ WP d i (SparseCore.enqueueIndirectGather hp src dst hg offs hn sem hsrc he hsp hr >>= k) Q) := by
  iintro ⟨HS, HD, HL, Hz⟩ HK
  unfold Own owns
  icases HS with ⟨%f, %hf, HS⟩
  icases HD with ⟨%g, %hg', HD⟩
  icases HL with ⟨%l, %hl, HL⟩
  have hin : ∀ x, (offs.view.read (Elt F) l x).toNat < S500000x128.size hg.axis := by rw [hl]; exact hL
  iapply (SparseCore.wp_indirectGatherLocal (defs := defs₀ (F := F)) EC 𝒱₀ (thr d i) none (src := src) (dst := dst) (hg := hg) (offs := offs) (hn := hn) (sem := sem)
    (hp := hp) (hsrc := hsrc) (he := he) (hsp := hsp) (hr := hr) (k := k) (q := q) (qo := fullShare) (fs := f) (fd := g) (fo := l) (Q := Q) none N hN (by decide) hin) $$ [HS HD HL Hz]
  · isplitl [HS]; · iexact HS
    isplitl [HD]; · iexact HD
    isplitl [HL]; · iexact HL
    iexact Hz
  iintro HF
  iapply HK
  iapply (Transfers.Flight_mono EC (thr d i) ?_) $$ HF
  iintro ⟨HD, HS, HL⟩
  isplitl [HD]
  · iexists _; isplitr
    rotate_left
    · iexact HD
    ipureintro
    rw [View.read_write_univ]
    subst hf hl
    exact gatherPayload_eq hg _ _ hn hin
  isplitl [HS]
  · iexists f; isplitr; · ipureintro; exact hf
    iexact HS
  · iexists l; isplitr; · ipureintro; exact hl
    iexact HL

/-- The wait for a transfer in flight. -/
theorem wp_wt {sp sp' : Space} {s s' : Shape} {e e' : EltTy} {κ' : Kind} {sem : DmaSem sig} {srcw : Memref sig .scVector sp' s' e'} {dstw : Memref sig κ' sp s e}
    {hsrc : srcw.view.WordExact} {hdst : dstw.view.WordExact} {α : Type}
    {k : PUnit → Prog (TpuEff nD τ sig (Elt F) Λ₀ (thr d i).2) α} {Q : α → sProp 𝕄} {D : sProp 𝕄} {O : CellTallies nD τ sig (HIx 1)} {W : Waits sig (HIx 1)}
    (N : ℕ) (hN : dstw.view.dmaCredit = N) :
    iprop(Fly d i sem N D ∗ Owe d i O W ∗ Transfers.MayWaits (thr d i) none O)
      ⊢ iprop((iprop(D ∗ Zero d i sem ∗ Owe d i O W) -∗ WP d i (k ⟨⟩) Q) -∗ WP d i (Prog.lift (.waitDma2 sem srcw dstw hsrc hdst) >>= k) Q) := by
  iintro ⟨HF, HO, HM⟩ HK
  unfold Owe
  icases HO with ⟨%W', %hW, HO⟩
  iapply (Transfers.wp_waitLocalO (defs := defs₀ (F := F)) EC 𝒱₀ (thr d i) none (srcw := srcw) (dstw := dstw) (hsrc := hsrc) (hdst := hdst) (k := k) (Q := Q) (D := D) (O := O) (W := W')
    none hN) $$ [HF HO HM]
  · isplitl [HF]; · iexact HF
    isplitl [HO]; · iexact HO
    iapply (Transfers.MayWaits.elim (SemLoc.dma sem)) $$ HM
  iintro ⟨HD, Hz, HO⟩
  iapply HK
  isplitl [HD]; · iexact HD
  isplitl [Hz]; · iexact Hz
  iexists _; isplitr
  rotate_left
  · iexact HO
  ipureintro
  intro p hp
  rcases Finset.mem_insert.mp hp with rfl | hp
  · exact .inr rfl
  · exact hW p hp

end Cert.KernelIdeal.Body
-- ==== Proof.KI.Prog.lean ====
/-
  The tile task of the embedding kernel, written once per BUFFER instead of four times over.

  The printed body is a fourfold copy of one text (four gather buffers, four transposed buffers, four list
  buffers), cut into parts. Here the same program is written as four uses of `step`, over `fetch` (make one
  row's list and start its gather) and `trip` (transpose and scale sixteen of the gathered rows), and
  `cc0_emb_eq` says the printed body is that program.
-/
module

public import proofs.«01_k».proof.Proof.Gen.KernelIdeal.Skeleton

@[expose] public section

noncomputable section

namespace Cert.KernelIdeal.Body

open Cert.KernelIdeal Cert.KernelIdeal.Gen
open Idealize.ShloMosaic Idealize.SL.Sem

variable {F : FTy → Type} [FloatOps F]

/-- A program of the task at grid position `i`. -/
abbrev TileProg (F : FTy → Type) (i : grid0.Coords) (α : Type) : Type _ :=
  Prog (TpuEff nD τ sig (Elt F) Λ₀ (.scVector ((i 0).castLE hcore0) ((i 1).castLE hsub0))) α

/-- The lane numbers `0 ‥ 15`. -/
def lanes : IVec S16 32 := iota .scVector S16 32 [0] iota_S16_d0_w32_scVector

/-- The sixteen feature numbers lane step `s` touches: lane `l` takes `16·(s/16) + (l + s) mod 16`. -/
def feat (s : Nat) : IVec S16 32 :=
  addi (broadcast S16 (BitVec.ofNat 32 (16 * (s / 16)))) (andi (addi lanes (broadcast S16 (BitVec.ofNat 32 (s % 16)))) (broadcast S16 15#32))

/-- The sixteen gathered rows trip `g` handles: lane `l` takes `16·g + l`. -/
def rowsOf (g : Fin k0_t2_loop.trips) : IVec S16 32 := k0_pay1 lanes 0#32 1#32 g

/-- Eight times a vector. -/
def scale (v : Vec F S16 .f32) : FVec F S16 .f32 := mulf v (broadcast S16 (Scalar.ofBits .f32 0x41000000#32))

/-- The check that a pair of index vectors stays inside the gathered block, and inside the transposed block. -/
def chkG (r c : IVec S16 32) : Prop := ∀ a x, ((![r, c] : Fin 2 → IVec S16 32) a x).toNat < S128x128.size a
instance chkG.dec : ∀ (r c : IVec S16 32), Decidable (chkG r c) := fun r c => decidable_of_iff' _ (Iff.of_eq (chkG.eq_1 r c))
def chkT (r c : IVec S16 32) : Prop := ∀ a x, ((![c, r] : Fin 2 → IVec S16 32) a x).toNat < S64x128.size a
instance chkT.dec : ∀ (r c : IVec S16 32), Decidable (chkT r c) := fun r c => decidable_of_iff' _ (Iff.of_eq (chkT.eq_1 r c))

/-- One lane step: read the gathered block at (row, half + feature), store eight times it at (feature, row). -/
def lane (i : grid0.Coords) (gb : Memref sig .scVector .vmem S128x128 .f32) (tb : Memref sig .scVector .vmem S64x128 .f32)
    (rows half : IVec S16 32) (s : Nat) : TileProg F i PUnit := do
  have h2 : chkT rows (feat s) := (← Prog.lift (TpuEff.assume (chkT rows (feat s)) (chkT.dec rows (feat s)))).down
  have h1 : chkG rows (addi half (feat s)) := (← Prog.lift (TpuEff.assume (chkG rows (addi half (feat s))) (chkG.dec rows (addi half (feat s))))).down
  let v : Vec F S16 .f32 ← SparseCore.vectorLoadIdx gb ![rows, addi half (feat s)] h1 (View.loads_vmem h_S128x128)
  SparseCore.vectorStoreIdx tb ![feat s, rows] (scale v) (fun _ => 1#1) false h2 (View.stores_vmem_bits_univ h_S64x128 rfl)

/-- Lane steps `s, s+1, …`, `n` of them. -/
def lanesFrom (i : grid0.Coords) (gb : Memref sig .scVector .vmem S128x128 .f32) (tb : Memref sig .scVector .vmem S64x128 .f32)
    (rows half : IVec S16 32) : (n s : Nat) → TileProg F i PUnit
  | 0, _ => pure ⟨⟩
  | n + 1, s => do lane i gb tb rows half s; lanesFrom i gb tb rows half n (s + 1)

/-- One trip: load the sixteen indices at `off`, and do the sixty-four lane steps. -/
def trip (i : grid0.Coords) (ib : Memref sig .scVector .vmem S200x128 .i32) (gb : Memref sig .scVector .vmem S128x128 .f32)
    (tb : Memref sig .scVector .vmem S64x128 .f32) (off : Fin 2 → Nat) (hoff : ∀ a, off a + S1x16.size a ≤ S200x128.size a)
    (g : Fin k0_t2_loop.trips) : TileProg F i Unit := do
  let ld : Vec F S1x16 .i32 ← Prog.lift (.load ib (Rect.unit (s := S200x128) off S1x16.size hoff).toLoadRect (View.loadsAt_vmem h_S1x16))
  lanesFrom i gb tb (rowsOf g) (k0_pay2 ld) 64 0

/-- One sixteenth-row of a list: load sixteen indices at `off`, store their halves at `16·c` of the list. -/
def fetch1 (i : grid0.Coords) (ib : Memref sig .scVector .vmem S200x128 .i32) (lb : Memref sig .scVector .vmem S128 .i32)
    (off : Fin 8 → Fin 2 → Nat) (hoff : ∀ c a, off c a + S1x16.size a ≤ S200x128.size a) (c : Fin 8) : TileProg F i PUnit := do
  let ld : Vec F S1x16 .i32 ← Prog.lift (.load ib (Rect.unit (s := S200x128) (off c) S1x16.size (hoff c)).toLoadRect (View.loadsAt_vmem h_S1x16))
  let _ : Vec F S16 .i32 ← Prog.lift (.load lb (Rect.unit (s := S128) (k0_off3 (BitVec.ofNat 32 c.val)) S16.size (k0_off3_inb c)).toLoadRect (View.loadsAt_vmem h_S16))
  Prog.lift (.store lb (Rect.unit (s := S128) (k0_off3 (BitVec.ofNat 32 c.val)) S16.size (k0_off3_inb c)) (k0_pay138 ld) Finset.univ (View.stores_vmem_bits_univ h_S16 rfl) (.inl rfl))

/-- Make one row's list and start its gather. -/
def fetch (i : grid0.Coords) (xb : Memref sig .scVector .hbm S500000x128 .f32) (ib : Memref sig .scVector .vmem S200x128 .i32)
    (lb : Memref sig .scVector .vmem S128 .i32) (gb : Memref sig .scVector .vmem S128x128 .f32) (gs : DmaSem sig)
    (off : Fin 8 → Fin 2 → Nat) (hoff : ∀ c a, off c a + S1x16.size a ≤ S200x128.size a) : TileProg F i PUnit := do
  fetch1 i ib lb off hoff 0
  fetch1 i ib lb off hoff 1
  fetch1 i ib lb off hoff 2
  fetch1 i ib lb off hoff 3
  fetch1 i ib lb off hoff 4
  fetch1 i ib lb off hoff 5
  fetch1 i ib lb off hoff 6
  fetch1 i ib lb off hoff 7
  SparseCore.enqueueIndirectGather rfl (xb.slice (Rect.unit (s := S500000x128) ![0, 0] S500000x128.size inb_S500000x128_S500000x128_0_0) (fun _ => rfl))
    gb gathers_S500000x128_S128x128 lb rfl gs (View.wordExact_bits rfl) rfl (Or.inl rfl)

/-- The block of the result that the task writes for row `off 0`, squeezed. -/
abbrev outBlk (ob : Memref sig .scVector .hbm S200x64x4096 .f32) (off : Fin 3 → Nat)
    (hoff : ∀ a, off a + S1x64x128.size a ≤ S200x64x4096.size a) : Memref sig .scVector .hbm S64x128 .f32 :=
  (ob.slice (Rect.unit (s := S200x64x4096) off S1x64x128.size hoff) (fun _ => rfl)).squeeze S64x128 squeezes_S1x64x128_S64x128

/-- Wait for the gather into one buffer. -/
def waitG (i : grid0.Coords) (xb : Memref sig .scVector .hbm S500000x128 .f32) (gb : Memref sig .scVector .vmem S128x128 .f32) (hgb : gb.IsWhole)
    (gs : DmaSem sig) : TileProg F i PUnit :=
  SparseCore.waitIndirectGather gs (xb.slice (Rect.unit (s := S500000x128) ![0, 0] S500000x128.size inb_S500000x128_S500000x128_0_0) (fun _ => rfl))
    gb (View.wordExact_bits rfl) hgb.wordExact

/-- After the first group, wait for the buffer's previous write-out. -/
def waitOut (i : grid0.Coords) (ob : Memref sig .scVector .hbm S200x64x4096 .f32)
    (tb : Memref sig .scVector .vmem S64x128 .f32) (htb : tb.IsWhole) (os : DmaSem sig) (t : Fin k0_t1_loop.trips) : TileProg F i PUnit :=
  if h : k0_cond1 t = 1#1 then
    Prog.lift (.waitDma2 os tb (outBlk ob (k0_off7 i) (k0_off7_inb i t h)) htb.wordExact ((View.wordExact_bits rfl).reshape _ _))
  else pure ⟨⟩

/-- The eight trips that transpose and scale one gathered block. -/
def turn (i : grid0.Coords) (ib : Memref sig .scVector .vmem S200x128 .i32) (gb : Memref sig .scVector .vmem S128x128 .f32)
    (tb : Memref sig .scVector .vmem S64x128 .f32)
    (offT : Fin k0_t2_loop.trips → Fin 2 → Nat) (hoffT : ∀ g a, offT g a + S1x16.size a ≤ S200x128.size a) : TileProg F i PUnit :=
  Scf.Loop.for k0_t2_loop k0_t2_ok ⟨⟩ (fun g _ => trip i ib gb tb (offT g) (hoffT g) g)

/-- Before the last group, start the gather four rows on. -/
def fetchIf (i : grid0.Coords) (xb : Memref sig .scVector .hbm S500000x128 .f32) (ib : Memref sig .scVector .vmem S200x128 .i32)
    (lb : Memref sig .scVector .vmem S128 .i32) (gb : Memref sig .scVector .vmem S128x128 .f32) (gs : DmaSem sig) (t : Fin k0_t1_loop.trips)
    (offF : Fin 8 → Fin 2 → Nat) (hoffF : k0_cond2 t = 1#1 → ∀ c a, offF c a + S1x16.size a ≤ S200x128.size a) : TileProg F i PUnit :=
  if h : k0_cond2 t = 1#1 then fetch i xb ib lb gb gs offF (hoffF h) else pure ⟨⟩

/-- Start the write-out of one transposed block. -/
def send (i : grid0.Coords) (ob : Memref sig .scVector .hbm S200x64x4096 .f32)
    (tb : Memref sig .scVector .vmem S64x128 .f32) (htb : tb.IsWhole) (os : DmaSem sig)
    (offO : Fin 3 → Nat) (hoffO : ∀ a, offO a + S1x64x128.size a ≤ S200x64x4096.size a) : TileProg F i PUnit :=
  Prog.lift (.enqueueDma tb (.here (outBlk ob offO hoffO)) (.dma os) htb.wordExact ((View.wordExact_bits rfl).reshape _ _) ⟨Or.inl rfl, trivial⟩)

/-- One row on one buffer: wait for its gather, wait for the buffer's previous write-out, transpose, start the
    gather four rows on, start the write-out. -/
def step (i : grid0.Coords) (xb : Memref sig .scVector .hbm S500000x128 .f32) (ob : Memref sig .scVector .hbm S200x64x4096 .f32)
    (ib : Memref sig .scVector .vmem S200x128 .i32) (lb : Memref sig .scVector .vmem S128 .i32)
    (gb : Memref sig .scVector .vmem S128x128 .f32) (hgb : gb.IsWhole) (tb : Memref sig .scVector .vmem S64x128 .f32) (htb : tb.IsWhole)
    (gs os : DmaSem sig) (t : Fin k0_t1_loop.trips)
    (offT : Fin k0_t2_loop.trips → Fin 2 → Nat) (hoffT : ∀ g a, offT g a + S1x16.size a ≤ S200x128.size a)
    (offF : Fin 8 → Fin 2 → Nat) (hoffF : k0_cond2 t = 1#1 → ∀ c a, offF c a + S1x16.size a ≤ S200x128.size a)
    (offO : Fin 3 → Nat) (hoffO : ∀ a, offO a + S1x64x128.size a ≤ S200x64x4096.size a) : TileProg F i PUnit := do
  waitG i xb gb hgb gs
  waitOut i ob tb htb os t
  turn i ib gb tb offT hoffT
  fetchIf i xb ib lb gb gs t offF hoffF
  send i ob tb htb os offO hoffO

/-- A conditional whose two branches end in the same rest `J` is the conditional of the branches' beginnings, then `J`. -/
theorem ite_rest {i : grid0.Coords} {α : Type} {c : Prop} [Decidable c] {A : c → TileProg F i α} {J : TileProg F i α}
    {A' : c → TileProg F i PUnit} {K : PUnit → TileProg F i α}
    (hA : ∀ h, A h = A' h >>= fun _ => J) (hJ : J = K ⟨⟩) :
    dite c A (fun _ => J) = (dite c A' (fun _ => pure ⟨⟩) >>= K) := by
  have hK : (fun _ => J) = K := funext fun _ => hJ
  subst hK
  split
  · exact hA _
  · rfl

section Eqs

variable (i : grid0.Coords) (arg2 : Memref sig .scVector .hbm S200x4096 .i32) (harg2 : arg2.IsWhole) (arg3 : Memref sig .scVector .hbm S500000x128 .f32) (harg3 : arg3.IsWhole) (arg4 : Memref sig .scVector .hbm S200x64x4096 .f32) (harg4 : arg4.IsWhole) (arg5 : Memref sig .scVector .vmem S200x128 .i32) (harg5 : arg5.IsWhole) (arg6 : Memref sig .scVector .vmem S128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S64x128 .f32) (harg14 : arg14.IsWhole) (arg15 : Memref sig .scVector .vmem S64x128 .f32) (harg15 : arg15.IsWhole) (arg16 : Memref sig .scVector .vmem S64x128 .f32) (harg16 : arg16.IsWhole) (arg17 : Memref sig .scVector .vmem S64x128 .f32) (harg17 : arg17.IsWhole) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (v285_r0 : DmaSems sig S_)

set_option maxRecDepth 65536 in
set_option maxHeartbeats 4000000 in
/-- A trip of the first buffer's loop is `trip` on that buffer. -/
theorem t2_body_eq (v1 : BitVec 32) (c d : BitVec 32) (t : Fin k0_t1_loop.trips) (v286 : BitVec 32) (g : Fin k0_t2_loop.trips) (u : Unit) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes c d t v286 g u
      = trip i arg5 arg10 arg14 (k0_off8 t g) (k0_off8_inb t g) g := rfl

set_option maxRecDepth 65536 in
set_option maxHeartbeats 4000000 in
/-- A trip of the second buffer's loop is `trip` on that buffer. -/
theorem t3_body_eq (v1 : BitVec 32) (c d : BitVec 32) (t : Fin k0_t1_loop.trips) (v301 : BitVec 32) (g : Fin k0_t3_loop.trips) (u : Unit) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes c d t v301 g u
      = trip i arg5 arg11 arg15 (k0_off13 t g) (k0_off13_inb t g) g := rfl

set_option maxRecDepth 65536 in
set_option maxHeartbeats 4000000 in
/-- A trip of the third buffer's loop is `trip` on that buffer. -/
theorem t4_body_eq (v1 : BitVec 32) (t : Fin k0_t1_loop.trips) (w v301 : BitVec 32) (v307 : BitVec 1) (v316 : BitVec 32) (g : Fin k0_t4_loop.trips) (u : Unit) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes t w v301 v307 v316 g u
      = trip i arg5 arg12 arg16 (k0_off17 t g) (k0_off17_inb t g) g := rfl

set_option maxRecDepth 65536 in
set_option maxHeartbeats 4000000 in
/-- A trip of the fourth buffer's loop is `trip` on that buffer. -/
theorem t5_body_eq (t : Fin k0_t1_loop.trips) (v331 : BitVec 32) (g : Fin k0_t5_loop.trips) (u : Unit) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 lanes t v331 g u
      = trip i arg5 arg13 arg17 (k0_off21 t g) (k0_off21_inb t g) g := rfl

end Eqs

end Cert.KernelIdeal.Body

end
-- ==== Proof.KI.Words.lean ====
/-
  The index arithmetic of the tile task as natural numbers: the lanes' feature numbers, the rows a trip handles,
  the half of a doubled row an index selects, and the doubled row it names.
-/
module

public import proofs.«01_k».proof.Proof.KI.Prog
public import Idealize.ShloMosaic.Lib.Pipeline.Value
public import Idealize.ShloMosaic.Lib.ValueIdxCore

@[expose] public section

noncomputable section

namespace Cert.KernelIdeal.Body

open Cert.KernelIdeal Cert.KernelIdeal.Gen
open Idealize.ShloMosaic Idealize.ShloMosaic.ValueIdx Idealize.SL.Sem

variable {F : FTy → Type} [FloatOps F]

theorem trips8 : k0_t2_loop.trips = 8 := by decide
theorem trips50 : k0_t1_loop.trips = 50 := by decide

/-- The feature lane `l` takes at lane step `s`. -/
def featN (s l : ℕ) : ℕ := 16 * (s / 16) + (l + s % 16) % 16

theorem featN_lt {s l : ℕ} (hs : s < 64) : featN s l < 64 := by
  unfold featN; omega

theorem lanes_apply (x : S16.Idx) : lanes x = BitVec.ofNat 32 (x 0).val := by
  simp [lanes, iota]

/-- Every feature is taken by every lane at some step. -/
theorem feat_cover {d l : ℕ} (hd : d < 64) (hl : l < 16) : ∃ s, s < 64 ∧ featN s l = d := by
  refine ⟨16 * (d / 16) + (d % 16 + 16 - l) % 16, by omega, ?_⟩
  unfold featN; omega

theorem feat_words : ∀ s : Fin 64, ∀ l : Fin 16,
    (BitVec.ofNat 32 (16 * (s.val / 16)) + ((BitVec.ofNat 32 l.val + BitVec.ofNat 32 (s.val % 16)) &&& 15#32)).toNat
      = 16 * (s.val / 16) + (l.val + s.val % 16) % 16 := by decide +kernel

theorem feat_toNat {s : ℕ} (hs : s < 64) (x : S16.Idx) : (feat s x).toNat = featN s (x 0).val := by
  have h := feat_words ⟨s, hs⟩ (x 0)
  have e : feat s x = BitVec.ofNat 32 (16 * (s / 16)) + ((BitVec.ofNat 32 (x 0).val + BitVec.ofNat 32 (s % 16)) &&& 15#32) := by
    rw [← lanes_apply]; rfl
  rw [e]; exact h

theorem rows_words : ∀ g : Fin 8, ∀ l : Fin 16,
    ((0#32 + BitVec.ofNat 32 g.val * 1#32) * 16#32 + BitVec.ofNat 32 l.val).toNat = 16 * g.val + l.val := by decide +kernel

theorem rows_toNat (g : Fin k0_t2_loop.trips) (x : S16.Idx) : (rowsOf g x).toNat = 16 * g.val + (x 0).val := by
  have h := rows_words (g.cast trips8) (x 0)
  have e : rowsOf g x = (0#32 + BitVec.ofNat 32 g.val * 1#32) * 16#32 + BitVec.ofNat 32 (x 0).val := by
    rw [← lanes_apply]; rfl
  rw [e]; exact h

omit [FloatOps F] in
/-- Sixteen words of a row, read as a vector. -/
theorem cast16 (ld : Vec F S1x16 .i32) (x : S16.Idx) : shapeCast S16 ld shapeCasts_S1x16_S16 x = ld (ix2 0 (x 0)) := by
  refine shapeCast_apply ld shapeCasts_S1x16_S16 x (ix2 0 (x 0)) ?_
  simp [Shape.rowMajor_val_two, Shape.rowMajor_val_one]

/-- The offset of the half row an index selects: sixty-four times its lowest bit. -/
theorem half_toNat (ld : Vec F S1x16 .i32) (x : S16.Idx) : (k0_pay2 ld x).toNat = (ld (ix2 0 (x 0))).toNat % 2 * 64 := by
  have e : k0_pay2 ld x = ((shapeCast S16 ld shapeCasts_S1x16_S16 x : BitVec 32) &&& 1#32) * 64#32 := rfl
  rw [cast16] at e
  have h1 : ((ld (ix2 0 (x 0))) &&& 1#32 : BitVec 32).toNat = (ld (ix2 0 (x 0))).toNat % 2 := by
    rw [BitVec.toNat_and]; exact Nat.and_one_is_mod _
  rw [e, BitVec.toNat_mul, h1]
  show _ % 2 * 64 % 2 ^ 32 = _
  omega

/-- The doubled row an index names: half of it. -/
theorem list_toNat (ld : Vec F S1x16 .i32) (x : S16.Idx) : (k0_pay138 ld x).toNat = (ld (ix2 0 (x 0))).toNat / 2 := by
  have e : k0_pay138 ld x = (shapeCast S16 ld shapeCasts_S1x16_S16 x : BitVec 32) >>> 1 := rfl
  rw [cast16] at e
  rw [e]; simp [Nat.shiftRight_eq_div_pow]

end Cert.KernelIdeal.Body
-- ==== Proof.KI.Turned.lean ====
/-
  What the transposing loop leaves in a transposed block: the values of an indexed store of sixteen distinct places,
  of the sixty-four lane steps of a trip, and of the eight trips.
-/
module

public import proofs.«01_k».proof.Proof.KI.Words

@[expose] public section

noncomputable section

namespace Cert.KernelIdeal.Body

open Cert.KernelIdeal Cert.KernelIdeal.Gen
open Idealize.ShloMosaic Idealize.ShloMosaic.ValueIdx Idealize.SL.Sem

variable {F : FTy → Type} [FloatOps F]

/-- Eight times a number, as the tile multiplies. -/
def times8 (a : F .f32) : F .f32 := FloatOps.mulf a (Scalar.ofBits .f32 0x41000000#32)

theorem scale_apply (v : Vec F S16 .f32) (x : S16.Idx) : scale v x = times8 (v x) := rfl

/-! ### Folds of conditional updates -/

section Fold

variable {α β γ : Type}

/-- A fold of updates none of which touches `j` keeps the value at `j`. -/
theorem fold_miss (P : α → β → Prop) [∀ a b, Decidable (P a b)] (v : α → γ) (j : β) :
    ∀ (L : List α) (f : β → γ), (∀ k ∈ L, ¬ P k j) → L.foldl (fun g k => fun j => if P k j then v k else g j) f j = f j
  | [], f, _ => rfl
  | a :: L, f, h => by
      rw [List.foldl_cons, fold_miss P v j L _ fun k hk => h k (List.mem_cons_of_mem _ hk)]
      exact if_neg (h a List.mem_cons_self)

/-- A fold of updates exactly one of which touches `j` leaves that one's value at `j`. -/
theorem fold_hit (P : α → β → Prop) [∀ a b, Decidable (P a b)] (v : α → γ) (j : β) (k : α) (hk : P k j) :
    ∀ (L : List α) (f : β → γ), k ∈ L → (∀ k' ∈ L, P k' j → k' = k) →
      L.foldl (fun g k => fun j => if P k j then v k else g j) f j = v k
  | [], f, hm, _ => nomatch hm
  | a :: L, f, hm, hu => by
      rw [List.foldl_cons]
      by_cases hL : k ∈ L
      · exact fold_hit P v j k hk L _ hL fun k' h' => hu k' (List.mem_cons_of_mem _ h')
      · have ha : k = a := (List.mem_cons.mp hm).resolve_right hL
        rw [fold_miss P v j L _ fun k' h' hp => hL (hu k' (List.mem_cons_of_mem _ h') hp ▸ h'), ← ha]
        exact if_pos hk

end Fold

/-! ### The indexed store -/

/-- An indexed store under the full mask, lane by lane. -/
theorem storeIdx_fold (f : Vec F S64x128 .f32) (c r : IVec S16 32) (v : Vec F S16 .f32)
    (h : ∀ a x, ((![c, r] : Fin 2 → IVec S16 32) a x).toNat < S64x128.size a) :
    storeIdx (F := F) (s := S64x128) (e := .f32) f ![c, r] v (fun _ => 1#1) false h
      = (List.finRange (S16.size 0)).foldl (fun g k => fun j =>
          if ∀ a, (j a).val = (idxAt ![c, r] h (Shape.ofLane k) a).val then v (Shape.ofLane k) else g j) f := by
  unfold storeIdx
  congr 1
  funext g k
  exact (if_pos (rfl : (1#1 : BitVec 1) = 1)).trans (by simp)

/-- The place lane `x` stores to. -/
theorem place_iff (c r : IVec S16 32) (h : ∀ a x, ((![c, r] : Fin 2 → IVec S16 32) a x).toNat < S64x128.size a) (x : S16.Idx) (j : S64x128.Idx) :
    (∀ a, (j a).val = (idxAt (s := S64x128) ![c, r] h x a).val) ↔ (j 0).val = (c x).toNat ∧ (j 1).val = (r x).toNat := by
  constructor
  · intro hj; exact ⟨hj 0, hj 1⟩
  · rintro ⟨h0, h1⟩ a
    match a with
    | 0 => exact h0
    | 1 => exact h1

/-- The element at lane `x`'s place holds lane `x`'s value, the lanes' columns being distinct. -/
theorem storeIdx_hit (f : Vec F S64x128 .f32) (c r : IVec S16 32) (v : Vec F S16 .f32)
    (h : ∀ a x, ((![c, r] : Fin 2 → IVec S16 32) a x).toNat < S64x128.size a)
    (hinj : ∀ x x' : S16.Idx, (r x).toNat = (r x').toNat → x = x') (x : S16.Idx) (j : S64x128.Idx)
    (h0 : (j 0).val = (c x).toNat) (h1 : (j 1).val = (r x).toNat) :
    storeIdx (F := F) (s := S64x128) (e := .f32) f ![c, r] v (fun _ => 1#1) false h j = v x := by
  obtain ⟨k, rfl⟩ : ∃ k : Fin (S16.size 0), x = Shape.ofLane k := ⟨x 0, by funext a; match a with | 0 => rfl⟩
  rw [storeIdx_fold]
  refine fold_hit _ (fun k => v (Shape.ofLane k)) j k ((place_iff c r h _ j).mpr ⟨h0, h1⟩) _ f (List.mem_finRange k) ?_
  intro k' _ hk'
  have e := hinj (Shape.ofLane k') (Shape.ofLane k) (((place_iff c r h _ j).mp hk').2.symm.trans h1)
  exact congrFun e 0

/-- An element no lane stores to is kept. -/
theorem storeIdx_miss (f : Vec F S64x128 .f32) (c r : IVec S16 32) (v : Vec F S16 .f32)
    (h : ∀ a x, ((![c, r] : Fin 2 → IVec S16 32) a x).toNat < S64x128.size a) (j : S64x128.Idx)
    (hj : ∀ x : S16.Idx, ¬ ((j 0).val = (c x).toNat ∧ (j 1).val = (r x).toNat)) :
    storeIdx (F := F) (s := S64x128) (e := .f32) f ![c, r] v (fun _ => 1#1) false h j = f j := by
  rw [storeIdx_fold]
  exact fold_miss _ (fun k => v (Shape.ofLane k)) j _ f fun k _ hk => hj _ ((place_iff c r h _ j).mp hk)

/-! ### The transposed block -/

/-- The transposed block of the gathered rows `G`, at the indices `row` of those rows: element (d, l) is eight times
    element d of the half row `row l` selects of gathered row `l`. -/
def turned (G : S128x128.Idx → F .f32) (row : Fin 128 → BitVec 32) : S64x128.Idx → F .f32 := fun y =>
  times8 (G (ix2 (y 1) ⟨(row (y 1)).toNat % 2 * 64 + (y 0).val, by have := (y 0).isLt; simp at this ⊢; omega⟩))

/-- What `n` lane steps of trip `g` leave: the trip's sixteen columns at the features taken hold the transposed
    block's values, and the other columns are as before. -/
def LanesDone (G : S128x128.Idx → F .f32) (row : Fin 128 → BitVec 32) (g : ℕ) (Y₀ : S64x128.Idx → F .f32) (n : ℕ) (Y : S64x128.Idx → F .f32) : Prop :=
  (∀ y : S64x128.Idx, ∀ l : ℕ, l < 16 → (y 1).val = 16 * g + l → (∃ s, s < n ∧ featN s l = (y 0).val) → Y y = turned G row y)
    ∧ ∀ y : S64x128.Idx, ((y 1).val < 16 * g ∨ 16 * g + 16 ≤ (y 1).val) → Y y = Y₀ y

/-- What `g` trips leave: the first `16 g` columns hold the transposed block's values. -/
def TripsDone (G : S128x128.Idx → F .f32) (row : Fin 128 → BitVec 32) (g : ℕ) (Y : S64x128.Idx → F .f32) : Prop :=
  ∀ y : S64x128.Idx, (y 1).val < 16 * g → Y y = turned G row y

theorem LanesDone.zero (G : S128x128.Idx → F .f32) (row : Fin 128 → BitVec 32) (g : ℕ) (Y₀ : S64x128.Idx → F .f32) : LanesDone G row g Y₀ 0 Y₀ :=
  ⟨fun y l hl h1 ⟨s, hs, _⟩ => absurd hs (Nat.not_lt_zero s), fun y _ => rfl⟩

/-- Sixty-four lane steps complete a trip. -/
theorem LanesDone.trip {G : S128x128.Idx → F .f32} {row : Fin 128 → BitVec 32} {g : ℕ} {Y₀ Y : S64x128.Idx → F .f32}
    (h₀ : TripsDone G row g Y₀) (h : LanesDone G row g Y₀ 64 Y) : TripsDone G row (g + 1) Y := by
  intro y hy
  by_cases hlt : (y 1).val < 16 * g
  · rw [h.2 y (.inl hlt)]; exact h₀ y hlt
  · exact h.1 y ((y 1).val - 16 * g) (by omega) (by omega) (feat_cover (y 0).isLt (by omega))

theorem TripsDone.zero (G : S128x128.Idx → F .f32) (row : Fin 128 → BitVec 32) (Y : S64x128.Idx → F .f32) : TripsDone G row 0 Y :=
  fun y hy => absurd hy (by omega)

/-- Eight trips complete the block. -/
theorem TripsDone.eq {G : S128x128.Idx → F .f32} {row : Fin 128 → BitVec 32} {Y : S64x128.Idx → F .f32} (h : TripsDone G row 8 Y) : Y = turned G row :=
  funext fun y => h y (by have := (y 1).isLt; simp at this; omega)

/-- One lane step: what the indexed store of the scaled indexed load leaves. -/
theorem LanesDone.step {G : S128x128.Idx → F .f32} {row : Fin 128 → BitVec 32} {g : Fin k0_t2_loop.trips} {Y₀ Y : S64x128.Idx → F .f32} {s : ℕ}
    (hs : s < 64) (half : IVec S16 32)
    (hhalf : ∀ (x : S16.Idx) (l : Fin 128), l.val = 16 * g.val + (x 0).val → (half x).toNat = (row l).toNat % 2 * 64)
    (hG : chkG (rowsOf g) (addi half (feat s))) (hT : chkT (rowsOf g) (feat s))
    (h : LanesDone G row g.val Y₀ s Y) :
    LanesDone G row g.val Y₀ (s + 1)
      (storeIdx (F := F) (e := .f32) (s := S64x128) Y ![feat s, rowsOf g] (scale (loadIdx (F := F) (e := .f32) (s := S128x128) G ![rowsOf g, addi half (feat s)] hG)) (fun _ => 1#1) false hT) := by
  have hg : g.val < 8 := trips8 ▸ g.isLt
  have hinj : ∀ x x' : S16.Idx, (rowsOf g x).toNat = (rowsOf g x').toNat → x = x' := by
    intro x x' e
    rw [rows_toNat, rows_toNat] at e
    funext a; match a with
    | 0 => exact Fin.ext (by omega)
  constructor
  · intro y l hl h1 hex
    by_cases hit : featN s l = (y 0).val
    · have hx0 : ((ix1 (n := 16) ⟨l, hl⟩ : S16.Idx) 0).val = l := rfl
      rw [storeIdx_hit (F := F) Y (feat s) (rowsOf g) _ hT hinj (ix1 ⟨l, hl⟩) y (by rw [feat_toNat hs, hx0, hit]) (by rw [rows_toNat, hx0, h1]),
        scale_apply]
      unfold turned
      congr 1
      unfold loadIdx
      congr 1
      funext a
      have hh := hhalf (ix1 ⟨l, hl⟩) (y 1) (by rw [h1, hx0])
      match a with
      | 0 =>
        apply Fin.ext
        show (rowsOf g (ix1 ⟨l, hl⟩)).toNat = (y 1).val
        rw [rows_toNat, hx0, h1]
      | 1 =>
        apply Fin.ext
        show ((half (ix1 ⟨l, hl⟩)) + (feat s (ix1 ⟨l, hl⟩))).toNat = (row (y 1)).toNat % 2 * 64 + (y 0).val
        have hy0 := (y 0).isLt
        simp at hy0
        rw [BitVec.toNat_add, hh, feat_toNat hs, hx0, hit]
        omega
    · rw [storeIdx_miss (F := F) Y (feat s) (rowsOf g) _ hT y]
      · obtain ⟨s', hs', e⟩ := hex
        exact h.1 y l hl h1 ⟨s', by rcases Nat.lt_succ_iff_lt_or_eq.mp hs' with h' | h'; exact h'; exact absurd (h' ▸ e) hit, e⟩
      · rintro x ⟨a0, a1⟩
        rw [feat_toNat hs] at a0
        rw [rows_toNat] at a1
        exact hit (by rw [a0]; congr 1; omega)
  · intro y hy
    rw [storeIdx_miss (F := F) Y (feat s) (rowsOf g) _ hT y]
    · exact h.2 y hy
    · rintro x ⟨a0, a1⟩
      rw [rows_toNat] at a1
      have := (x 0).isLt
      simp at this
      omega

/-- The checks of a lane step hold. -/
theorem chkT_ok {g : Fin k0_t2_loop.trips} {s : ℕ} (hs : s < 64) : chkT (rowsOf g) (feat s) := by
  have hg : g.val < 8 := trips8 ▸ g.isLt
  intro a x
  have hx := (x 0).isLt
  simp at hx
  match a with
  | 0 => show (feat s x).toNat < 64; rw [feat_toNat hs]; exact featN_lt hs
  | 1 => show (rowsOf g x).toNat < 128; rw [rows_toNat]; omega

theorem chkG_ok {g : Fin k0_t2_loop.trips} {s : ℕ} (hs : s < 64) (half : IVec S16 32) (hh : ∀ x, (half x).toNat ≤ 64) :
    chkG (rowsOf g) (addi half (feat s)) := by
  have hg : g.val < 8 := trips8 ▸ g.isLt
  intro a x
  have hx := (x 0).isLt
  simp at hx
  match a with
  | 0 => show (rowsOf g x).toNat < 128; rw [rows_toNat]; omega
  | 1 =>
    show (half x + feat s x).toNat < 128
    have := featN_lt (l := (x 0).val) hs
    rw [BitVec.toNat_add, feat_toNat hs]
    have := hh x
    omega

end Cert.KernelIdeal.Body
-- ==== Proof.KI.Trip.lean ====
/-
  The transposing loop's run: a lane step, a trip's sixty-four of them, the eight trips.
-/
module

public import proofs.«01_k».proof.Proof.KI.Rules
public import proofs.«01_k».proof.Proof.KI.Turned

@[expose] public section

noncomputable section

namespace Cert.KernelIdeal.Body

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- A finished program has its postcondition. -/
theorem wp_rt {α : Type} {a : α} {Q : α → sProp 𝕄} : Q a ⊢ WP d i (pure a) Q := by
  show Q a ⊢ wp frame (wpE (defs₀ (F := F)) 𝒱₀ (thr d i) none) Set.univ (pure a) Q
  rw [wp_pure]
  iintro H
  imodintro
  iexact H

/-- A check that holds is passed. -/
theorem wp_as {P : Prop} {hd : Decidable P} {α : Type} {k : PLift P → Prog (TpuEff nD τ sig (Elt F) Λ₀ (thr d i).2) α} {Q : α → sProp 𝕄} (h : P) :
    WP d i (k ⟨h⟩) Q ⊢ WP d i (Prog.lift (.assume P hd) >>= k) Q :=
  wp_assume (defs := defs₀ (F := F)) 𝒱₀ (thr d i) none Set.univ h

variable (ib : Memref sig .scVector .vmem S200x128 .i32) (gb : Memref sig .scVector .vmem S128x128 .f32) (tb : Memref sig .scVector .vmem S64x128 .f32)
variable (G : S128x128.Idx → F .f32) (row : Fin 128 → BitVec 32)

/-- One lane step. -/
theorem wp_lane {g : Fin k0_t2_loop.trips} {half : IVec S16 32} {s : ℕ} (hs : s < 64)
    (hhalf : ∀ (x : S16.Idx) (l : Fin 128), l.val = 16 * g.val + (x 0).val → (half x).toNat = (row l).toNat % 2 * 64)
    (hle : ∀ x, (half x).toNat ≤ 64) {Y₀ Y : S64x128.Idx → F .f32} (h : LanesDone G row g.val Y₀ s Y) {α : Type}
    {k : PUnit → Prog (TpuEff nD τ sig (Elt F) Λ₀ (thr d i).2) α} {Q : α → sProp 𝕄} {q : PosShare TreeShare} :
    iprop(Own d i gb q (e := .f32) G ∗ Own d i tb fullShare (e := .f32) Y)
      ⊢ iprop((∀ Y', ⌜LanesDone G row g.val Y₀ (s + 1) Y'⌝ -∗ Own d i gb q (e := .f32) G -∗ Own d i tb fullShare (e := .f32) Y' -∗ WP d i (k ⟨⟩) Q)
        -∗ WP d i (lane (F := F) i gb tb (rowsOf g) half s >>= k) Q) := by
  iintro ⟨HG, HY⟩ HK
  unfold lane
  simp only [bind_assoc]
  iapply (wp_as d i (chkT_ok hs))
  iapply (wp_as d i (chkG_ok hs half hle))
  iapply (wp_ldx d i (F := F)) $$ HG
  iintro HG
  iapply (wp_stx d i (F := F)) $$ HY
  iintro HY
  iapply HK $$ [] [HG] [HY]
  · ipureintro
    exact h.step hs half hhalf (chkG_ok hs half hle) (chkT_ok hs)
  · iexact HG
  · iexact HY

/-- Lane steps `s, …, s + n - 1`. -/
theorem wp_lanesFrom {g : Fin k0_t2_loop.trips} {half : IVec S16 32}
    (hhalf : ∀ (x : S16.Idx) (l : Fin 128), l.val = 16 * g.val + (x 0).val → (half x).toNat = (row l).toNat % 2 * 64)
    (hle : ∀ x, (half x).toNat ≤ 64) {Y₀ : S64x128.Idx → F .f32} {Q : PUnit → sProp 𝕄} {q : PosShare TreeShare} :
    ∀ (n s : ℕ) (hns : s + n ≤ 64) (Y : S64x128.Idx → F .f32) (h : LanesDone G row g.val Y₀ s Y),
    iprop(Own d i gb q (e := .f32) G ∗ Own d i tb fullShare (e := .f32) Y)
      ⊢ iprop((∀ Y', ⌜LanesDone G row g.val Y₀ (s + n) Y'⌝ -∗ Own d i gb q (e := .f32) G -∗ Own d i tb fullShare (e := .f32) Y' -∗ Q ⟨⟩)
        -∗ WP d i (lanesFrom (F := F) i gb tb (rowsOf g) half n s) Q)
  | 0, s, hns, Y, h => by
    iintro ⟨HG, HY⟩ HK
    unfold lanesFrom
    iapply (wp_rt d i)
    iapply HK $$ [] [HG] [HY]
    · ipureintro; exact h
    · iexact HG
    · iexact HY
  | n + 1, s, hns, Y, h => by
    iintro ⟨HG, HY⟩ HK
    unfold lanesFrom
    iapply (wp_lane d i gb tb G row (by omega) hhalf hle h) $$ [HG HY]
    · isplitl [HG]; · iexact HG
      iexact HY
    iintro %Y' %h' HG HY
    iapply (wp_lanesFrom hhalf hle n (s + 1) (by omega) Y' h') $$ [HG HY]
    · isplitl [HG]; · iexact HG
      iexact HY
    iintro %Y'' %h'' HG HY
    iapply HK $$ [] [HG] [HY]
    · ipureintro
      rwa [show s + (n + 1) = s + 1 + n by omega]
    · iexact HG
    · iexact HY

variable (XI : S200x128.Idx → BitVec 32) (j : Fin 200)

/-- Row `j` of the tile's indices. -/
abbrev rowW (XI : S200x128.Idx → BitVec 32) (j : Fin 200) : Fin 128 → BitVec 32 := fun l => XI (ix2 j l)

omit [FloatOps F] in
/-- Place `x` of the sixteen words at (j, 16 c) is place 16 c + x of row `j`. -/
theorem emb16 {off : Fin 2 → Nat} (hoff : ∀ a, off a + S1x16.size a ≤ S200x128.size a) {j : Fin 200} {c : ℕ} (e : off = ![j.val, 16 * c])
    (x : S16.Idx) (l : Fin 128) (hl : l.val = 16 * c + (x 0).val) :
    (Rect.unit (s := S200x128) off S1x16.size hoff).emb (ix2 (n0 := 1) (n1 := 16) 0 (x 0)) = (ix2 j l : S200x128.Idx) := by
  subst e
  funext a
  match a with
  | 0 => apply Fin.ext; show j.val + 1 * 0 = j.val; omega
  | 1 => apply Fin.ext; show 16 * c + 1 * (x 0).val = l.val; omega

/-- A trip. -/
theorem wp_trip {g : Fin k0_t2_loop.trips} {off : Fin 2 → Nat} {hoff : ∀ a, off a + S1x16.size a ≤ S200x128.size a}
    (e : off = ![j.val, 16 * g.val]) {Y : S64x128.Idx → F .f32} (h : TripsDone G (rowW XI j) g.val Y) {Q : Unit → sProp 𝕄} {q : PosShare TreeShare} :
    iprop(Own d i ib fullShare (e := .i32) XI ∗ Own d i gb q (e := .f32) G ∗ Own d i tb fullShare (e := .f32) Y)
      ⊢ iprop((∀ Y', ⌜TripsDone G (rowW XI j) (g.val + 1) Y'⌝ -∗ Own d i ib fullShare (e := .i32) XI -∗ Own d i gb q (e := .f32) G
            -∗ Own d i tb fullShare (e := .f32) Y' -∗ Q ⟨⟩)
        -∗ WP d i (trip (F := F) i ib gb tb off hoff g) Q) := by
  have hg : g.val < 8 := trips8 ▸ g.isLt
  iintro ⟨HI, HG, HY⟩ HK
  unfold trip
  iapply (wp_ld d i (F := F) (X := XI)) $$ HI
  iintro HI
  iapply (wp_lanesFrom d i gb tb G (rowW XI j) (g := g) (half := k0_pay2 fun x => XI ((Rect.unit (s := S200x128) off S1x16.size hoff).emb x))
    ?_ ?_ 64 0 (by omega) Y (LanesDone.zero G (rowW XI j) g.val Y)) $$ [HG HY]
  · intro x l hl
    rw [half_toNat (F := F), emb16 hoff e x l hl]
  · intro x
    rw [half_toNat (F := F)]; omega
  · isplitl [HG]; · iexact HG
    iexact HY
  iintro %Y' %h' HG HY
  iapply HK $$ [] [HI] [HG] [HY]
  · ipureintro; exact LanesDone.trip h h'
  · iexact HI
  · iexact HG
  · iexact HY

/-- The eight trips. -/
theorem wp_turn {offT : Fin k0_t2_loop.trips → Fin 2 → Nat} {hoffT : ∀ g a, offT g a + S1x16.size a ≤ S200x128.size a}
    (e : ∀ g, offT g = ![j.val, 16 * g.val]) {Y : S64x128.Idx → F .f32} {α : Type}
    {k : PUnit → Prog (TpuEff nD τ sig (Elt F) Λ₀ (thr d i).2) α} {Q : α → sProp 𝕄} {q : PosShare TreeShare} :
    iprop(Own d i ib fullShare (e := .i32) XI ∗ Own d i gb q (e := .f32) G ∗ Own d i tb fullShare (e := .f32) Y)
      ⊢ iprop((Own d i ib fullShare (e := .i32) XI -∗ Own d i gb q (e := .f32) G
            -∗ Own d i tb fullShare (e := .f32) (turned G (rowW XI j)) -∗ WP d i (k ⟨⟩) Q)
        -∗ WP d i (turn (F := F) i ib gb tb offT hoffT >>= k) Q) := by
  iintro ⟨HI, HG, HY⟩ HK
  unfold turn
  iapply (Scf.wp_for_bind _ _ _ _ _ _ k0_t2_ok PUnit.unit (fun g _ => trip (F := F) i ib gb tb (offT g) (hoffT g) g)
    (I := fun n _ => iprop(∃ Y', ⌜TripsDone G (rowW XI j) n Y'⌝ ∗ Own d i ib fullShare (e := .i32) XI ∗ Own d i gb q (e := .f32) G
      ∗ Own d i tb fullShare (e := .f32) Y')) ?_) $$ [HI HG HY]
  · intro g _
    iintro ⟨%Y', %h, HI, HG, HY⟩
    iapply (wp_trip d i ib gb tb G XI j (e g) h) $$ [HI HG HY]
    · isplitl [HI]; · iexact HI
      isplitl [HG]; · iexact HG
      iexact HY
    iintro %Y'' %h'' HI HG HY
    iexists Y''
    isplitr; · ipureintro; exact h''
    isplitl [HI]; · iexact HI
    isplitl [HG]; · iexact HG
    iexact HY
  · iexists Y
    isplitr; · ipureintro; exact TripsDone.zero G (rowW XI j) Y
    isplitl [HI]; · iexact HI
    isplitl [HG]; · iexact HG
    iexact HY
  iintro %_ ⟨%Y', %h, HI, HG, HY⟩
  obtain rfl : Y' = turned G (rowW XI j) := TripsDone.eq (trips8 ▸ h)
  iapply HK $$ HI HG HY

end Cert.KernelIdeal.Body
-- ==== Proof.KI.Fetch.lean ====
/-
  A fetch's run: the list of a row's halves is made, sixteen at a time, and the gather of the rows it names is started.
-/
module

public import proofs.«01_k».proof.Proof.KI.Trip

@[expose] public section

noncomputable section

namespace Cert.KernelIdeal.Body

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first `16 c` words of a list are halves of the row's. -/
def ListDone (row : Fin 128 → BitVec 32) (c : ℕ) (L : S128.Idx → BitVec 32) : Prop :=
  ∀ x : Fin 128, x.val < 16 * c → (L (ix1 x)).toNat = (row x).toNat / 2

/-- The rows of the doubled table that a row of indices names. -/
def gRow (X : S500000x128.Idx → F .f32) (row : Fin 128 → BitVec 32) : S128x128.Idx → F .f32 := fun y =>
  X (ix2 ⟨(row (y 0)).toNat / 2 % 500000, Nat.mod_lt _ (by decide)⟩ (y 1))

theorem gathered_eq (X : S500000x128.Idx → F .f32) {row : Fin 128 → BitVec 32} {L : S128.Idx → BitVec 32} (h : ListDone row 8 L) :
    gathered (F := F) X L = gRow X row := by
  funext y
  have e : (L (ix1 (n := 128) (y 0))).toNat = (row (y 0)).toNat / 2 := h (y 0) (by have := (y 0).isLt; simp at this ⊢; omega)
  unfold gathered gRow
  congr 1
  funext a
  match a with
  | 0 => exact Fin.ext (congrArg (· % 500000) e)
  | 1 => rfl

/-- Sixteen more words of the list. -/
theorem ListDone.step {XI : S200x128.Idx → BitVec 32} {j : Fin 200} {c : Fin 8} {off : Fin 2 → Nat}
    (hoff : ∀ a, off a + S1x16.size a ≤ S200x128.size a) (e : off = ![j.val, 16 * c.val]) {L : S128.Idx → BitVec 32} (h : ListDone (rowW XI j) c.val L) :
    ListDone (rowW XI j) (c.val + 1)
      ((Rect.unit (s := S128) (k0_off3 (BitVec.ofNat 32 c.val)) S16.size (k0_off3_inb c)).overlay L
        (k0_pay138 (F := F) fun x => XI ((Rect.unit (s := S200x128) off S1x16.size hoff).emb x))) := by
  have e3 := k0_off3_eq c
  have hc := c.isLt
  intro x hx
  by_cases hlt : x.val < 16 * c.val
  · rw [Rect.overlay_of_not_mem]
    · exact h x hlt
    · rw [Rect.mem_set_unit]
      intro hm
      have h1 : k0_off3 (BitVec.ofNat 32 c.val) 0 ≤ x.val := (hm 0).1
      rw [e3] at h1
      exact absurd (show 16 * c.val ≤ x.val from h1) (by omega)
  · have hx' : x.val - 16 * c.val < 16 := by omega
    have hemb : (ix1 x : S128.Idx) = (Rect.unit (s := S128) (k0_off3 (BitVec.ofNat 32 c.val)) S16.size (k0_off3_inb c)).emb (ix1 (n := 16) ⟨x.val - 16 * c.val, hx'⟩) := by
      funext a
      match a with
      | 0 =>
        apply Fin.ext
        show x.val = k0_off3 (BitVec.ofNat 32 c.val) 0 + 1 * (x.val - 16 * c.val)
        rw [e3]
        show x.val = 16 * c.val + 1 * (x.val - 16 * c.val)
        omega
    rw [hemb, Rect.overlay_emb, list_toNat (F := F), emb16 hoff e (ix1 (n := 16) ⟨x.val - 16 * c.val, hx'⟩) x (by show x.val = 16 * c.val + (x.val - 16 * c.val); omega)]

variable (d : Dev nD) (i : grid0.Coords)
variable (xb : Memref sig .scVector .hbm S500000x128 .f32) (ib : Memref sig .scVector .vmem S200x128 .i32) (lb : Memref sig .scVector .vmem S128 .i32)
  (gb : Memref sig .scVector .vmem S128x128 .f32) (gs : DmaSem sig)
variable (X : S500000x128.Idx → F .f32) (XI : S200x128.Idx → BitVec 32) (j : Fin 200)

/-- Sixteen words of a list. -/
theorem wp_fetch1 {off : Fin 8 → Fin 2 → Nat} {hoff : ∀ c a, off c a + S1x16.size a ≤ S200x128.size a} (c : Fin 8)
    (e : ∀ c : Fin 8, off c = ![j.val, 16 * c.val]) {α : Type}
    {k : PUnit → Prog (TpuEff nD τ sig (Elt F) Λ₀ (thr d i).2) α} {Q : α → sProp 𝕄} :
    iprop(Own d i ib fullShare (e := .i32) XI ∗ (∃ L, ⌜ListDone (rowW XI j) c.val L⌝ ∗ Own d i lb fullShare (e := .i32) L))
      ⊢ iprop((Own d i ib fullShare (e := .i32) XI -∗ (∃ L, ⌜ListDone (rowW XI j) (c.val + 1) L⌝ ∗ Own d i lb fullShare (e := .i32) L) -∗ WP d i (k ⟨⟩) Q)
        -∗ WP d i (fetch1 (F := F) i ib lb off hoff c >>= k) Q) := by
  iintro ⟨HI, %L, %h, HL⟩ HK
  unfold fetch1
  simp only [bind_assoc]
  iapply (wp_ld d i (F := F) (X := XI)) $$ HI
  iintro HI
  iapply (wp_ld d i (F := F)) $$ HL
  iintro HL
  iapply (wp_st d i (F := F)) $$ HL
  iintro HL
  iapply HK $$ HI [HL]
  iexists _
  isplitr
  rotate_left
  · iexact HL
  ipureintro
  exact ListDone.step (F := F) (hoff c) (e c) h

/-- The table as a fetch names it. -/
abbrev srcOf (xb : Memref sig .scVector .hbm S500000x128 .f32) : Memref sig .scVector .hbm S500000x128 .f32 :=
  xb.slice (Rect.unit (s := S500000x128) ![0, 0] S500000x128.size inb_S500000x128_S500000x128_0_0) (fun _ => rfl)

/-- A gather of row `j` in flight. -/
abbrev GFly (q : PosShare TreeShare) (N : ℕ) : sProp 𝕄 :=
  Fly d i gs N iprop(Own d i gb fullShare (e := .f32) (gRow X (rowW XI j)) ∗ Own d i (srcOf xb) q (e := .f32) X ∗ (∃ L, Own d i lb fullShare (e := .i32) L))

/-- The buffers of a gather not in flight. -/
abbrev GIdle (q : PosShare TreeShare) : sProp 𝕄 :=
  iprop((∃ G, Own d i gb fullShare (e := .f32) G) ∗ Own d i (srcOf xb) q (e := .f32) X ∗ (∃ L, Own d i lb fullShare (e := .i32) L) ∗ Zero d i gs)

/-- A fetch: from idle buffers to a gather of row `j` in flight. -/
theorem wp_fetch {off : Fin 8 → Fin 2 → Nat} {hoff : ∀ c a, off c a + S1x16.size a ≤ S200x128.size a}
    (e : ∀ c : Fin 8, off c = ![j.val, 16 * c.val]) (hXI : ∀ y, (XI y).toNat < 1000000) (N : ℕ)
    (hN : ∀ hg : S500000x128.Gathers 0 S128x128, ∑ j, (gb.slice (S128x128.rowRect hg.axis' j) (S128x128.stride_rowRect hg.axis' j)).view.dmaCredit = N) {α : Type}
    {k : PUnit → Prog (TpuEff nD τ sig (Elt F) Λ₀ (thr d i).2) α} {Q : α → sProp 𝕄} {q : PosShare TreeShare} :
    iprop(Own d i ib fullShare (e := .i32) XI ∗ GIdle d i xb lb gb gs X q)
      ⊢ iprop((Own d i ib fullShare (e := .i32) XI -∗ GFly d i xb lb gb gs X XI j q N -∗ WP d i (k ⟨⟩) Q)
        -∗ WP d i (fetch (F := F) i xb ib lb gb gs off hoff >>= k) Q) := by
  iintro ⟨HI, ⟨%G, HG⟩, HX, ⟨%L, HL⟩, Hz⟩ HK
  unfold fetch
  simp only [bind_assoc]
  iapply (wp_fetch1 d i ib lb XI j 0 e) $$ [HI HL]
  · isplitl [HI]; · iexact HI
    iexists L; isplitr; · ipureintro; exact fun x hx => absurd hx (by simp)
    iexact HL
  iintro HI HL
  iapply (wp_fetch1 d i ib lb XI j 1 e) $$ [HI HL]
  · isplitl [HI]; · iexact HI
    iexact HL
  iintro HI HL
  iapply (wp_fetch1 d i ib lb XI j 2 e) $$ [HI HL]
  · isplitl [HI]; · iexact HI
    iexact HL
  iintro HI HL
  iapply (wp_fetch1 d i ib lb XI j 3 e) $$ [HI HL]
  · isplitl [HI]; · iexact HI
    iexact HL
  iintro HI HL
  iapply (wp_fetch1 d i ib lb XI j 4 e) $$ [HI HL]
  · isplitl [HI]; · iexact HI
    iexact HL
  iintro HI HL
  iapply (wp_fetch1 d i ib lb XI j 5 e) $$ [HI HL]
  · isplitl [HI]; · iexact HI
    iexact HL
  iintro HI HL
  iapply (wp_fetch1 d i ib lb XI j 6 e) $$ [HI HL]
  · isplitl [HI]; · iexact HI
    iexact HL
  iintro HI HL
  iapply (wp_fetch1 d i ib lb XI j 7 e) $$ [HI HL]
  · isplitl [HI]; · iexact HI
    iexact HL
  iintro HI ⟨%L', %h, HL⟩
  have h8 : ListDone (rowW XI j) 8 L' := h
  have hL : ∀ x : S128.Idx, (L' x).toNat < 500000 := by
    intro x
    have e1 : x = ix1 (n := 128) (x 0) := eq_ix1 x
    rw [e1, h8 (x 0) (by have := (x 0).isLt; simp at this ⊢; omega)]
    have := hXI (ix2 j (x 0))
    show (XI (ix2 j (x 0))).toNat / 2 < 500000
    omega
  iapply (wp_gather d i (F := F) N (hN _) hL) $$ [HX HG HL Hz]
  · isplitl [HX]; · iexact HX
    isplitl [HG]; · iexact HG
    isplitl [HL]; · iexact HL
    iexact Hz
  iintro HF
  iapply HK $$ HI [HF]
  iapply (Transfers.Flight_mono EC (thr d i) ?_) $$ HF
  rw [gathered_eq X h8]
  iintro ⟨HG, HX, HL⟩
  isplitl [HG]; · iexact HG
  isplitl [HX]; · iexact HX
  iexists L'; iexact HL

end Cert.KernelIdeal.Body
-- ==== Proof.KI.Step.lean ====
/-
  A step's run: one row on one set of buffers, from the row's gather in flight to the row's write-out in flight.
-/
module

public import proofs.«01_k».proof.Proof.KI.Fetch

@[expose] public section

noncomputable section

namespace Cert.KernelIdeal.Body

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first column of the tile at `i`. -/
abbrev col (i : grid0.Coords) : ℕ := 256 * (i 1).val + 128 * (i 0).val

theorem blk_inb (i : grid0.Coords) (j : Fin 200) : ∀ a, (![j.val, 0, col i] : Fin 3 → Nat) a + S1x64x128.size a ≤ S200x64x4096.size a := by
  have h0 : (i 0).val < 2 := (i 0).isLt
  have h1 : (i 1).val < 16 := (i 1).isLt
  have hj := j.isLt
  intro a
  match a with
  | 0 => show j.val + 1 ≤ 200; omega
  | 1 => show 0 + 64 ≤ 64; omega
  | 2 => show 256 * (i 1).val + 128 * (i 0).val + 128 ≤ 4096; omega

/-- The block of the result that the tile at `i` writes for row `j`. -/
abbrev blk (ob : Memref sig .scVector .hbm S200x64x4096 .f32) (i : grid0.Coords) (j : Fin 200) : Memref sig .scVector .hbm S64x128 .f32 :=
  outBlk ob ![j.val, 0, col i] (blk_inb i j)

theorem cond1_iff : ∀ t : Fin k0_t1_loop.trips, k0_cond1 t = 1#1 ↔ 0 < t.val := by decide +kernel
theorem cond2_iff : ∀ t : Fin k0_t1_loop.trips, k0_cond2 t = 1#1 ↔ t.val < 49 := by decide +kernel

variable (d : Dev nD) (i : grid0.Coords)
variable (xb : Memref sig .scVector .hbm S500000x128 .f32) (ob : Memref sig .scVector .hbm S200x64x4096 .f32)
  (ib : Memref sig .scVector .vmem S200x128 .i32) (lb : Memref sig .scVector .vmem S128 .i32)
  (gb : Memref sig .scVector .vmem S128x128 .f32) (hgb : gb.IsWhole) (tb : Memref sig .scVector .vmem S64x128 .f32) (htb : tb.IsWhole) (gs os : DmaSem sig)
variable (X : S500000x128.Idx → F .f32) (XI : S200x128.Idx → BitVec 32)

/-- The block of the result for row `j`. -/
abbrev rowT (j : Fin 200) : S64x128.Idx → F .f32 := turned (gRow X (rowW XI j)) (rowW XI j)

/-- What a write-out credits. -/
def NO (ob : Memref sig .scVector .hbm S200x64x4096 .f32) : ℕ :=
  sig.dmaCredit .scVector (Kind.scVector.table .hbm) ob.view.buf S64x128 .f32

theorem credit_outBlk (ob : Memref sig .scVector .hbm S200x64x4096 .f32) (off : Fin 3 → Nat) (hoff : ∀ a, off a + S1x64x128.size a ≤ S200x64x4096.size a) :
    (outBlk ob off hoff).view.dmaCredit = NO ob := rfl

/-- What a gather credits. -/
abbrev NG : ℕ := gb.view.dmaCredit

/-- The gather buffers before row `n`: its gather in flight, or idle after the last row. -/
def GSt (q : PosShare TreeShare) (n : ℕ) : sProp 𝕄 :=
  if h : n < 200 then GFly d i xb lb gb gs X XI ⟨n, h⟩ q (NG gb) else GIdle d i xb lb gb gs X q

/-- The write-out of row `j` in flight. -/
abbrev OFly (j : Fin 200) : sProp 𝕄 :=
  Fly d i os (NO ob) iprop(Own d i (blk ob i j) fullShare (e := .f32) (rowT X XI j) ∗ Own d i tb fullShare (e := .f32) (rowT X XI j))

/-- The transposed block before row `n`: the write-out of the row four before in flight, or idle before the first four. -/
def OSt (n : ℕ) : sProp 𝕄 :=
  if h : 4 ≤ n ∧ n < 204 then OFly d i ob tb os X XI ⟨n - 4, by omega⟩ else iprop((∃ Y, Own d i tb fullShare (e := .f32) Y) ∗ Zero d i os)

/-- The blocks of rows `n, n + 1, …`, at any contents. -/
def Todo (n : ℕ) : sProp 𝕄 := bigSep (Finset.univ.filter fun j : Fin 200 => n ≤ j.val) fun j => iprop(∃ Z, Own (F := F) d i (blk ob i j) fullShare (e := .f32) Z)

/-- The blocks of rows `0, …, n - 1`, written. -/
def Done (n : ℕ) : sProp 𝕄 := bigSep (Finset.univ.filter fun j : Fin 200 => j.val < n) fun j => Own d i (blk ob i j) fullShare (e := .f32) (rowT X XI j)

theorem Todo_take (j : Fin 200) :
    (Todo (F := F) d i ob j.val : sProp 𝕄) = iprop((∃ Z, Own (F := F) d i (blk ob i j) fullShare (e := .f32) Z) ∗ Todo (F := F) d i ob (j.val + 1)) := by
  unfold Todo
  rw [show (Finset.univ.filter fun k : Fin 200 => j.val ≤ k.val) = insert j (Finset.univ.filter fun k : Fin 200 => j.val + 1 ≤ k.val) by
    ext k; simp only [Finset.mem_filter, Finset.mem_univ, true_and, Finset.mem_insert, Fin.ext_iff]; omega]
  exact SparseCore.bigSep_insert' (by simp)

theorem Done_put (j : Fin 200) :
    (Done (F := F) d i ob X XI (j.val + 1) : sProp 𝕄) = iprop(Own d i (blk ob i j) fullShare (e := .f32) (rowT X XI j) ∗ Done (F := F) d i ob X XI j.val) := by
  unfold Done
  rw [show (Finset.univ.filter fun k : Fin 200 => k.val < j.val + 1) = insert j (Finset.univ.filter fun k : Fin 200 => k.val < j.val) by
    ext k; simp only [Finset.mem_filter, Finset.mem_univ, true_and, Finset.mem_insert, Fin.ext_iff]; omega]
  exact SparseCore.bigSep_insert' (by simp)

variable (O : CellTallies nD τ sig (HIx 1)) (W : Waits sig (HIx 1))

/-- The wait for a row's gather. -/
theorem wp_waitG (j : Fin 200) {α : Type} {k : PUnit → Prog (TpuEff nD τ sig (Elt F) Λ₀ (thr d i).2) α} {Q : α → sProp 𝕄} {q : PosShare TreeShare} :
    iprop(GSt d i xb lb gb gs X XI q j.val ∗ Owe (F := F) d i O W ∗ Transfers.MayWaits (thr d i) none O)
      ⊢ iprop((iprop(Own d i gb fullShare (e := .f32) (gRow X (rowW XI j)) ∗ Own d i (srcOf xb) q (e := .f32) X ∗ (∃ L, Own (F := F) d i lb fullShare (e := .i32) L) ∗ Zero (F := F) d i gs ∗ Owe (F := F) d i O W) -∗ WP d i (k ⟨⟩) Q)
        -∗ WP d i (waitG (F := F) i xb gb hgb gs >>= k) Q) := by
  unfold GSt
  rw [dif_pos j.isLt]
  iintro ⟨HG, HO, HM⟩ HK
  unfold waitG SparseCore.waitIndirectGather
  iapply (wp_wt d i (F := F) (NG gb) rfl) $$ [HG HO HM]
  · isplitl [HG]; · iexact HG
    isplitl [HO]; · iexact HO
    iexact HM
  iintro ⟨⟨HG, HX, HL⟩, Hz, HO⟩
  iapply HK
  isplitl [HG]; · iexact HG
  isplitl [HX]; · iexact HX
  isplitl [HL]; · iexact HL
  isplitl [Hz]; · iexact Hz
  iexact HO

/-- The wait for the previous write-out. -/
theorem wp_waitOut (t : Fin k0_t1_loop.trips) (j : Fin 200) (b : Fin 4) (hj : j.val = 4 * t.val + b.val) {α : Type}
    {k : PUnit → Prog (TpuEff nD τ sig (Elt F) Λ₀ (thr d i).2) α} {Q : α → sProp 𝕄} :
    iprop(OSt d i ob tb os X XI j.val ∗ Done (F := F) d i ob X XI (j.val - 4) ∗ Owe (F := F) d i O W ∗ Transfers.MayWaits (thr d i) none O)
      ⊢ iprop((iprop((∃ Y, Own d i tb fullShare (e := .f32) Y) ∗ Zero (F := F) d i os ∗ Done (F := F) d i ob X XI (j.val + 1 - 4) ∗ Owe (F := F) d i O W) -∗ WP d i (k ⟨⟩) Q)
        -∗ WP d i (waitOut (F := F) i ob tb htb os t >>= k) Q) := by
  have hb := b.isLt
  have hjl := j.isLt
  unfold OSt waitOut
  by_cases ht : 0 < t.val
  · rw [dif_pos (by omega : 4 ≤ j.val ∧ j.val < 204), dif_pos ((cond1_iff t).mpr ht)]
    iintro ⟨HF, HD, HO, HM⟩ HK
    iapply (wp_wt d i (F := F) (sem := os) (srcw := tb) (dstw := outBlk ob (k0_off7 i) (k0_off7_inb i t ((cond1_iff t).mpr ht)))
      (hsrc := htb.wordExact) (hdst := (View.wordExact_bits rfl).reshape _ _) (NO ob) (credit_outBlk ob _ _)) $$ [HF HO HM]
    · isplitl [HF]; · iexact HF
      isplitl [HO]; · iexact HO
      iexact HM
    iintro ⟨⟨HB, HT⟩, Hz, HO⟩
    iapply HK
    isplitl [HT]; · iexists _; iexact HT
    isplitl [Hz]; · iexact Hz
    isplitl [HB HD]
    · have e := Done_put (F := F) d i ob X XI ⟨j.val - 4, by omega⟩
      rw [show j.val + 1 - 4 = (j.val - 4) + 1 by omega, e]
      isplitl [HB]; · iexact HB
      iexact HD
    iexact HO
  · rw [dif_neg (by omega : ¬ (4 ≤ j.val ∧ j.val < 204)), dif_neg (fun h => ht ((cond1_iff t).mp h)), pure_bind]
    iintro ⟨⟨HT, Hz⟩, HD, HO, HM⟩ HK
    iapply HK
    isplitl [HT]; · iexact HT
    isplitl [Hz]; · iexact Hz
    isplitl [HD]
    · rw [show j.val + 1 - 4 = j.val - 4 by omega]; iexact HD
    iexact HO

/-- The next gather on the same buffers, if there is a next. -/
theorem wp_fetchIf (t : Fin k0_t1_loop.trips) (j : Fin 200) (b : Fin 4) (hj : j.val = 4 * t.val + b.val)
    {offF : Fin 8 → Fin 2 → Nat} {hoffF : k0_cond2 t = 1#1 → ∀ c a, offF c a + S1x16.size a ≤ S200x128.size a}
    (e : ∀ c : Fin 8, offF c = ![j.val + 4, 16 * c.val]) (hXI : ∀ y, (XI y).toNat < 1000000)
    (hN : ∀ hg : S500000x128.Gathers 0 S128x128, ∑ j, (gb.slice (S128x128.rowRect hg.axis' j) (S128x128.stride_rowRect hg.axis' j)).view.dmaCredit = NG gb) {α : Type}
    {k : PUnit → Prog (TpuEff nD τ sig (Elt F) Λ₀ (thr d i).2) α} {Q : α → sProp 𝕄} {q : PosShare TreeShare} :
    iprop(Own d i ib fullShare (e := .i32) XI ∗ GIdle d i xb lb gb gs X q)
      ⊢ iprop((Own d i ib fullShare (e := .i32) XI -∗ GSt d i xb lb gb gs X XI q (j.val + 4) -∗ WP d i (k ⟨⟩) Q)
        -∗ WP d i (fetchIf (F := F) i xb ib lb gb gs t offF hoffF >>= k) Q) := by
  have hb := b.isLt
  have hjl := j.isLt
  have htl : t.val < 50 := trips50 ▸ t.isLt
  unfold fetchIf GSt
  by_cases ht : t.val < 49
  · rw [dif_pos ((cond2_iff t).mpr ht), dif_pos (by omega : j.val + 4 < 200)]
    exact wp_fetch d i xb ib lb gb gs X XI ⟨j.val + 4, by omega⟩ e hXI (NG gb) hN
  · rw [dif_neg (fun h => ht ((cond2_iff t).mp h)), dif_neg (by omega : ¬ j.val + 4 < 200), pure_bind]
    iintro ⟨HI, HG⟩ HK
    iapply HK $$ HI HG

/-- The start of a row's write-out. -/
theorem wp_send (j : Fin 200) {offO : Fin 3 → Nat} {hoffO : ∀ a, offO a + S1x64x128.size a ≤ S200x64x4096.size a} (e : offO = ![j.val, 0, col i]) {α : Type}
    {k : PUnit → Prog (TpuEff nD τ sig (Elt F) Λ₀ (thr d i).2) α} {Q : α → sProp 𝕄} :
    iprop(Own d i tb fullShare (e := .f32) (rowT X XI j) ∗ Zero (F := F) d i os ∗ Todo (F := F) d i ob j.val)
      ⊢ iprop((OSt d i ob tb os X XI (j.val + 4) -∗ Todo (F := F) d i ob (j.val + 1) -∗ WP d i (k ⟨⟩) Q)
        -∗ WP d i (send (F := F) i ob tb htb os offO hoffO >>= k) Q) := by
  subst e
  rw [Todo_take]
  iintro ⟨HT, Hz, ⟨%Z, HB⟩, HU⟩ HK
  unfold send
  iapply (wp_cp d i (F := F) (src := tb) (dst := blk ob i j) (sem := os) (hsrc := htb.wordExact) (hdst := (View.wordExact_bits rfl).reshape _ _)
    (hsem := ⟨Or.inl rfl, trivial⟩) (NO ob) (credit_outBlk ob _ _) (sig.dmaCredit_pos _ _ _ _ _ (by decide))) $$ [HT Hz HB]
  · isplitl [HT]; · iexact HT
    isplitl [HB]; · iexact HB
    iexact Hz
  iintro HF
  iapply HK $$ [HF] HU
  unfold OSt
  rw [dif_pos (by have := j.isLt; omega : 4 ≤ j.val + 4 ∧ j.val + 4 < 204)]
  iexact HF

/-- What a step takes and, at the next row, gives back. -/
abbrev Bufs (q : PosShare TreeShare) (n : ℕ) : sProp 𝕄 := iprop(GSt d i xb lb gb gs X XI q n ∗ OSt d i ob tb os X XI n)

/-- What the steps share, before row `n`. -/
abbrev Comm (n : ℕ) : sProp 𝕄 :=
  iprop(Own d i ib fullShare (e := .i32) XI ∗ Todo (F := F) d i ob n ∗ Done (F := F) d i ob X XI (n - 4) ∗ Owe (F := F) d i O W)

/-- A step. -/
theorem wp_step (t : Fin k0_t1_loop.trips) (b : Fin 4) (n : ℕ) (hn : n = 4 * t.val + b.val)
    {offT : Fin k0_t2_loop.trips → Fin 2 → Nat} {hoffT : ∀ g a, offT g a + S1x16.size a ≤ S200x128.size a} (eT : ∀ g, offT g = ![4 * t.val + b.val, 16 * g.val])
    {offF : Fin 8 → Fin 2 → Nat} {hoffF : k0_cond2 t = 1#1 → ∀ c a, offF c a + S1x16.size a ≤ S200x128.size a}
    (eF : ∀ c : Fin 8, offF c = ![4 * t.val + b.val + 4, 16 * c.val])
    {offO : Fin 3 → Nat} {hoffO : ∀ a, offO a + S1x64x128.size a ≤ S200x64x4096.size a} (eO : offO = ![4 * t.val + b.val, 0, col i])
    (hXI : ∀ y, (XI y).toNat < 1000000)
    (hN : ∀ hg : S500000x128.Gathers 0 S128x128, ∑ j, (gb.slice (S128x128.rowRect hg.axis' j) (S128x128.stride_rowRect hg.axis' j)).view.dmaCredit = NG gb) {α : Type}
    {k : PUnit → Prog (TpuEff nD τ sig (Elt F) Λ₀ (thr d i).2) α} {Q : α → sProp 𝕄} {q : PosShare TreeShare} :
    iprop(Bufs d i xb ob lb gb tb gs os X XI q n ∗ Comm d i ob ib X XI O W n ∗ Transfers.MayWaits (thr d i) none O)
      ⊢ iprop((Bufs d i xb ob lb gb tb gs os X XI q (n + 4) -∗ Comm d i ob ib X XI O W (n + 1) -∗ WP d i (k ⟨⟩) Q)
        -∗ WP d i (step (F := F) i xb ob ib lb gb hgb tb htb gs os t offT hoffT offF hoffF offO hoffO >>= k) Q) := by
  have htl : t.val < 50 := trips50 ▸ t.isLt
  have hb := b.isLt
  obtain ⟨j, rfl⟩ : ∃ j : Fin 200, n = j.val := ⟨⟨n, by omega⟩, rfl⟩
  rw [← hn] at eO
  simp only [← hn] at eT eF
  iintro ⟨⟨HG, HS⟩, ⟨HI, HU, HD, HO⟩, #HM⟩ HK
  unfold step
  simp only [bind_assoc]
  iapply (wp_waitG d i xb lb gb hgb gs X XI O W j) $$ [HG HO]
  · isplitl [HG]; · iexact HG
    isplitl [HO]; · iexact HO
    iexact HM
  iintro ⟨HG, HX, HL, Hz, HO⟩
  iapply (wp_waitOut d i ob tb htb os X XI O W t j b hn) $$ [HS HD HO]
  · isplitl [HS]; · iexact HS
    isplitl [HD]; · iexact HD
    isplitl [HO]; · iexact HO
    iexact HM
  iintro ⟨⟨%Y, HT⟩, Hzo, HD, HO⟩
  iapply (wp_turn d i ib gb tb (gRow X (rowW XI j)) XI j eT) $$ [HI HG HT]
  · isplitl [HI]; · iexact HI
    isplitl [HG]; · iexact HG
    iexact HT
  iintro HI HG HT
  iapply (wp_fetchIf d i xb ib lb gb gs X XI t j b hn eF hXI hN (q := q)) $$ [HI HG HX HL Hz]
  · isplitl [HI]; · iexact HI
    isplitl [HG]; · iexists _; iexact HG
    isplitl [HX]; · iexact HX
    isplitl [HL]; · iexact HL
    iexact Hz
  iintro HI HG
  iapply (wp_send d i ob tb htb os X XI j eO) $$ [HT Hzo HU]
  · isplitl [HT]; · iexact HT
    isplitl [Hzo]; · iexact Hzo
    iexact HU
  iintro HS HU
  iapply HK $$ [HG HS] [HI HU HD HO]
  · isplitl [HG]; · iexact HG
    iexact HS
  · isplitl [HI]; · iexact HI
    isplitl [HU]; · iexact HU
    isplitl [HD]; · iexact HD
    iexact HO

end Cert.KernelIdeal.Body
-- ==== Proof.KI.Parts.lean ====
/-
  How the three arrays are divided among the thirty-two tiles: the indices by columns, the doubled table by shares,
  the result by columns and then by rows; and what the result holds at the end.
-/
module

public import proofs.«01_k».proof.Proof.KI.Step
public import Idealize.ShloMosaic.Lib.ValueLayout

@[expose] public section

noncomputable section

namespace Cert.KernelIdeal.Body

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The tiles and their columns -/

/-- The grid position of subcore `s` of core `c`. -/
def crd (c : Fin 2) (s : Fin 16) : grid0.Coords := fun
  | 0 => c
  | 1 => s
  | ⟨_ + 2, h⟩ => absurd h (Nat.not_lt.2 (Nat.le_add_left _ _))

theorem col_crd (c : Fin 2) (s : Fin 16) : col (crd c s) = 256 * s.val + 128 * c.val := rfl

theorem col_lt (i : grid0.Coords) (l : Fin 128) : col i + l.val < 4096 := by
  have h0 : (i 0).val < 2 := (i 0).isLt
  have h1 : (i 1).val < 16 := (i 1).isLt
  have hl := l.isLt
  show 256 * (i 1).val + 128 * (i 0).val + l.val < 4096
  omega

/-- Column `l` of the tile at `i`. -/
abbrev colOf (i : grid0.Coords) (l : Fin 128) : Fin 4096 := ⟨col i + l.val, col_lt i l⟩

abbrev iAll : Memref sig .scVector .hbm S200x4096 .i32 := Memref.whole main_v0_scv
abbrev xAll : Memref sig .scVector .hbm S500000x128 .f32 := Memref.whole main_v1_scv
abbrev oAll : Memref sig .scVector .hbm S200x64x4096 .f32 := Memref.whole main_v2_scv

/-- The tile's columns of the indices. -/
abbrev idxBlk (arg2 : Memref sig .scVector .hbm S200x4096 .i32) (i : grid0.Coords) : Memref sig .scVector .hbm S200x128 .i32 :=
  arg2.slice (Rect.unit (s := S200x4096) (k0_off1 i) S200x128.size (k0_off1_inb i)) (fun _ => rfl)

theorem emb_unit3 {off : Fin 3 → ℕ} (hoff : ∀ a, off a + S1x64x128.size a ≤ S200x64x4096.size a) (i : grid0.Coords) (j : Fin 200) (e : off = ![j.val, 0, col i])
    (a : Fin 64) (l : Fin 128) :
    (Rect.unit (s := S200x64x4096) off S1x64x128.size hoff).emb (ix3 (n0 := 1) (n1 := 64) (n2 := 128) 0 a l) = (ix3 j a (colOf i l) : S200x64x4096.Idx) := by
  subst e
  funext b
  match b with
  | 0 => apply Fin.ext; show j.val + 1 * 0 = j.val; omega
  | 1 => apply Fin.ext; show 0 + 1 * a.val = a.val; omega
  | 2 => apply Fin.ext; show col i + 1 * l.val = col i + l.val; omega

/-- A place of the tile's block for row `j`, as a place of the result. -/
theorem emb_blk (i : grid0.Coords) (j : Fin 200) (y : S64x128.Idx) :
    (blk oAll i j).view.emb y = (ix3 j (y 0) (colOf i (y 1)) : S200x64x4096.Idx) := by
  obtain ⟨a, l, rfl⟩ : ∃ (a : Fin 64) (l : Fin 128), y = ix2 a l := ⟨y 0, y 1, eq_ix2 (n0 := 64) (n1 := 128) y⟩
  show (Rect.unit (s := S200x64x4096) ![j.val, 0, col i] S1x64x128.size (blk_inb i j)).emb (Shape.reshapeEquiv _ (ix2 a l : S64x128.Idx)) = _
  rw [reshapeEquiv_ix2_1ab]
  exact emb_unit3 (blk_inb i j) i j rfl a l

theorem emb_unit2 {off : Fin 2 → ℕ} (hoff : ∀ a, off a + S200x128.size a ≤ S200x4096.size a) (i : grid0.Coords) (e : off = ![0, col i])
    (j : Fin 200) (l : Fin 128) :
    (Rect.unit (s := S200x4096) off S200x128.size hoff).emb (ix2 (n0 := 200) (n1 := 128) j l) = (ix2 j (colOf i l) : S200x4096.Idx) := by
  subst e
  funext b
  match b with
  | 0 => apply Fin.ext; show 0 + 1 * j.val = j.val; omega
  | 1 => apply Fin.ext; show col i + 1 * l.val = col i + l.val; omega

/-- A place of the tile's indices, as a place of the indices. -/
theorem emb_idx (i : grid0.Coords) (y : S200x128.Idx) :
    (idxBlk iAll i).view.emb y = (ix2 (y 0) (colOf i (y 1)) : S200x4096.Idx) := by
  obtain ⟨j, l, rfl⟩ : ∃ (j : Fin 200) (l : Fin 128), y = ix2 j l := ⟨y 0, y 1, eq_ix2 (n0 := 200) (n1 := 128) y⟩
  exact emb_unit2 (k0_off1_inb i) i (k0_off1_eq i) j l

theorem emb_src (y : S500000x128.Idx) : (srcOf xAll).view.emb y = y := by
  funext b
  match b with
  | 0 => apply Fin.ext; show 0 + 1 * (y 0).val = (y 0).val; omega
  | 1 => apply Fin.ext; show 0 + 1 * (y 1).val = (y 1).val; omega

/-! ## The parts are disjoint and make the whole -/

abbrev iSet (p : Fin 2 × Fin 16) : Finset S200x4096.Idx := (idxBlk iAll (crd p.1 p.2)).view.set
abbrev oSet (p : (Fin 2 × Fin 16) × Fin 200) : Finset S200x64x4096.Idx := (blk oAll (crd p.1.1 p.1.2) p.2).view.set

theorem mem_iSet (p : Fin 2 × Fin 16) (x : S200x4096.Idx) :
    x ∈ iSet p ↔ 256 * p.2.val + 128 * p.1.val ≤ (x 1).val ∧ (x 1).val < 256 * p.2.val + 128 * p.1.val + 128 := by
  constructor
  · intro h
    obtain ⟨y, -, rfl⟩ := Finset.mem_map.mp h
    rw [emb_idx]
    have : (y 1).val < 128 := (y 1).isLt
    show _ ≤ 256 * p.2.val + 128 * p.1.val + (y 1).val ∧ 256 * p.2.val + 128 * p.1.val + (y 1).val < _
    omega
  · rintro ⟨h1, h2⟩
    refine Finset.mem_map.mpr ⟨ix2 (n0 := 200) (n1 := 128) (x 0) ⟨(x 1).val - (256 * p.2.val + 128 * p.1.val), by omega⟩, Finset.mem_univ _, (emb_idx _ _).trans ?_⟩
    funext b
    match b with
    | 0 => rfl
    | 1 => apply Fin.ext; show 256 * p.2.val + 128 * p.1.val + ((x 1).val - (256 * p.2.val + 128 * p.1.val)) = (x 1).val; omega

theorem mem_oSet (p : (Fin 2 × Fin 16) × Fin 200) (x : S200x64x4096.Idx) :
    x ∈ oSet p ↔ (x 0).val = p.2.val ∧ 256 * p.1.2.val + 128 * p.1.1.val ≤ (x 2).val ∧ (x 2).val < 256 * p.1.2.val + 128 * p.1.1.val + 128 := by
  constructor
  · intro h
    obtain ⟨y, -, rfl⟩ := Finset.mem_map.mp h
    rw [emb_blk]
    have : (y 1).val < 128 := (y 1).isLt
    refine ⟨rfl, ?_⟩
    show _ ≤ 256 * p.1.2.val + 128 * p.1.1.val + (y 1).val ∧ 256 * p.1.2.val + 128 * p.1.1.val + (y 1).val < _
    omega
  · rintro ⟨h0, h1, h2⟩
    refine Finset.mem_map.mpr ⟨ix2 (n0 := 64) (n1 := 128) (x 1) ⟨(x 2).val - (256 * p.1.2.val + 128 * p.1.1.val), by omega⟩, Finset.mem_univ _, (emb_blk _ _ _).trans ?_⟩
    funext b
    match b with
    | 0 => apply Fin.ext; exact h0.symm
    | 1 => rfl
    | 2 => apply Fin.ext; show 256 * p.1.2.val + 128 * p.1.1.val + ((x 2).val - (256 * p.1.2.val + 128 * p.1.1.val)) = (x 2).val; omega

theorem tile_inj {p p' : Fin 2 × Fin 16} {n : ℕ} (h1 : 256 * p.2.val + 128 * p.1.val ≤ n) (h2 : n < 256 * p.2.val + 128 * p.1.val + 128)
    (h1' : 256 * p'.2.val + 128 * p'.1.val ≤ n) (h2' : n < 256 * p'.2.val + 128 * p'.1.val + 128) : p = p' := by
  have := p.1.isLt; have := p'.1.isLt
  exact Prod.ext (Fin.ext (by omega)) (Fin.ext (by omega))

theorem tile_of {n : ℕ} (h : n < 4096) : ∃ p : Fin 2 × Fin 16, 256 * p.2.val + 128 * p.1.val ≤ n ∧ n < 256 * p.2.val + 128 * p.1.val + 128 :=
  ⟨(⟨n / 128 % 2, by omega⟩, ⟨n / 256, by omega⟩), by show 256 * (n / 256) + 128 * (n / 128 % 2) ≤ n; omega,
    by show n < 256 * (n / 256) + 128 * (n / 128 % 2) + 128; omega⟩

theorem iSet_disjoint : ∀ p ∈ (Finset.univ : Finset (Fin 2 × Fin 16)), ∀ p' ∈ (Finset.univ : Finset (Fin 2 × Fin 16)), p ≠ p' → Disjoint (iSet p) (iSet p') := by
  intro p _ p' _ hne
  refine Finset.disjoint_left.mpr fun x h h' => hne ?_
  have h := (mem_iSet p x).mp h
  have h' := (mem_iSet p' x).mp h'
  exact tile_inj h.1 h.2 h'.1 h'.2

theorem iSet_cover : (Finset.univ : Finset (Fin 2 × Fin 16)).biUnion iSet = Finset.univ := by
  refine Finset.eq_univ_iff_forall.mpr fun x => ?_
  obtain ⟨p, hp⟩ := tile_of (show (x 1).val < 4096 from (x 1).isLt)
  exact Finset.mem_biUnion.mpr ⟨p, Finset.mem_univ _, (mem_iSet p x).mpr hp⟩

theorem oSet_disjoint : ∀ p ∈ (Finset.univ : Finset ((Fin 2 × Fin 16) × Fin 200)), ∀ p' ∈ (Finset.univ : Finset ((Fin 2 × Fin 16) × Fin 200)),
    p ≠ p' → Disjoint (oSet p) (oSet p') := by
  intro p _ p' _ hne
  refine Finset.disjoint_left.mpr fun x h h' => hne ?_
  have h := (mem_oSet p x).mp h
  have h' := (mem_oSet p' x).mp h'
  exact Prod.ext (tile_inj h.2.1 h.2.2 h'.2.1 h'.2.2) (Fin.ext (h.1.symm.trans h'.1))

/-- Every place of the result is in a tile's block. -/
theorem exists_oSet (x : S200x64x4096.Idx) : ∃ p, x ∈ oSet p := by
  have h2 : (x 2).val < 4096 := (x 2).isLt
  obtain ⟨p, hp⟩ := tile_of h2
  exact ⟨(p, x 0), (mem_oSet (p, x 0) x).mpr ⟨rfl, hp⟩⟩

/-- Sets that between them hold every place make the whole. -/
theorem cover_of {α β : Type} [Fintype α] [Fintype β] [DecidableEq β] (A : α → Finset β) (h : ∀ x, ∃ p, x ∈ A p) :
    (Finset.univ : Finset α).biUnion A = Finset.univ :=
  Finset.eq_univ_iff_forall.mpr fun x => Finset.mem_biUnion.mpr ((h x).imp fun p hp => ⟨Finset.mem_univ p, hp⟩)

theorem oSet_cover : (Finset.univ : Finset ((Fin 2 × Fin 16) × Fin 200)).biUnion oSet = Finset.univ := cover_of oSet exists_oSet

/-! ## The arrays -/

abbrev iLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

/-- The share of the doubled table that buffer set `b` of the tile at (c, s) reads through. -/
def xq (c : Fin 2) (s : Fin 16) (b : Fin 4) : PosShare TreeShare :=
  Transfers.dealOf (Transfers.dealOf (Transfers.dealOf fullShare Finset.univ c) Finset.univ s) Finset.univ b

variable (XT : S200x4096.Idx → BitVec 32) (X2 : S500000x128.Idx → F .f32)

/-- A tile's part of the arrays, the result at contents `f`. -/
def Part (d : Dev nD) (f : S200x64x4096.Idx → F .f32) (c : Fin 2) (s : Fin 16) : sProp 𝕄 :=
  iprop((iLoc d ↦[iSet (c, s)]{fullShare} (XT : Buf (Elt F) (iLoc d)))
    ∗ (bigSep Finset.univ fun b : Fin 4 => xLoc d ↦{xq c s b} (X2 : Buf (Elt F) (xLoc d)))
    ∗ bigSep Finset.univ fun j : Fin 200 => oLoc d ↦[oSet ((c, s), j)]{fullShare} (f : Buf (Elt F) (oLoc d)))

theorem iPts_parts (d : Dev nD) :
    (iLoc d ↦{fullShare} (XT : Buf (Elt F) (iLoc d)) : sProp 𝕄)
      = bigSep Finset.univ fun c : Fin 2 => bigSep Finset.univ fun s : Fin 16 => iLoc d ↦[iSet (c, s)]{fullShare} (XT : Buf (Elt F) (iLoc d)) := by
  refine Eq.trans ?_ (SparseCore.bigSep_product Finset.univ Finset.univ
    (fun p : Fin 2 × Fin 16 => (iLoc d ↦[iSet p]{fullShare} (XT : Buf (Elt F) (iLoc d)) : sProp 𝕄)))
  rw [Finset.univ_product_univ, ← pointsTo_biUnion Finset.univ (ℓ := iLoc d) iSet iSet_disjoint, iSet_cover]

theorem oPts_parts (d : Dev nD) (f : S200x64x4096.Idx → F .f32) :
    (oLoc d ↦{fullShare} (f : Buf (Elt F) (oLoc d)) : sProp 𝕄)
      = bigSep Finset.univ fun c : Fin 2 => bigSep Finset.univ fun s : Fin 16 => bigSep Finset.univ fun j : Fin 200 =>
          oLoc d ↦[oSet ((c, s), j)]{fullShare} (f : Buf (Elt F) (oLoc d)) := by
  refine Eq.trans ?_ (SparseCore.bigSep_product Finset.univ Finset.univ
    (fun p : Fin 2 × Fin 16 => bigSep Finset.univ fun j : Fin 200 => (oLoc d ↦[oSet (p, j)]{fullShare} (f : Buf (Elt F) (oLoc d)) : sProp 𝕄)))
  rw [Finset.univ_product_univ]
  refine Eq.trans ?_ (SparseCore.bigSep_product Finset.univ Finset.univ
    (fun p : (Fin 2 × Fin 16) × Fin 200 => (oLoc d ↦[oSet p]{fullShare} (f : Buf (Elt F) (oLoc d)) : sProp 𝕄)))
  rw [Finset.univ_product_univ, ← pointsTo_biUnion Finset.univ (ℓ := oLoc d) oSet oSet_disjoint, oSet_cover]

theorem xPts_parts (d : Dev nD) :
    (xLoc d ↦{fullShare} (X2 : Buf (Elt F) (xLoc d)) : sProp 𝕄)
      = bigSep Finset.univ fun c : Fin 2 => bigSep Finset.univ fun s : Fin 16 => bigSep Finset.univ fun b : Fin 4 =>
          xLoc d ↦{xq c s b} (X2 : Buf (Elt F) (xLoc d)) := by
  rw [Transfers.pointsTo_deal Finset.univ ⟨(0 : Fin 2), Finset.mem_univ _⟩ fullShare]
  refine bigSep_congr fun c _ => ?_
  rw [Transfers.pointsTo_deal Finset.univ ⟨(0 : Fin 16), Finset.mem_univ _⟩ (Transfers.dealOf fullShare Finset.univ c)]
  refine bigSep_congr fun s _ => ?_
  rw [Transfers.pointsTo_deal Finset.univ ⟨(0 : Fin 4), Finset.mem_univ _⟩ (Transfers.dealOf (Transfers.dealOf fullShare Finset.univ c) Finset.univ s)]
  rfl

/-- The three arrays whole are the thirty-two tiles' parts. -/
theorem parts_eq (d : Dev nD) (f : S200x64x4096.Idx → F .f32) :
    (iprop((iLoc d ↦{fullShare} (XT : Buf (Elt F) (iLoc d))) ∗ (xLoc d ↦{fullShare} (X2 : Buf (Elt F) (xLoc d))) ∗ oLoc d ↦{fullShare} (f : Buf (Elt F) (oLoc d))) : sProp 𝕄)
      = bigSep Finset.univ fun c : Fin 2 => bigSep Finset.univ fun s : Fin 16 => Part XT X2 d f c s := by
  rw [iPts_parts, xPts_parts, oPts_parts]
  unfold Part
  simp only [bigSep_sep']

/-! ## What the tile reads and leaves -/

/-- The result: place (j, a, n) is entry a of the table row that index (j, n) names, read from the doubled table, times
    eight. -/
def outOf : S200x64x4096.Idx → F .f32 := fun y =>
  times8 (X2 (ix2 ⟨(XT (ix2 (n0 := 200) (n1 := 4096) (y 0) (y 2))).toNat / 2 % 500000, Nat.mod_lt _ (by decide)⟩
    ⟨(XT (ix2 (n0 := 200) (n1 := 4096) (y 0) (y 2))).toNat % 2 * 64 + (y 1).val, by have : (y 1).val < 64 := (y 1).isLt; omega⟩))

/-- The tile's indices. -/
def idxOf (i : grid0.Coords) : S200x128.Idx → BitVec 32 := fun y => XT (ix2 (n0 := 200) (n1 := 4096) (y 0) (colOf i (y 1)))

/-- A memref's places at contents that read the same through it. -/
theorem owns_at (d : Dev nD) (i : grid0.Coords) {sp : Space} {sh : Shape} {e : EltTy} (m : Memref sig .scVector sp sh e) (q : PosShare TreeShare)
    (f : m.view.ty.Contents (Elt F)) : (Own d i m q (m.view.read (Elt F) f) : sProp 𝕄) = m.view.loc (thr d i) ↦[m.view.set]{q} f := by
  have h₁ : iprop(∃ g, ⌜m.view.read (Elt F) g = m.view.read (Elt F) f⌝ ∗ (m.view.loc (thr d i) ↦[m.view.set]{q} g))
      ⊢ (m.view.loc (thr d i) ↦[m.view.set]{q} f : sProp 𝕄) := by
    iintro ⟨%g, %h, H⟩
    have e : (m.view.loc (thr d i) ↦[m.view.set]{q} f : sProp 𝕄) = m.view.loc (thr d i) ↦[m.view.set]{q} g := by
      refine pointsTo_congr fun x hx => ?_
      obtain ⟨y, -, rfl⟩ := Finset.mem_map.mp hx
      have := congrFun h y
      rw [View.read_apply, View.read_apply] at this
      exact (cast_bijective _).1 this.symm
    rw [e]
    iexact H
  exact BI.equiv_iff.mp ⟨h₁, owns_intro (thr d i) m q f⟩

theorem own_idx (d : Dev nD) (c : Fin 2) (s : Fin 16) :
    (Own d (crd c s) (idxBlk iAll (crd c s)) fullShare (e := .i32) (idxOf XT (crd c s)) : sProp 𝕄)
      = iLoc d ↦[iSet (c, s)]{fullShare} (XT : Buf (Elt F) (iLoc d)) := by
  have e : idxOf XT (crd c s) = (idxBlk iAll (crd c s)).view.read (Elt F) (XT : Buf (Elt F) (iLoc d)) := by
    funext y
    rw [View.read_apply, emb_idx]
    rfl
  rw [e]
  exact owns_at d (crd c s) (idxBlk iAll (crd c s)) fullShare _

theorem own_src (d : Dev nD) (c : Fin 2) (s : Fin 16) (q : PosShare TreeShare) :
    (Own d (crd c s) (srcOf xAll) q (e := .f32) X2 : sProp 𝕄) = xLoc d ↦{q} (X2 : Buf (Elt F) (xLoc d)) := by
  have e : X2 = (srcOf xAll).view.read (Elt F) (X2 : Buf (Elt F) (xLoc d)) := by
    funext y
    rw [View.read_apply, emb_src]
    rfl
  have hs : (srcOf xAll).view.set = Finset.univ :=
    Finset.eq_univ_iff_forall.mpr fun x => Finset.mem_map.mpr ⟨x, Finset.mem_univ _, emb_src x⟩
  conv_lhs => rw [e]
  refine (owns_at d (crd c s) (srcOf xAll) q _).trans ?_
  rw [hs]

theorem own_blk (d : Dev nD) (c : Fin 2) (s : Fin 16) (j : Fin 200) :
    (Own d (crd c s) (blk oAll (crd c s) j) fullShare (e := .f32) (rowT X2 (idxOf XT (crd c s)) j) : sProp 𝕄)
      = oLoc d ↦[oSet ((c, s), j)]{fullShare} (outOf XT X2 : Buf (Elt F) (oLoc d)) := by
  have e : rowT X2 (idxOf XT (crd c s)) j = (blk oAll (crd c s) j).view.read (Elt F) (outOf XT X2 : Buf (Elt F) (oLoc d)) := by
    funext y
    rw [View.read_apply, emb_blk]
    rfl
  rw [e]
  exact owns_at d (crd c s) (blk oAll (crd c s) j) fullShare _

theorem blk_own (d : Dev nD) (c : Fin 2) (s : Fin 16) (j : Fin 200) (f : S200x64x4096.Idx → F .f32) :
    (oLoc d ↦[oSet ((c, s), j)]{fullShare} (f : Buf (Elt F) (oLoc d)) : sProp 𝕄) ⊢ iprop(∃ Z, Own d (crd c s) (blk oAll (crd c s) j) fullShare (e := .f32) Z) := by
  iintro H
  iexists (blk oAll (crd c s) j).view.read (Elt F) (f : Buf (Elt F) (oLoc d))
  iapply (Entails.of_eq (owns_at d (crd c s) (blk oAll (crd c s) j) fullShare (f : Buf (Elt F) (oLoc d))).symm)
  iexact H

/-- The result's blocks at any contents are all still to write. -/
theorem todo_of (d : Dev nD) (c : Fin 2) (s : Fin 16) (f : S200x64x4096.Idx → F .f32) :
    (bigSep Finset.univ fun j : Fin 200 => (oLoc d ↦[oSet ((c, s), j)]{fullShare} (f : Buf (Elt F) (oLoc d)) : sProp 𝕄)) ⊢ Todo (F := F) d (crd c s) oAll 0 := by
  unfold Todo
  rw [Finset.filter_true_of_mem (fun j _ => Nat.zero_le _)]
  exact bigSep_mono fun j _ => blk_own d c s j f

/-- All two hundred blocks written are the result's columns at `outOf`. -/
theorem done_eq (d : Dev nD) (c : Fin 2) (s : Fin 16) :
    Done (F := F) d (crd c s) oAll X2 (idxOf XT (crd c s)) 200
      = bigSep Finset.univ fun j : Fin 200 => (oLoc d ↦[oSet ((c, s), j)]{fullShare} (outOf XT X2 : Buf (Elt F) (oLoc d)) : sProp 𝕄) := by
  unfold Done
  rw [Finset.filter_true_of_mem (fun j _ => j.isLt)]
  exact bigSep_congr fun j _ => own_blk XT X2 d c s j

end Cert.KernelIdeal.Body
-- ==== Proof.KI.TaskEq.lean ====
/-
  The printed body of the embedding kernel's task is `task`: the four rows of a group on the four buffers, fifty
  groups, between the fetch of the indices with the first four gathers and the last four waits.
-/
module

public import proofs.«01_k».proof.Proof.KI.Prog

@[expose] public section

noncomputable section

namespace Cert.KernelIdeal.Body

open Cert.KernelIdeal Cert.KernelIdeal.Gen
open Idealize.ShloMosaic Idealize.SL.Sem

variable {F : FTy → Type} [FloatOps F]

section Eqs

variable (i : grid0.Coords) (arg2 : Memref sig .scVector .hbm S200x4096 .i32) (harg2 : arg2.IsWhole) (arg3 : Memref sig .scVector .hbm S500000x128 .f32) (harg3 : arg3.IsWhole) (arg4 : Memref sig .scVector .hbm S200x64x4096 .f32) (harg4 : arg4.IsWhole) (arg5 : Memref sig .scVector .vmem S200x128 .i32) (harg5 : arg5.IsWhole) (arg6 : Memref sig .scVector .vmem S128 .i32) (harg6 : arg6.IsWhole) (arg7 : Memref sig .scVector .vmem S128 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S64x128 .f32) (harg14 : arg14.IsWhole) (arg15 : Memref sig .scVector .vmem S64x128 .f32) (harg15 : arg15.IsWhole) (arg16 : Memref sig .scVector .vmem S64x128 .f32) (harg16 : arg16.IsWhole) (arg17 : Memref sig .scVector .vmem S64x128 .f32) (harg17 : arg17.IsWhole) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (v285_r0 : DmaSems sig S_)

/-- Four rows, one per buffer. -/
def steps (t : Fin k0_t1_loop.trips) : TileProg F i PUnit := do
  step i arg3 arg4 arg5 arg6 arg10 harg10 arg14 harg14 arg18.sem arg22.sem t (k0_off8 t) (k0_off8_inb t)
    (fun c => k0_off9 t (BitVec.ofNat 32 c.val)) (k0_off9_inb t) (k0_off11 i t 0#32) (k0_off11_inb i t 0)
  step i arg3 arg4 arg5 arg7 arg11 harg11 arg15 harg15 arg19.sem arg23.sem t (k0_off13 t) (k0_off13_inb t)
    (fun c => k0_off14 t (BitVec.ofNat 32 c.val)) (k0_off14_inb t) (k0_off11 i t 1#32) (k0_off11_inb i t 1)
  step i arg3 arg4 arg5 arg8 arg12 harg12 arg16 harg16 arg20.sem arg24.sem t (k0_off17 t) (k0_off17_inb t)
    (fun c => k0_off18 t (BitVec.ofNat 32 c.val)) (k0_off18_inb t) (k0_off11 i t 2#32) (k0_off11_inb i t 2)
  step i arg3 arg4 arg5 arg9 arg13 harg13 arg17 harg17 arg21.sem arg25.sem t (k0_off21 t) (k0_off21_inb t)
    (fun c => k0_off22 t (BitVec.ofNat 32 c.val)) (k0_off22_inb t) (k0_off11 i t 3#32) (k0_off11_inb i t 3)

set_option maxRecDepth 65536 in
set_option maxHeartbeats 4000000 in
/-- The printed part that holds the first row and half of the second. -/
theorem part77_eq (v1 : BitVec 32) (t : Fin k0_t1_loop.trips) : ∃ r,
    k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes 0#32 1#32 t = (do
      waitG i arg3 arg10 harg10 arg18.sem
      waitOut i arg4 arg14 harg14 arg22.sem t
      turn i arg5 arg10 arg14 (k0_off8 t) (k0_off8_inb t)
      fetchIf i arg3 arg5 arg6 arg10 arg18.sem t (fun c => k0_off9 t (BitVec.ofNat 32 c.val)) (k0_off9_inb t)
      send i arg4 arg14 harg14 arg22.sem (k0_off11 i t 0#32) (k0_off11_inb i t 0)
      waitG i arg3 arg11 harg11 arg19.sem
      waitOut i arg4 arg15 harg15 arg23.sem t
      turn i arg5 arg11 arg15 (k0_off13 t) (k0_off13_inb t)
      pure r) := by
  rw [k0_part77_eq_skeleton]
  unfold k0_part77_skel
  apply Exists.intro
  refine congrArg (Prog.op _) (funext fun _ => ?_)
  refine ite_rest (fun h => rfl) ?_
  refine congrArg (Prog.bind _) (funext fun _ => ?_)
  refine ite_rest (fun h => rfl) ?_
  refine congrArg (Prog.op _) (funext fun _ => ?_)
  refine congrArg (Prog.op _) (funext fun _ => ?_)
  refine ite_rest (fun h => rfl) ?_
  rfl

set_option maxRecDepth 65536 in
set_option maxHeartbeats 4000000 in
/-- The printed part that holds the rest of the second row, the third, and the first wait of the fourth. -/
theorem part78_eq (v1 : BitVec 32) (t : Fin k0_t1_loop.trips) (x y : BitVec 32) (z : BitVec 1) : ∃ r,
    k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes t x y z = (do
      fetchIf i arg3 arg5 arg7 arg11 arg19.sem t (fun c => k0_off14 t (BitVec.ofNat 32 c.val)) (k0_off14_inb t)
      send i arg4 arg15 harg15 arg23.sem (k0_off11 i t 1#32) (k0_off11_inb i t 1)
      waitG i arg3 arg12 harg12 arg20.sem
      waitOut i arg4 arg16 harg16 arg24.sem t
      turn i arg5 arg12 arg16 (k0_off17 t) (k0_off17_inb t)
      fetchIf i arg3 arg5 arg8 arg12 arg20.sem t (fun c => k0_off18 t (BitVec.ofNat 32 c.val)) (k0_off18_inb t)
      send i arg4 arg16 harg16 arg24.sem (k0_off11 i t 2#32) (k0_off11_inb i t 2)
      waitG i arg3 arg13 harg13 arg21.sem
      pure r) := by
  rw [k0_part78_eq_skeleton]
  unfold k0_part78_skel
  apply Exists.intro
  refine ite_rest (fun h => rfl) ?_
  refine congrArg (Prog.op _) (funext fun _ => ?_)
  refine congrArg (Prog.op _) (funext fun _ => ?_)
  refine ite_rest (fun h => rfl) ?_
  refine congrArg (Prog.bind _) (funext fun _ => ?_)
  refine ite_rest (fun h => rfl) ?_
  refine congrArg (Prog.op _) (funext fun _ => ?_)
  rfl

/-- The end of the fourth row. -/
def lastRow (t : Fin k0_t1_loop.trips) : TileProg F i PUnit := do
  waitOut i arg4 arg17 harg17 arg25.sem t
  turn i arg5 arg13 arg17 (k0_off21 t) (k0_off21_inb t)
  fetchIf i arg3 arg5 arg9 arg13 arg21.sem t (fun c => k0_off22 t (BitVec.ofNat 32 c.val)) (k0_off22_inb t)
  send i arg4 arg17 harg17 arg25.sem (k0_off11 i t 3#32) (k0_off11_inb i t 3)

set_option maxRecDepth 65536 in
set_option maxHeartbeats 4000000 in
/-- A pass of the printed loop over groups of four rows is `steps`. -/
theorem t1_body_eq (v1 : BitVec 32) (t : Fin k0_t1_loop.trips) (u : Unit) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes t u
      = steps i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t := by
  unfold k0_t1_body
  obtain ⟨r, hr⟩ := part77_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 t (F := F)
  rw [hr]
  obtain ⟨q, hq⟩ := part78_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 t r.1 r.2.1 r.2.2 (F := F)
  have hl : (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes t r.1 r.2.1 r.2.2 >>= fun _ => lastRow i arg3 arg4 arg5 arg9 arg13 arg17 harg17 arg21 arg25 t) =
      (do
      fetchIf i arg3 arg5 arg7 arg11 arg19.sem t (fun c => k0_off14 t (BitVec.ofNat 32 c.val)) (k0_off14_inb t)
      send i arg4 arg15 harg15 arg23.sem (k0_off11 i t 1#32) (k0_off11_inb i t 1)
      step i arg3 arg4 arg5 arg8 arg12 harg12 arg16 harg16 arg20.sem arg24.sem t (k0_off17 t) (k0_off17_inb t)
        (fun c => k0_off18 t (BitVec.ofNat 32 c.val)) (k0_off18_inb t) (k0_off11 i t 2#32) (k0_off11_inb i t 2)
      step i arg3 arg4 arg5 arg9 arg13 harg13 arg17 harg17 arg21.sem arg25.sem t (k0_off21 t) (k0_off21_inb t)
        (fun c => k0_off22 t (BitVec.ofNat 32 c.val)) (k0_off22_inb t) (k0_off11 i t 3#32) (k0_off11_inb i t 3)) := by
    rw [hq]
    simp only [step, lastRow, bind_assoc, pure_bind]
  refine Eq.trans (b := do
      waitG i arg3 arg10 harg10 arg18.sem
      waitOut i arg4 arg14 harg14 arg22.sem t
      turn i arg5 arg10 arg14 (k0_off8 t) (k0_off8_inb t)
      fetchIf i arg3 arg5 arg6 arg10 arg18.sem t (fun c => k0_off9 t (BitVec.ofNat 32 c.val)) (k0_off9_inb t)
      send i arg4 arg14 harg14 arg22.sem (k0_off11 i t 0#32) (k0_off11_inb i t 0)
      waitG i arg3 arg11 harg11 arg19.sem
      waitOut i arg4 arg15 harg15 arg23.sem t
      turn i arg5 arg11 arg15 (k0_off13 t) (k0_off13_inb t)
      let _ ← k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes t r.1 r.2.1 r.2.2
      lastRow i arg3 arg4 arg5 arg9 arg13 arg17 harg17 arg21 arg25 t) ?_ ?_
  · simp only [bind_assoc, pure_bind]
    refine congrArg (Bind.bind _) (funext fun _ => ?_)
    refine congrArg (Bind.bind _) (funext fun _ => ?_)
    refine congrArg (Bind.bind _) (funext fun _ => ?_)
    refine congrArg (Bind.bind _) (funext fun _ => ?_)
    refine congrArg (Bind.bind _) (funext fun _ => ?_)
    refine congrArg (Bind.bind _) (funext fun _ => ?_)
    refine congrArg (Bind.bind _) (funext fun _ => ?_)
    refine congrArg (Bind.bind _) (funext fun _ => ?_)
    refine congrArg (Bind.bind _) (funext fun _ => ?_)
    refine ite_rest (fun h => rfl) ?_
    refine congrArg (Prog.bind _) (funext fun _ => ?_)
    refine ite_rest (fun h => rfl) ?_
    rfl
  · unfold steps
    simp only [hl]
    simp only [step, bind_assoc, pure_bind]

/-- The last wait on one buffer's write-out. -/
def drain (tb : Memref sig .scVector .vmem S64x128 .f32) (htb : tb.IsWhole) (os : DmaSem sig) : TileProg F i PUnit :=
  Prog.lift (.waitDma2 os tb (outBlk arg4 (k0_off24 i) (k0_off24_inb i)) htb.wordExact ((View.wordExact_bits rfl).reshape _ _))

/-- Fetch the indices of the tile's columns. -/
def indices : TileProg F i PUnit := do
  Prog.lift (.enqueueDma (arg2.slice (Rect.unit (s := S200x4096) (k0_off1 i) S200x128.size (k0_off1_inb i)) (fun _ => rfl)) (.here arg5) (.dma v285_r0.sem)
    (View.wordExact_bits rfl) harg5.wordExact ⟨Or.inl rfl, trivial⟩)
  Prog.lift (.waitDma2 v285_r0.sem (arg2.slice (Rect.unit (s := S200x4096) (k0_off1 i) S200x128.size (k0_off1_inb i)) (fun _ => rfl)) arg5
    (View.wordExact_bits rfl) harg5.wordExact)

/-- Start the first four gathers. -/
def fetches : TileProg F i PUnit := do
  fetch i arg3 arg5 arg6 arg10 arg18.sem (fun c => k0_off2 (BitVec.ofNat 32 c.val)) k0_off2_inb
  fetch i arg3 arg5 arg7 arg11 arg19.sem (fun c => k0_off4 (BitVec.ofNat 32 c.val)) k0_off4_inb
  fetch i arg3 arg5 arg8 arg12 arg20.sem (fun c => k0_off5 (BitVec.ofNat 32 c.val)) k0_off5_inb
  fetch i arg3 arg5 arg9 arg13 arg21.sem (fun c => k0_off6 (BitVec.ofNat 32 c.val)) k0_off6_inb

/-- The four last waits. -/
def drains : TileProg F i PUnit := do
  drain i arg4 arg14 harg14 arg22.sem
  drain i arg4 arg15 harg15 arg23.sem
  drain i arg4 arg16 harg16 arg24.sem
  drain i arg4 arg17 harg17 arg25.sem

/-- The task: fetch the indices, start four gathers, the fifty groups, and the four last waits. -/
def task : TileProg F i PUnit := do
  indices i arg2 arg5 harg5 v285_r0
  fetches i arg3 arg5 arg6 arg7 arg8 arg9 arg10 arg11 arg12 arg13 arg18 arg19 arg20 arg21
  Scf.Loop.for k0_t1_loop k0_t1_ok ⟨⟩ (fun t _ =>
    steps i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t)
  drains i arg4 arg14 harg14 arg15 harg15 arg16 harg16 arg17 harg17 arg22 arg23 arg24 arg25

set_option maxRecDepth 65536 in
set_option maxHeartbeats 4000000 in
/-- The printed part that holds all but the last wait. -/
theorem part87_eq : ∃ v1,
    k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 = (do
      indices i arg2 arg5 harg5 v285_r0
      fetches i arg3 arg5 arg6 arg7 arg8 arg9 arg10 arg11 arg12 arg13 arg18 arg19 arg20 arg21
      Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes)
      drain i arg4 arg14 harg14 arg22.sem
      drain i arg4 arg15 harg15 arg23.sem
      drain i arg4 arg16 harg16 arg24.sem) := by
  rw [k0_part87_eq_skeleton]
  unfold k0_part87_skel
  apply Exists.intro
  rfl

set_option maxRecDepth 65536 in
set_option maxHeartbeats 4000000 in
/-- The printed body of the task is `task`. -/
theorem cc0_emb_eq :
    cc0_emb (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0
      = task i arg2 arg3 arg4 arg5 harg5 arg6 arg7 arg8 arg9 arg10 harg10 arg11 harg11 arg12 harg12 arg13 harg13 arg14 harg14 arg15 harg15 arg16 harg16 arg17 harg17
          arg18 arg19 arg20 arg21 arg22 arg23 arg24 arg25 v285_r0 := by
  obtain ⟨v1, h1⟩ := part87_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 (F := F)
  have hb : (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 lanes) = fun t _ => steps i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t :=
    funext fun t => funext fun u => t1_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 v1 t u
  rw [hb] at h1
  refine Eq.trans (b := k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v285_r0 >>= fun _ => drain i arg4 arg17 harg17 arg25.sem) rfl ?_
  rw [h1]
  simp only [task, drains, bind_assoc]

end Eqs

end Cert.KernelIdeal.Body
-- ==== Proof.KI.Task.lean ====
/-
  The tile task's run: from its share of the indices and of the doubled table, and its columns of the result at any
  contents, to its columns of the result written.
-/
module

public import proofs.«01_k».proof.Proof.KI.Parts
public import proofs.«01_k».proof.Proof.KI.TaskEq

@[expose] public section

noncomputable section

namespace Cert.KernelIdeal.Body

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)
variable (arg2 : Memref sig .scVector .hbm S200x4096 .i32) (arg3 : Memref sig .scVector .hbm S500000x128 .f32) (arg4 : Memref sig .scVector .hbm S200x64x4096 .f32)
  (arg5 : Memref sig .scVector .vmem S200x128 .i32) (harg5 : arg5.IsWhole)
  (arg6 arg7 arg8 arg9 : Memref sig .scVector .vmem S128 .i32)
  (arg10 : Memref sig .scVector .vmem S128x128 .f32) (harg10 : arg10.IsWhole) (arg11 : Memref sig .scVector .vmem S128x128 .f32) (harg11 : arg11.IsWhole)
  (arg12 : Memref sig .scVector .vmem S128x128 .f32) (harg12 : arg12.IsWhole) (arg13 : Memref sig .scVector .vmem S128x128 .f32) (harg13 : arg13.IsWhole)
  (arg14 : Memref sig .scVector .vmem S64x128 .f32) (harg14 : arg14.IsWhole) (arg15 : Memref sig .scVector .vmem S64x128 .f32) (harg15 : arg15.IsWhole)
  (arg16 : Memref sig .scVector .vmem S64x128 .f32) (harg16 : arg16.IsWhole) (arg17 : Memref sig .scVector .vmem S64x128 .f32) (harg17 : arg17.IsWhole)
  (arg18 arg19 arg20 arg21 arg22 arg23 arg24 arg25 v285_r0 : DmaSems sig S_)
variable (X : S500000x128.Idx → F .f32) (XI : S200x128.Idx → BitVec 32)
variable (O : CellTallies nD τ sig (HIx 1)) (W : Waits sig (HIx 1))
variable (q0 q1 q2 q3 : PosShare TreeShare)

section Ends

variable (xb : Memref sig .scVector .hbm S500000x128 .f32) (ob : Memref sig .scVector .hbm S200x64x4096 .f32) (lb : Memref sig .scVector .vmem S128 .i32)
  (gb : Memref sig .scVector .vmem S128x128 .f32) (tb : Memref sig .scVector .vmem S64x128 .f32) (gs os : DmaSem sig) (q : PosShare TreeShare)

/-- Before the first group: the set's first row is being fetched, and nothing is being sent. -/
theorem Bufs_start (b : Fin 4) (n : ℕ) (hn : n = b.val) (j : Fin 200) (hj : j.val = n) :
    Bufs d i xb ob lb gb tb gs os X XI q n
      = iprop(GFly d i xb lb gb gs X XI j q (NG gb) ∗ (∃ Y, Own (F := F) d i tb fullShare (e := .f32) Y) ∗ Zero (F := F) d i os) := by
  have hb := b.isLt
  have e : (⟨n, by omega⟩ : Fin 200) = j := Fin.ext hj.symm
  unfold Bufs GSt OSt
  rw [dif_pos (by omega : n < 200), dif_neg (by omega : ¬(4 ≤ n ∧ n < 204)), e]

/-- After the last group: nothing is being fetched. -/
theorem Bufs_end (n : ℕ) (hn : 200 ≤ n) :
    Bufs d i xb ob lb gb tb gs os X XI q n = iprop(GIdle d i xb lb gb gs X q ∗ OSt d i ob tb os X XI n) := by
  unfold Bufs GSt
  rw [dif_neg (by omega : ¬n < 200)]

end Ends

/-- The four sets of buffers before row `4 t` (the first set's next row). -/
def Bufs4 (t : ℕ) : sProp 𝕄 :=
  iprop(Bufs d i arg3 arg4 arg6 arg10 arg14 arg18.sem arg22.sem X XI q0 (4 * t)
    ∗ Bufs d i arg3 arg4 arg7 arg11 arg15 arg19.sem arg23.sem X XI q1 (4 * t + 1)
    ∗ Bufs d i arg3 arg4 arg8 arg12 arg16 arg20.sem arg24.sem X XI q2 (4 * t + 2)
    ∗ Bufs d i arg3 arg4 arg9 arg13 arg17 arg21.sem arg25.sem X XI q3 (4 * t + 3))

/-- The rows of a gathered block together credit what the block does. -/
abbrev RowsCredit (gb : Memref sig .scVector .vmem S128x128 .f32) : Prop :=
  ∀ hg : S500000x128.Gathers 0 S128x128, ∑ j, (gb.slice (S128x128.rowRect hg.axis' j) (S128x128.stride_rowRect hg.axis' j)).view.dmaCredit = NG gb

variable (hXI : ∀ y, (XI y).toNat < 1000000)
variable (h10 : RowsCredit arg10) (h11 : RowsCredit arg11) (h12 : RowsCredit arg12) (h13 : RowsCredit arg13)

include hXI h10 h11 h12 h13

/-- A group of four rows. -/
theorem wp_steps (t : Fin k0_t1_loop.trips) {Q : PUnit → sProp 𝕄} :
    iprop(Bufs4 d i arg3 arg4 arg6 arg7 arg8 arg9 arg10 arg11 arg12 arg13 arg14 arg15 arg16 arg17 arg18 arg19 arg20 arg21 arg22 arg23 arg24 arg25 X XI q0 q1 q2 q3 t.val
        ∗ Comm d i arg4 arg5 X XI O W (4 * t.val) ∗ Transfers.MayWaits (thr d i) none O)
      ⊢ iprop((Bufs4 d i arg3 arg4 arg6 arg7 arg8 arg9 arg10 arg11 arg12 arg13 arg14 arg15 arg16 arg17 arg18 arg19 arg20 arg21 arg22 arg23 arg24 arg25 X XI q0 q1 q2 q3 (t.val + 1)
          -∗ Comm d i arg4 arg5 X XI O W (4 * (t.val + 1)) -∗ Q ⟨⟩)
        -∗ WP d i (steps (F := F) i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t) Q) := by
  unfold Bufs4
  iintro ⟨⟨H0, H1, H2, H3⟩, HC, #HM⟩ HK
  rw [← bind_pure (steps (F := F) i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t)]
  unfold steps
  simp only [bind_assoc]
  iapply (wp_step d i arg3 arg4 arg5 arg6 arg10 harg10 arg14 harg14 arg18.sem arg22.sem X XI O W t 0 (4 * t.val) rfl
    (fun g => k0_off8_eq t g) (fun c => k0_off9_eq t c) (k0_off11_eq i t 0) hXI h10 (q := q0)) $$ [H0 HC]
  · isplitl [H0]; · iexact H0
    isplitl [HC]; · iexact HC
    iexact HM
  iintro H0 HC
  iapply (wp_step d i arg3 arg4 arg5 arg7 arg11 harg11 arg15 harg15 arg19.sem arg23.sem X XI O W t 1 (4 * t.val + 1) rfl
    (fun g => k0_off13_eq t g) (fun c => k0_off14_eq t c) (k0_off11_eq i t 1) hXI h11 (q := q1)) $$ [H1 HC]
  · isplitl [H1]; · iexact H1
    isplitl [HC]; · iexact HC
    iexact HM
  iintro H1 HC
  iapply (wp_step d i arg3 arg4 arg5 arg8 arg12 harg12 arg16 harg16 arg20.sem arg24.sem X XI O W t 2 (4 * t.val + 2) rfl
    (fun g => k0_off17_eq t g) (fun c => k0_off18_eq t c) (k0_off11_eq i t 2) hXI h12 (q := q2)) $$ [H2 HC]
  · isplitl [H2]; · iexact H2
    isplitl [HC]; · iexact HC
    iexact HM
  iintro H2 HC
  iapply (wp_step d i arg3 arg4 arg5 arg9 arg13 harg13 arg17 harg17 arg21.sem arg25.sem X XI O W t 3 (4 * t.val + 3) rfl
    (fun g => k0_off21_eq t g) (fun c => k0_off22_eq t c) (k0_off11_eq i t 3) hXI h13 (q := q3)) $$ [H3 HC]
  · isplitl [H3]; · iexact H3
    isplitl [HC]; · iexact HC
    iexact HM
  iintro H3 HC
  iapply (wp_rt d i)
  iapply HK $$ [H0 H1 H2 H3] [HC]
  · rw [show 4 * (t.val + 1) = 4 * t.val + 4 by omega]
    isplitl [H0]; · iexact H0
    isplitl [H1]; · rw [show 4 * t.val + 4 + 1 = 4 * t.val + 1 + 4 by omega]; iexact H1
    isplitl [H2]; · rw [show 4 * t.val + 4 + 2 = 4 * t.val + 2 + 4 by omega]; iexact H2
    rw [show 4 * t.val + 4 + 3 = 4 * t.val + 3 + 4 by omega]; iexact H3
  · rw [show 4 * (t.val + 1) = 4 * t.val + 3 + 1 by omega]; iexact HC

omit hXI h10 h11 h12 h13 in
/-- The last wait on one transposed block. -/
theorem wp_drain (tb : Memref sig .scVector .vmem S64x128 .f32) (htb : tb.IsWhole) (os : DmaSem sig) (b : Fin 4) (n : ℕ) (hn : n = 196 + b.val) {α : Type}
    {k : PUnit → Prog (TpuEff nD τ sig (Elt F) Λ₀ (thr d i).2) α} {Q : α → sProp 𝕄} :
    iprop(OSt d i arg4 tb os X XI (n + 4) ∗ Done (F := F) d i arg4 X XI n ∗ Owe (F := F) d i O W ∗ Transfers.MayWaits (thr d i) none O)
      ⊢ iprop((iprop((∃ Y, Own (F := F) d i tb fullShare (e := .f32) Y) ∗ Zero (F := F) d i os) -∗ Done (F := F) d i arg4 X XI (n + 1) -∗ Owe (F := F) d i O W -∗ WP d i (k ⟨⟩) Q)
        -∗ WP d i (drain (F := F) i arg4 tb htb os >>= k) Q) := by
  have hb := b.isLt
  obtain ⟨j, rfl⟩ : ∃ j : Fin 200, n = j.val := ⟨⟨n, by omega⟩, rfl⟩
  unfold OSt
  rw [dif_pos (by omega : 4 ≤ j.val + 4 ∧ j.val + 4 < 204), Done_put]
  iintro ⟨HF, HD, HO, HM⟩ HK
  unfold drain
  iapply (wp_wt d i (F := F) (sem := os) (srcw := tb) (dstw := outBlk arg4 (k0_off24 i) (k0_off24_inb i))
      (hsrc := htb.wordExact) (hdst := (View.wordExact_bits rfl).reshape _ _) (NO arg4) (credit_outBlk arg4 _ _)) $$ [HF HO HM]
  · isplitl [HF]; · iexact HF
    isplitl [HO]; · iexact HO
    iexact HM
  iintro ⟨⟨HB, HT⟩, Hz, HO⟩
  iapply HK $$ [HT Hz] [HB HD] HO
  · isplitl [HT]; · iexists _; iexact HT
    iexact Hz
  · isplitl [HB]; · iexact HB
    iexact HD

/-- One set of buffers, idle. -/
abbrev Idle (xb : Memref sig .scVector .hbm S500000x128 .f32) (lb : Memref sig .scVector .vmem S128 .i32)
  (gb : Memref sig .scVector .vmem S128x128 .f32) (tb : Memref sig .scVector .vmem S64x128 .f32) (gs os : DmaSem sig) (q : PosShare TreeShare) : sProp 𝕄 :=
  iprop(GIdle d i xb lb gb gs X q ∗ (∃ Y, Own (F := F) d i tb fullShare (e := .f32) Y) ∗ Zero (F := F) d i os)

/-- The four sets of buffers, idle. -/
abbrev Idle4 : sProp 𝕄 :=
  iprop(Idle d i X arg3 arg6 arg10 arg14 arg18.sem arg22.sem q0 ∗ Idle d i X arg3 arg7 arg11 arg15 arg19.sem arg23.sem q1
    ∗ Idle d i X arg3 arg8 arg12 arg16 arg20.sem arg24.sem q2 ∗ Idle d i X arg3 arg9 arg13 arg17 arg21.sem arg25.sem q3)

/-- The task. -/
theorem wp_task {qi : PosShare TreeShare} {Q : PUnit → sProp 𝕄} :
    iprop(Own d i (idxBlk arg2 i) qi (e := .i32) XI ∗ (∃ f, Own (F := F) d i arg5 fullShare (e := .i32) f) ∗ Zero (F := F) d i v285_r0.sem
        ∗ Idle4 d i arg3 arg6 arg7 arg8 arg9 arg10 arg11 arg12 arg13 arg14 arg15 arg16 arg17 arg18 arg19 arg20 arg21 arg22 arg23 arg24 arg25 X q0 q1 q2 q3
        ∗ Todo (F := F) d i arg4 0 ∗ Done (F := F) d i arg4 X XI 0 ∗ Owe (F := F) d i O W ∗ Transfers.MayWaits (thr d i) none O)
      ⊢ iprop((iprop(Own d i (idxBlk arg2 i) qi (e := .i32) XI ∗ (∃ f, Own (F := F) d i arg5 fullShare (e := .i32) f) ∗ Zero (F := F) d i v285_r0.sem
          ∗ Idle4 d i arg3 arg6 arg7 arg8 arg9 arg10 arg11 arg12 arg13 arg14 arg15 arg16 arg17 arg18 arg19 arg20 arg21 arg22 arg23 arg24 arg25 X q0 q1 q2 q3
          ∗ Done (F := F) d i arg4 X XI 200 ∗ Owe (F := F) d i O W) -∗ Q ⟨⟩)
        -∗ WP d i (task (F := F) i arg2 arg3 arg4 arg5 harg5 arg6 arg7 arg8 arg9 arg10 harg10 arg11 harg11 arg12 harg12 arg13 harg13 arg14 harg14 arg15 harg15 arg16 harg16 arg17 harg17
          arg18 arg19 arg20 arg21 arg22 arg23 arg24 arg25 v285_r0) Q) := by
  iintro ⟨HA, ⟨%f, HI⟩, Hz, ⟨⟨HG0, HT0⟩, ⟨HG1, HT1⟩, ⟨HG2, HT2⟩, ⟨HG3, HT3⟩⟩, HU, HD, HO, #HM⟩ HK
  unfold task indices
  simp only [bind_assoc]
  iapply (wp_cp d i (F := F) (src := idxBlk arg2 i) (dst := arg5) (sem := v285_r0.sem) (hsrc := View.wordExact_bits rfl) (hdst := harg5.wordExact)
    (hsem := ⟨Or.inl rfl, trivial⟩) arg5.view.dmaCredit rfl (View.dmaCredit_pos _ (by decide))) $$ [HA HI Hz]
  · isplitl [HA]; · iexact HA
    isplitl [HI]; · iexact HI
    iexact Hz
  iintro HF
  iapply (wp_wt d i (F := F) (sem := v285_r0.sem) (srcw := idxBlk arg2 i) (dstw := arg5) (hsrc := View.wordExact_bits rfl) (hdst := harg5.wordExact) arg5.view.dmaCredit rfl) $$ [HF HO]
  · isplitl [HF]; · iexact HF
    isplitl [HO]; · iexact HO
    iexact HM
  iintro ⟨⟨HI, HA⟩, Hz, HO⟩
  unfold fetches
  simp only [bind_assoc]
  iapply (wp_fetch d i arg3 arg5 arg6 arg10 arg18.sem X XI 0 (fun c => k0_off2_eq c) hXI (NG arg10) h10 (q := q0)) $$ [HI HG0]
  · isplitl [HI]; · iexact HI
    iexact HG0
  iintro HI HG0
  iapply (wp_fetch d i arg3 arg5 arg7 arg11 arg19.sem X XI 1 (fun c => k0_off4_eq c) hXI (NG arg11) h11 (q := q1)) $$ [HI HG1]
  · isplitl [HI]; · iexact HI
    iexact HG1
  iintro HI HG1
  iapply (wp_fetch d i arg3 arg5 arg8 arg12 arg20.sem X XI 2 (fun c => k0_off5_eq c) hXI (NG arg12) h12 (q := q2)) $$ [HI HG2]
  · isplitl [HI]; · iexact HI
    iexact HG2
  iintro HI HG2
  iapply (wp_fetch d i arg3 arg5 arg9 arg13 arg21.sem X XI 3 (fun c => k0_off6_eq c) hXI (NG arg13) h13 (q := q3)) $$ [HI HG3]
  · isplitl [HI]; · iexact HI
    iexact HG3
  iintro HI HG3
  iapply (Scf.wp_for_bind _ _ _ _ _ _ k0_t1_ok PUnit.unit (fun t _ =>
    steps (F := F) i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 t)
    (I := fun t _ => iprop(Bufs4 d i arg3 arg4 arg6 arg7 arg8 arg9 arg10 arg11 arg12 arg13 arg14 arg15 arg16 arg17 arg18 arg19 arg20 arg21 arg22 arg23 arg24 arg25 X XI q0 q1 q2 q3 t
        ∗ Comm d i arg4 arg5 X XI O W (4 * t) ∗ Transfers.MayWaits (thr d i) none O)) ?_) $$ [HG0 HG1 HG2 HG3 HT0 HT1 HT2 HT3 HI HU HD HO]
  · intro t _
    iintro ⟨HB, HC, #HM⟩
    iapply (wp_steps d i arg3 arg4 arg5 arg6 arg7 arg8 arg9 arg10 harg10 arg11 harg11 arg12 harg12 arg13 harg13 arg14 harg14 arg15 harg15 arg16 harg16 arg17 harg17
          arg18 arg19 arg20 arg21 arg22 arg23 arg24 arg25 X XI O W q0 q1 q2 q3 hXI h10 h11 h12 h13 t) $$ [HB HC]
    · isplitl [HB]; · iexact HB
      isplitl [HC]; · iexact HC
      iexact HM
    iintro HB HC
    isplitl [HB]; · iexact HB
    isplitl [HC]; · iexact HC
    iexact HM
  · unfold Bufs4
    rw [Bufs_start d i X XI arg3 arg4 arg6 arg10 arg14 arg18.sem arg22.sem q0 0 (4 * 0) rfl 0 rfl,
      Bufs_start d i X XI arg3 arg4 arg7 arg11 arg15 arg19.sem arg23.sem q1 1 (4 * 0 + 1) rfl 1 rfl,
      Bufs_start d i X XI arg3 arg4 arg8 arg12 arg16 arg20.sem arg24.sem q2 2 (4 * 0 + 2) rfl 2 rfl,
      Bufs_start d i X XI arg3 arg4 arg9 arg13 arg17 arg21.sem arg25.sem q3 3 (4 * 0 + 3) rfl 3 rfl]
    isplitl [HG0 HG1 HG2 HG3 HT0 HT1 HT2 HT3]
    · isplitl [HG0 HT0]
      · isplitl [HG0]; · iexact HG0
        iexact HT0
      isplitl [HG1 HT1]
      · isplitl [HG1]; · iexact HG1
        iexact HT1
      isplitl [HG2 HT2]
      · isplitl [HG2]; · iexact HG2
        iexact HT2
      isplitl [HG3]; · iexact HG3
      iexact HT3
    isplitl [HI HU HD HO]
    · isplitl [HI]; · iexact HI
      isplitl [HU]; · iexact HU
      isplitl [HD]; · iexact HD
      iexact HO
    iexact HM
  iintro %_ ⟨HB, ⟨HI, HU, HD, HO⟩, -⟩
  rw [show Scf.trips k0_t1_loop.lb k0_t1_loop.ub k0_t1_loop.st = 50 from trips50]
  unfold Bufs4
  rw [Bufs_end d i X XI arg3 arg4 arg6 arg10 arg14 arg18.sem arg22.sem q0 (4 * 50) (by omega),
    Bufs_end d i X XI arg3 arg4 arg7 arg11 arg15 arg19.sem arg23.sem q1 (4 * 50 + 1) (by omega),
    Bufs_end d i X XI arg3 arg4 arg8 arg12 arg16 arg20.sem arg24.sem q2 (4 * 50 + 2) (by omega),
    Bufs_end d i X XI arg3 arg4 arg9 arg13 arg17 arg21.sem arg25.sem q3 (4 * 50 + 3) (by omega)]
  icases HB with ⟨⟨HG0, HT0⟩, ⟨HG1, HT1⟩, ⟨HG2, HT2⟩, ⟨HG3, HT3⟩⟩
  rw [← bind_pure (drains (F := F) i arg4 arg14 harg14 arg15 harg15 arg16 harg16 arg17 harg17 arg22 arg23 arg24 arg25)]
  unfold drains
  simp only [bind_assoc]
  iapply (wp_drain d i arg4 X XI O W arg14 harg14 arg22.sem 0 196 rfl) $$ [HT0 HD HO]
  · isplitl [HT0]; · iexact HT0
    isplitl [HD]; · iexact HD
    isplitl [HO]; · iexact HO
    iexact HM
  iintro HT0 HD HO
  iapply (wp_drain d i arg4 X XI O W arg15 harg15 arg23.sem 1 197 rfl) $$ [HT1 HD HO]
  · isplitl [HT1]; · iexact HT1
    isplitl [HD]; · iexact HD
    isplitl [HO]; · iexact HO
    iexact HM
  iintro HT1 HD HO
  iapply (wp_drain d i arg4 X XI O W arg16 harg16 arg24.sem 2 198 rfl) $$ [HT2 HD HO]
  · isplitl [HT2]; · iexact HT2
    isplitl [HD]; · iexact HD
    isplitl [HO]; · iexact HO
    iexact HM
  iintro HT2 HD HO
  iapply (wp_drain d i arg4 X XI O W arg17 harg17 arg25.sem 3 199 rfl) $$ [HT3 HD HO]
  · isplitl [HT3]; · iexact HT3
    isplitl [HD]; · iexact HD
    isplitl [HO]; · iexact HO
    iexact HM
  iintro HT3 HD HO
  iapply (wp_rt d i)
  iapply HK
  isplitl [HA]; · iexact HA
  isplitl [HI]; · iexists _; iexact HI
  isplitl [Hz]; · iexact Hz
  isplitl [HG0 HG1 HG2 HG3 HT0 HT1 HT2 HT3]
  · isplitl [HG0 HT0]
    · isplitl [HG0]; · iexact HG0
      iexact HT0
    isplitl [HG1 HT1]
    · isplitl [HG1]; · iexact HG1
      iexact HT1
    isplitl [HG2 HT2]
    · isplitl [HG2]; · iexact HG2
      iexact HT2
    isplitl [HG3]; · iexact HG3
    iexact HT3
  isplitl [HD]; · iexact HD
  iexact HO

end Cert.KernelIdeal.Body
-- ==== Proof.KI.Tile.lean ====
/-
  A tile of the launch: its scratch buffers and its cells by name, and its task's run from its part of the arrays.
-/
module

public import proofs.«01_k».proof.Proof.KI.Task

@[expose] public section

noncomputable section

namespace Cert.KernelIdeal.Body

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's cells and buffers -/

variable (d : Dev nD) (i : grid0.Coords)

/-- DMA cell `k` of the tile. -/
abbrev cell (k : Fin 9) : GSem nD τ sig := (thr d i, .dma ⟨k.val, k.isLt⟩)

/-- The tile's nine DMA cells at zero: the four gathers', the four write-outs', the index fetch's. -/
abbrev cells : sProp 𝕄 :=
  iprop(Zero (F := F) d i cc0_scratch13.sem ∗ Zero (F := F) d i cc0_scratch14.sem ∗ Zero (F := F) d i cc0_scratch15.sem ∗ Zero (F := F) d i cc0_scratch16.sem
    ∗ Zero (F := F) d i cc0_scratch17.sem ∗ Zero (F := F) d i cc0_scratch18.sem ∗ Zero (F := F) d i cc0_scratch19.sem ∗ Zero (F := F) d i cc0_scratch20.sem
    ∗ Zero (F := F) d i cc0_scoped0.sem)

theorem cell_mem (k : Fin 9) : cell d i k ∈ ownCells (thr d i) :=
  mem_ownCells.mpr ⟨rfl, (show ∀ s : DmaSem sig, (SemLoc.dma s : SemLoc sig).isScoped .scVector = true by decide) _⟩

/-- The tile's own cells at zero are the nine and the rest. -/
theorem ownSems_eq :
    (ownSems0 (thr d i) : sProp 𝕄)
      = iprop(cells d i ∗ bigSep (ownCells (thr d i) \ Finset.univ.image (cell d i)) fun g => semVal g 0) := by
  unfold SparseCore.Cfg.ownSems0
  rw [SparseCore.bigSep_sdiff_split' (t := Finset.univ.image (cell d i)) (Finset.image_subset_iff.mpr fun k _ => cell_mem d i k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- Scratch buffer `k`. -/
abbrev scr (k : Fin 13) : Ref sig .scVector := ⟨.vmem, ⟨k.val, k.isLt⟩, (by decide : ∀ k : Fin 13, sig.names .scVector .vmem ⟨k.val, k.isLt⟩ = true) k⟩

/-- Scratch buffer `k` as the device names it. -/
abbrev scrRef (k : Fin 13) : DevRef τ sig := (thr d i).2.devRef (scr k)

/-- A scratch buffer at any contents. -/
abbrev scrAny (b : Ref sig .scVector) : sProp 𝕄 := iprop(∃ f, (thr d i).loc b ↦{fullShare} f)

/-- The tile's thirteen scratch buffers at any contents: the indices, the four lists, the four gathered blocks, the four
    transposed blocks. -/
abbrev scratch : sProp 𝕄 :=
  iprop(scrAny (F := F) d i cc0_scratch0 ∗ scrAny (F := F) d i cc0_scratch1 ∗ scrAny (F := F) d i cc0_scratch2 ∗ scrAny (F := F) d i cc0_scratch3
    ∗ scrAny (F := F) d i cc0_scratch4 ∗ scrAny (F := F) d i cc0_scratch5 ∗ scrAny (F := F) d i cc0_scratch6 ∗ scrAny (F := F) d i cc0_scratch7
    ∗ scrAny (F := F) d i cc0_scratch8 ∗ scrAny (F := F) d i cc0_scratch9 ∗ scrAny (F := F) d i cc0_scratch10 ∗ scrAny (F := F) d i cc0_scratch11
    ∗ scrAny (F := F) d i cc0_scratch12)

theorem scr_injective : Function.Injective scr := by decide

theorem scrRef_mem (k : Fin 13) : scrRef d i k ∈ ownRefs (τ := τ) (sig := sig) (thr d i).2 :=
  SparseCore.Cfg.mem_ownRefs_of_owner (p := (thr d i).2) (b := scrRef d i k) rfl

/-- The tile's own buffers are the thirteen and the rest. -/
theorem ownBufs_eq :
    (ownBufs (thr d i) : sProp 𝕄)
      = iprop(scratch d i ∗ bigSep (ownRefs (thr d i).2 \ Finset.univ.image (scrRef d i)) fun b => iprop(∃ f, ((d, b) : Loc nD τ sig) ↦{fullShare} f)) := by
  unfold SparseCore.Cfg.ownBufs
  refine (SparseCore.bigSep_sdiff_split' (t := Finset.univ.image (scrRef d i)) (Finset.image_subset_iff.mpr fun k _ => scrRef_mem d i k)).trans ?_
  rw [SparseCore.bigSep_image_of_injOn (fun a _ b _ h => scr_injective (Proc.devRef_injective _ h))]
  rw [show (Finset.univ : Finset (Fin 13)) = {0, 1, 2, 3, 4, 5, 6, 7, 8, 9, 10, 11, 12} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A scratch buffer at any contents, owned whole. -/
theorem any_whole (b : Ref sig .scVector) :
    scrAny (F := F) d i b = iprop(∃ f, Own (F := F) d i (Memref.whole b) fullShare f) := by
  have e : ∀ f : b.ty.Contents (Elt F), (Own (F := F) d i (Memref.whole b) fullShare f : sProp 𝕄) = (thr d i).loc b ↦{fullShare} f :=
    fun f => owns_whole (thr d i) b fullShare f
  simp only [e]

/-! ## The task -/

/-- The rows of each gathered block together credit what the block does. -/
theorem rows9 : RowsCredit (Memref.whole cc0_scratch5) := by decide
theorem rows10 : RowsCredit (Memref.whole cc0_scratch6) := by decide
theorem rows11 : RowsCredit (Memref.whole cc0_scratch7) := by decide
theorem rows12 : RowsCredit (Memref.whole cc0_scratch8) := by decide

variable [FloatOps F]

/-- The printed task of the tile at `i` on the launch's arrays and scratch. -/
abbrev prog (i : grid0.Coords) : Prog (TpuEff nD τ sig (Elt F) Λ₀ (thr (0 : Dev nD) i).2) PUnit :=
  cc0_emb i (Memref.whole main_v0_scv) (Memref.isWhole_whole _) (Memref.whole main_v1_scv) (Memref.isWhole_whole _) (Memref.whole main_v2_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14 cc0_scratch15 cc0_scratch16 cc0_scratch17 cc0_scratch18 cc0_scratch19 cc0_scratch20 cc0_scoped0

variable (XT : S200x4096.Idx → BitVec 32) (X2 : S500000x128.Idx → F .f32)

/-- The task of the tile at (c, s): from its part of the arrays, its scratch and its cells at zero, back to them, its
    part of the result written. -/
theorem tile_body (c : Fin 2) (s : Fin 16) (f : S200x64x4096.Idx → F .f32) (hXT : ∀ y, (XT y).toNat < 1000000)
    (O : CellTallies nD τ sig (HIx 1)) (W : Waits sig (HIx 1)) (hO : ∀ g, O g none = 0) :
    iprop(levAts (K (F := F)).L (K (F := F)).lev ∗ emp ∗ Part XT X2 d f c s
        ∗ scopedBufs (thr d (crd c s)) ∗ scopedSems0 (thr d (crd c s)) ∗ owes (thr d (crd c s)) O W)
      ⊢ WP d (crd c s) (prog (crd c s))
          fun _ => iprop(Part XT X2 d (outOf XT X2) c s ∗ scopedBufs (thr d (crd c s)) ∗ scopedSems0 (thr d (crd c s)) ∗ Owe (F := F) d (crd c s) O W) := by
  have hp : (prog (F := F) (crd c s)) = task (crd c s) (Memref.whole main_v0_scv) (Memref.whole main_v1_scv) (Memref.whole main_v2_scv)
    (Memref.whole cc0_scratch0) (Memref.isWhole_whole _) (Memref.whole cc0_scratch1) (Memref.whole cc0_scratch2)
    (Memref.whole cc0_scratch3) (Memref.whole cc0_scratch4) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14 cc0_scratch15 cc0_scratch16 cc0_scratch17 cc0_scratch18 cc0_scratch19 cc0_scratch20 cc0_scoped0 :=
    cc0_emb_eq (crd c s) _ _ _ _ _ _ _ _ _ _ _ _ _ _ _ _ _ _ _ _ _ _ _ _ _ _ _ _ _ _ _ _ _ _ _ _ _ _ _ _ _
  rw [hp, (K (F := F)).scopedBufs_V facts d _ _, SparseCore.Cfg.scopedSems0_V (Val := Elt F) d _ _, ownSems_eq, ownBufs_eq]
  unfold scratch Part
  simp only [any_whole]
  rw [show (Finset.univ : Finset (Fin 4)) = {0, 1, 2, 3} by decide,
    SparseCore.bigSep_insert' (by decide), SparseCore.bigSep_insert' (by decide), SparseCore.bigSep_insert' (by decide), bigSep_singleton,
    ← own_idx XT d c s, ← own_src X2 d c s, ← own_src X2 d c s, ← own_src X2 d c s, ← own_src X2 d c s, ← done_eq XT X2 d c s]
  iintro ⟨#Hlv, -, ⟨Hi, ⟨Hx0, Hx1, Hx2, Hx3⟩, Ho⟩, ⟨⟨Hs0, Hl0, Hl1, Hl2, Hl3, Hg0, Hg1, Hg2, Hg3, Ht0, Ht1, Ht2, Ht3⟩, Hbs⟩,
    ⟨⟨Hz0, Hz1, Hz2, Hz3, Hy0, Hy1, Hy2, Hy3, Hz⟩, Hzs⟩, HO⟩
  ihave #HM := (show levAts (K (F := F)).L (K (F := F)).lev ⊢ Transfers.MayWaits (thr d (crd c s)) (none : HIx 1) O from
    (K (F := F)).mayWaits_none (thr := thr d (crd c s)) hO) $$ Hlv
  ihave Hu := (todo_of d c s f) $$ Ho
  iapply (wp_task d (crd c s) (Memref.whole main_v0_scv) (Memref.whole main_v1_scv) (Memref.whole main_v2_scv)
    (Memref.whole cc0_scratch0) (Memref.isWhole_whole _) (Memref.whole cc0_scratch1) (Memref.whole cc0_scratch2)
    (Memref.whole cc0_scratch3) (Memref.whole cc0_scratch4) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14 cc0_scratch15 cc0_scratch16 cc0_scratch17 cc0_scratch18 cc0_scratch19 cc0_scratch20 cc0_scoped0
    X2 (idxOf XT (crd c s)) O W (xq c s 0) (xq c s 1) (xq c s 2) (xq c s 3) (fun y => hXT _) rows9 rows10 rows11 rows12)
    $$ [Hi Hx0 Hx1 Hx2 Hx3 Hs0 Hl0 Hl1 Hl2 Hl3 Hg0 Hg1 Hg2 Hg3 Ht0 Ht1 Ht2 Ht3 Hz0 Hz1 Hz2 Hz3 Hy0 Hy1 Hy2 Hy3 Hz HO Hu]
  · isplitl [Hi]; · iexact Hi
    isplitl [Hs0]; · iexact Hs0
    isplitl [Hz]; · iexact Hz
    isplitl [Hx0 Hx1 Hx2 Hx3 Hl0 Hl1 Hl2 Hl3 Hg0 Hg1 Hg2 Hg3 Ht0 Ht1 Ht2 Ht3 Hz0 Hz1 Hz2 Hz3 Hy0 Hy1 Hy2 Hy3]
    · isplitl [Hg0 Hx0 Hl0 Hz0 Ht0 Hy0]
      · isplitl [Hg0 Hx0 Hl0 Hz0]
        · isplitl [Hg0]; · iexact Hg0
          isplitl [Hx0]; · iexact Hx0
          isplitl [Hl0]; · iexact Hl0
          iexact Hz0
        isplitl [Ht0]; · iexact Ht0
        iexact Hy0
      isplitl [Hg1 Hx1 Hl1 Hz1 Ht1 Hy1]
      · isplitl [Hg1 Hx1 Hl1 Hz1]
        · isplitl [Hg1]; · iexact Hg1
          isplitl [Hx1]; · iexact Hx1
          isplitl [Hl1]; · iexact Hl1
          iexact Hz1
        isplitl [Ht1]; · iexact Ht1
        iexact Hy1
      isplitl [Hg2 Hx2 Hl2 Hz2 Ht2 Hy2]
      · isplitl [Hg2 Hx2 Hl2 Hz2]
        · isplitl [Hg2]; · iexact Hg2
          isplitl [Hx2]; · iexact Hx2
          isplitl [Hl2]; · iexact Hl2
          iexact Hz2
        isplitl [Ht2]; · iexact Ht2
        iexact Hy2
      isplitl [Hg3 Hx3 Hl3 Hz3]
      · isplitl [Hg3]; · iexact Hg3
        isplitl [Hx3]; · iexact Hx3
        isplitl [Hl3]; · iexact Hl3
        iexact Hz3
      isplitl [Ht3]; · iexact Ht3
      iexact Hy3
    isplitl [Hu]; · iexact Hu
    isplitr [HO]
    · unfold Done
      rw [Finset.filter_false_of_mem (fun j _ => Nat.not_lt_zero _), bigSep_empty]
      iempintro
    isplitl [HO]
    · unfold Owe
      iexists W
      isplitr; · ipureintro; exact fun p hp => Or.inl hp
      iexact HO
    iexact HM
  iintro ⟨Hi, Hs0, Hz, ⟨⟨⟨Hg0, Hx0, Hl0, Hz0⟩, Ht0, Hy0⟩, ⟨⟨Hg1, Hx1, Hl1, Hz1⟩, Ht1, Hy1⟩, ⟨⟨Hg2, Hx2, Hl2, Hz2⟩, Ht2, Hy2⟩, ⟨⟨Hg3, Hx3, Hl3, Hz3⟩, Ht3, Hy3⟩⟩, Hd, HO⟩
  isplitl [Hi Hx0 Hx1 Hx2 Hx3 Hd]
  · isplitl [Hi]; · iexact Hi
    isplitl [Hx0 Hx1 Hx2 Hx3]
    · isplitl [Hx0]; · iexact Hx0
      isplitl [Hx1]; · iexact Hx1
      isplitl [Hx2]; · iexact Hx2
      iexact Hx3
    iexact Hd
  isplitl [Hs0 Hl0 Hl1 Hl2 Hl3 Hg0 Hg1 Hg2 Hg3 Ht0 Ht1 Ht2 Ht3 Hbs]
  · isplitl [Hs0 Hl0 Hl1 Hl2 Hl3 Hg0 Hg1 Hg2 Hg3 Ht0 Ht1 Ht2 Ht3]
    · isplitl [Hs0]; · iexact Hs0
      isplitl [Hl0]; · iexact Hl0
      isplitl [Hl1]; · iexact Hl1
      isplitl [Hl2]; · iexact Hl2
      isplitl [Hl3]; · iexact Hl3
      isplitl [Hg0]; · iexact Hg0
      isplitl [Hg1]; · iexact Hg1
      isplitl [Hg2]; · iexact Hg2
      isplitl [Hg3]; · iexact Hg3
      isplitl [Ht0]; · iexact Ht0
      isplitl [Ht1]; · iexact Ht1
      isplitl [Ht2]; · iexact Ht2
      iexact Ht3
    iexact Hbs
  isplitl [Hz0 Hz1 Hz2 Hz3 Hy0 Hy1 Hy2 Hy3 Hz Hzs]
  · isplitl [Hz0 Hz1 Hz2 Hz3 Hy0 Hy1 Hy2 Hy3 Hz]
    · isplitl [Hz0]; · iexact Hz0
      isplitl [Hz1]; · iexact Hz1
      isplitl [Hz2]; · iexact Hz2
      isplitl [Hz3]; · iexact Hz3
      isplitl [Hy0]; · iexact Hy0
      isplitl [Hy1]; · iexact Hy1
      isplitl [Hy2]; · iexact Hy2
      isplitl [Hy3]; · iexact Hy3
      iexact Hz
    iexact Hzs
  iexact HO

end Cert.KernelIdeal.Body
-- ==== Proof.KI.Launch.lean ====
/-
  The launch: what the call hands its tiles and takes back, and the whole program's run. The arguments end as they were
  launched, and the result at what the tiles wrote, transposed.
-/
module

public import proofs.«01_k».proof.Proof.KI.Tile

@[expose] public section

noncomputable section

namespace Cert.KernelIdeal.Body

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ

/-! ## The arrays of the launch -/

/-- The indices, the table and the result, as device `d` names them. -/
abbrev aLoc (d : Dev nD) : Loc nD τ sig := (SparseCore.T d).loc main_arg0
abbrev tLoc (d : Dev nD) : Loc nD τ sig := (SparseCore.T d).loc main_arg1
abbrev rLoc (d : Dev nD) : Loc nD τ sig := (SparseCore.T d).loc main_v3

/-- The indices transposed. -/
def flipIdx (a : S4096x200.Idx → BitVec 32) : S200x4096.Idx → BitVec 32 := transpose S200x4096 [1, 0] a transposes_S4096x200_S200x4096_1_0

/-- The table with its rows taken two by two. -/
def pairRows (t : S1000000x64.Idx → F .f32) : S500000x128.Idx → F .f32 := shapeCast S500000x128 t shapeCasts_S1000000x64_S500000x128

variable (m : (ℓ : Loc nD τ sig) → Buf (Elt F) ℓ) (ρ : Dev nD → PrngReg)

abbrev XTm (d : Dev nD) : S200x4096.Idx → BitVec 32 := flipIdx (m (aLoc d))
abbrev X2m (d : Dev nD) : S500000x128.Idx → F .f32 := pairRows (m (tLoc d))

/-- Every index is below the number of the table's rows. -/
def PreOK : Prop := ∀ d y, ((m (aLoc d) : S4096x200.Idx → BitVec 32) y).toNat < 1000000

theorem XTm_lt (h : PreOK m) (d : Dev nD) (y : S200x4096.Idx) : (XTm m d y).toNat < 1000000 := h d _

/-! ## What the call hands over -/

variable [FloatOps F]

/-- What the tiles write, and the program's result. -/
def Om (d : Dev nD) : S200x64x4096.Idx → F .f32 := outOf (XTm m d) (X2m m d)
def Rm (d : Dev nD) : S4096x200x64.Idx → F .f32 := transpose S4096x200x64 [2, 0, 1] (Om m d) transposes_S200x64x4096_S4096x200x64_2_0_1

omit [FloatOps F] in
instance part_storable (XT : S200x4096.Idx → BitVec 32) (X2 : S500000x128.Idx → F .f32) (d : Dev nD) (f : S200x64x4096.Idx → F .f32) (c : Fin 2) (s : Fin 16) :
    BI.Storable (upEmb : UEmb _ 𝕄) (Part XT X2 d f c s) := by
  unfold Part; infer_instance

/-- Tile (c, s) of device `d` at the start and at the end of the call. -/
abbrev partIn (d : Dev nD) (c : Fin 2) (s : Fin 16) : sProp 𝕄 := Part (XTm m d) (X2m m d) d (m (oLoc d)) c s
abbrev partOut (d : Dev nD) (c : Fin 2) (s : Fin 16) : sProp 𝕄 := Part (XTm m d) (X2m m d) d (Om m d) c s

/-- A SparseCore takes its tiles' parts and gives them back written. -/
def P : (K (F := F)).Pay (nD := nD) (Val := Elt F) (Name := ℕ) (U := UU) where
  st := fun q d c => match q with | 0 => bigSep Finset.univ fun s : Fin 16 => partIn m d c s
  dn := fun q d c => match q with | 0 => bigSep Finset.univ fun s : Fin 16 => partOut m d c s
  go := fun q d c s => match q with | 0 => partIn m d c s
  td := fun q d c s => match q with | 0 => partOut m d c s
  x := fun _ _ => iprop(emp)

instance P_storable : (P m).IsStorable where
  st q d c := match q with | 0 => (inferInstance : BI.Storable (upEmb : UEmb _ 𝕄) (bigSep Finset.univ fun s : Fin 16 => partIn m d c s))
  dn q d c := match q with | 0 => (inferInstance : BI.Storable (upEmb : UEmb _ 𝕄) (bigSep Finset.univ fun s : Fin 16 => partOut m d c s))
  go q d c s := match q with | 0 => (inferInstance : BI.Storable (upEmb : UEmb _ 𝕄) (partIn m d c s))
  td q d c s := match q with | 0 => (inferInstance : BI.Storable (upEmb : UEmb _ 𝕄) (partOut m d c s))

/-! ## The tiles' obligation -/

theorem defs₀_vector (c : Fin τ.nSC) (s : Fin τ.nSub) :
    defs₀ (F := F) (.scVector c s) 0 () = SparseCore.onTile hcore0 hsub0 (fun c s => prog (F := F) (crd c s)) ⟨⟩ c s := rfl

/-- A task's end, with the waits it made among those the call allows. -/
theorem obl_post {d : Dev nD} {i : grid0.Coords} {A B C : sProp 𝕄} {O : CellTallies nD τ sig (HIx 1)} {W : Waits sig (HIx 1)} {q : Fin 1} :
    iprop(A ∗ B ∗ C ∗ Owe (F := F) d i O W)
      ⊢ iprop(A ∗ B ∗ C ∗ ∃ W', ⌜∀ p ∈ W', p ∈ W ∨ p.2 = none ∨ p.2 = some q⌝ ∗ owes (thr d i) O W') := by
  unfold Owe
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Each tile's task takes its part to its part written. -/
theorem tileObl (hpre : PreOK m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hcs, and_self, ↓reduceDIte]
  exact (tile_body d (XTm m d) (X2m m d) ⟨_, hcs.1⟩ ⟨_, hcs.2⟩ (m (oLoc d)) (XTm_lt m hpre d) O W hO).trans (wp_mono frame _ _ fun _ => obl_post)

/-- A SparseCore's share is its tiles' parts, before and after. -/
theorem vecSplit : (K (F := F)).VecSplit' (P m) 0 := by
  intro d c
  show iprop(bigSep Finset.univ fun s : Fin 16 => partIn m d c s) ⊢ |={Set.univ}=> iprop(
      (bigSep Finset.univ fun s : Fin 16 => partIn m d c s)
      ∗ ((bigSep Finset.univ fun s : Fin 16 => partOut m d c s) -∗ (bigSep Finset.univ fun s : Fin 16 => partOut m d c s)))
  iintro H; imodintro
  isplitl [H]; · iexact H
  iintro H; iexact H

/-! ## The ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have e : (bigSep Finset.univ fun _ : Dev nD => iprop(emp) : sProp 𝕄) = iprop(emp) := bigSep_emp_const _
  have e' : (bigSep Finset.univ fun thr : Thread nD τ => bigSep Finset.univ fun q : Fin 1 => (P (F := F) m).x q thr) = iprop(emp) :=
    (bigSep_congr fun _ _ => bigSep_univ_of_subsingleton (0 : Fin 1)).trans (bigSep_emp_const _)
  rw [e, e']
  isplitl <;> iempintro

/-! ## The program on the TensorCore -/

abbrev a' : DevRef τ sig := Proc.devRef .tc main_arg0
abbrev t' : DevRef τ sig := Proc.devRef .tc main_arg1
abbrev i' : DevRef τ sig := Proc.devRef .tc main_v0
abbrev x' : DevRef τ sig := Proc.devRef .tc main_v1
abbrev o' : DevRef τ sig := Proc.devRef .tc main_v2
abbrev r' : DevRef τ sig := Proc.devRef .tc main_v3

/-- The program's arrays. -/
abbrev S6 : Finset (DevRef τ sig) := {a', t', i', x', o', r'}

omit [FloatOps F] in
theorem held_S6 (d : Dev nD) (W : Valuation τ sig (Elt F)) :
    (held (T d) S6 W : sProp 𝕄)
      = iprop((aLoc d ↦{fullShare} W a') ∗ (tLoc d ↦{fullShare} W t') ∗ (iLoc d ↦{fullShare} W i')
          ∗ (xLoc d ↦{fullShare} W x') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays at launch. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  unfold unscopedBufs
  rw [held_S6, show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- The three host operations: the indices transposed, the table's rows paired, the result transposed. -/
abbrev opFlip : HloOp τ sig (Elt F) := StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opPair : HloOp τ sig (Elt F) := StableHlo.reshape main_arg1 main_v1 (rfl : (.f32 : EltTy) = .f32) shapeCasts_S1000000x64_S500000x128
abbrev opBack : HloOp τ sig (Elt F) := StableHlo.unary main_v2 main_v3 ((transpose S4096x200x64 [2, 0, 1] · transposes_S200x64x4096_S4096x200x64_2_0_1) : (⟨S200x64x4096, .f32⟩ : BufTy).Contents (Elt F) → (⟨S4096x200x64, .f32⟩ : BufTy).Contents (Elt F))

/-- The arrays before the call, and after it. -/
def V2 (d : Dev nD) : Valuation τ sig (Elt F) := (opPair (F := F)).result ((opFlip (F := F)).result (V0 m d))
def V3 (d : Dev nD) : Valuation τ sig (Elt F) := Function.update (V2 m d) o' (Om m d)

omit [FloatOps F] in
theorem V2_keep (d : Dev nD) (b : DevRef τ sig) (h : b ≠ i') (h' : b ≠ x') : V2 m d b = m (d, b) := by
  unfold V2
  rw [(opPair (F := F)).result_of_not_mem _ (show b ∉ ({x'} : Finset (DevRef τ sig)) from fun hb => h' (Finset.mem_singleton.mp hb)),
    (opFlip (F := F)).result_of_not_mem _ (show b ∉ ({i'} : Finset (DevRef τ sig)) from fun hb => h (Finset.mem_singleton.mp hb))]
  rfl
omit [FloatOps F] in
theorem V2_i (d : Dev nD) : V2 m d i' = XTm m d := by
  unfold V2
  rw [(opPair (F := F)).result_of_not_mem _ (show i' ∉ ({x'} : Finset (DevRef τ sig)) by decide)]
  exact StableHlo.unary_result _ _ _ _ _ _
omit [FloatOps F] in
theorem V2_x (d : Dev nD) : V2 m d x' = X2m m d := by
  unfold V2
  refine (StableHlo.reshape_result _ _ _ _ _ _ _).trans ?_
  rw [(opFlip (F := F)).result_of_not_mem _ (show Proc.devRef .tc main_arg1 ∉ ({i'} : Finset (DevRef τ sig)) by decide)]
  rfl

/-- What the arrays hold before the call. -/
theorem held_V2 (d : Dev nD) :
    (held (T d) S6 ((opPair (F := F)).result ((opFlip (F := F)).result (V0 m d))) : sProp 𝕄)
      = iprop((aLoc d ↦{fullShare} m (aLoc d)) ∗ (tLoc d ↦{fullShare} m (tLoc d)) ∗ (iLoc d ↦{fullShare} (XTm m d : Buf (Elt F) (iLoc d)))
          ∗ (xLoc d ↦{fullShare} (X2m m d : Buf (Elt F) (xLoc d))) ∗ (oLoc d ↦{fullShare} m (oLoc d)) ∗ rLoc d ↦{fullShare} m (rLoc d)) := by
  show held (T d) S6 (V2 m d) = _
  rw [held_S6, V2_keep m d a' (by decide) (by decide), V2_keep m d t' (by decide) (by decide), V2_keep m d o' (by decide) (by decide),
    V2_keep m d r' (by decide) (by decide), V2_i, V2_x]

theorem held_V3 (d : Dev nD) :
    (held (T d) S6 (V3 m d) : sProp 𝕄)
      = iprop((aLoc d ↦{fullShare} m (aLoc d)) ∗ (tLoc d ↦{fullShare} m (tLoc d)) ∗ (iLoc d ↦{fullShare} (XTm m d : Buf (Elt F) (iLoc d)))
          ∗ (xLoc d ↦{fullShare} (X2m m d : Buf (Elt F) (xLoc d))) ∗ (oLoc d ↦{fullShare} (Om m d : Buf (Elt F) (oLoc d))) ∗ rLoc d ↦{fullShare} m (rLoc d)) := by
  have k : ∀ b : DevRef τ sig, b ≠ o' → V3 m d b = V2 m d b := fun b h => Function.update_of_ne h _ _
  rw [held_S6, k a' (by decide), k t' (by decide), k i' (by decide), k x' (by decide), k r' (by decide),
    show V3 m d o' = Om m d from Function.update_self _ _ _,
    V2_keep m d a' (by decide) (by decide), V2_keep m d t' (by decide) (by decide), V2_keep m d r' (by decide) (by decide), V2_i, V2_x]

/-- What the arrays hold at the end, of which the claims read the arguments and the result. -/
theorem held_end (d : Dev nD) :
    (held (T d) S6 ((opBack (F := F)).result (V3 m d)) : sProp 𝕄)
      ⊢ iprop((aLoc d ↦{fullShare} m (aLoc d)) ∗ (tLoc d ↦{fullShare} m (tLoc d)) ∗ rLoc d ↦{fullShare} (Rm m d : Buf (Elt F) (rLoc d))) := by
  have k : ∀ b : DevRef τ sig, b ≠ r' → b ≠ o' → b ≠ i' → b ≠ x' → (opBack (F := F)).result (V3 m d) b = m (d, b) := fun b h1 h2 h3 h4 =>
    ((opBack (F := F)).result_of_not_mem _ (show b ∉ ({r'} : Finset (DevRef τ sig)) from fun hb => h1 (Finset.mem_singleton.mp hb))).trans
      ((Function.update_of_ne h2 _ _).trans (V2_keep m d b h3 h4))
  have e : (opBack (F := F)).result (V3 m d) r' = Rm m d :=
    (StableHlo.unary_result _ _ _ _ _ _).trans (by rw [show V3 m d (Proc.devRef .tc main_v2) = Om m d from Function.update_self _ _ _]; rfl)
  rw [held_S6, k a' (by decide) (by decide) (by decide) (by decide), k t' (by decide) (by decide) (by decide) (by decide), e]
  iintro ⟨Ha, Ht, -, -, -, Hr⟩
  isplitl [Ha]; · iexact Ha
  isplitl [Ht]; · iexact Ht
  iexact Hr

omit [FloatOps F] in
theorem hFlip : (opFlip (F := F)).bufs ⊆ S6 := show ({a', i'} : Finset (DevRef τ sig)) ⊆ S6 by decide
omit [FloatOps F] in
theorem hPair : (opPair (F := F)).bufs ⊆ S6 := show ({t', x'} : Finset (DevRef τ sig)) ⊆ S6 by decide
omit [FloatOps F] in
theorem hBack : (opBack (F := F)).bufs ⊆ S6 := show ({o', r'} : Finset (DevRef τ sig)) ⊆ S6 by decide

/-- What the program leaves the claims. -/
abbrev FIN (d : Dev nD) : sProp 𝕄 :=
  iprop((aLoc d ↦{fullShare} m (aLoc d)) ∗ (tLoc d ↦{fullShare} m (tLoc d)) ∗ rLoc d ↦{fullShare} (Rm m d : Buf (Elt F) (rLoc d)))

/-- The three arrays of the call are what the SparseCores take, and what they give back. -/
theorem start_eq (d : Dev nD) :
    (iprop((iLoc d ↦{fullShare} (XTm m d : Buf (Elt F) (iLoc d))) ∗ (xLoc d ↦{fullShare} (X2m m d : Buf (Elt F) (xLoc d))) ∗ oLoc d ↦{fullShare} m (oLoc d)) : sProp 𝕄)
      = bigSep Finset.univ fun c : Fin ((K (F := F)).nCore 0) => (P m).st 0 d c := parts_eq (XTm m d) (X2m m d) d (m (oLoc d))
theorem end_eq (d : Dev nD) :
    (bigSep Finset.univ fun c : Fin ((K (F := F)).nCore 0) => (P m).dn 0 d c)
      = (iprop((iLoc d ↦{fullShare} (XTm m d : Buf (Elt F) (iLoc d))) ∗ (xLoc d ↦{fullShare} (X2m m d : Buf (Elt F) (xLoc d))) ∗ oLoc d ↦{fullShare} (Om m d : Buf (Elt F) (oLoc d))) : sProp 𝕄) :=
  (parts_eq (XTm m d) (X2m m d) d (Om m d)).symm

/-- The program on device `d`: the two operations before the call, the call, the one after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlip) (S := S6) hFlip (V := V0 m d)) $$ [Hb Hheld]
  · isplitl [Hb] <;> iassumption
  iintro ⟨Hb, Hheld⟩
  rw [wp_ret]; imodintro
  iapply (wp_hlo_within 𝒱 (SparseCore.T d) none Set.univ (op := opPair) (S := S6) hPair (V := (opFlip (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Ht, Hi, Hx, Ho, Hr⟩
  iapply ((K (F := F)).wp_run (D (F := F)) 𝒱 (EH := EH) (P := P m) κ d 0) $$ [Hst Ha Ht Hi Hx Ho Hr Hb Hts]
  isplitr; · iexact Hctx
  isplitl [Hst]; · iexact Hst
  isplitl [Hi Hx Ho]
  · iapply (Entails.of_eq (start_eq m d))
    isplitl [Hi]; · iexact Hi
    isplitl [Hx]; · iexact Hx
    iexact Ho
  iintro ⟨Hst, Hdn⟩
  ihave Hdn' := (Entails.of_eq (end_eq m d)) $$ Hdn
  icases Hdn' with ⟨Hi, Hx, Ho⟩
  iapply (wp_hlo_within 𝒱 (SparseCore.T d) none Set.univ (op := opBack) (S := S6) hBack (V := V3 m d)) $$ [Hb Ha Ht Hi Hx Ho Hr]
  · isplitl [Hb]; · iexact Hb
    rw [held_V3]
    isplitl [Ha]; · iexact Ha
    isplitl [Ht]; · iexact Ht
    isplitl [Hi]; · iexact Hi
    isplitl [Hx]; · iexact Hx
    isplitl [Ho]; · iexact Ho
    iexact Hr
  iintro ⟨Hb, Hheld⟩
  ihave Hf := (held_end (F := F) m d) $$ Hheld
  rw [wp_ret]; imodintro; imodintro
  isplitl [Hst]; · iexact Hst
  isplitl [Hf]; · iexact Hf
  isplitl [Hb] <;> iassumption

/-! ## The run -/

/-- What the claims read of device `d`'s final memory. -/
def fq (d : Dev nD) (s' : Phys nD τ sig (Elt F)) : Prop :=
  s'.mem.mem (aLoc d) = m (aLoc d) ∧ s'.mem.mem (tLoc d) = m (tLoc d) ∧ s'.mem.mem (rLoc d) = (Rm m d : Buf (Elt F) (rLoc d))

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := (Rm m d : Buf (Elt F) (rLoc d)))) $$ [HSI Hr]
  · isplitl [HSI] <;> iassumption
  icases H with %hr
  ipureintro
  exact ⟨funext fun i => ha i (Finset.mem_univ i), funext fun i => ht i (Finset.mem_univ i), funext fun i => hr i (Finset.mem_univ i)⟩

def QC : PUnit × MemSt nD τ sig (Elt F) → Prop := fun r =>
  (∀ c : Dev nD, r.2.mem (aLoc c) = m (aLoc c) ∧ r.2.mem (tLoc c) = m (tLoc c) ∧ r.2.mem (rLoc c) = (Rm m c : Buf (Elt F) (rLoc c))) ∧ r.2.sem = fun _ => 0

/-- The whole program's run, from indices in range: every device's arguments end as they were launched, its result at
    `Rm`, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Body

end
-- ==== Proof.Value.Range.lean ====
/-
  The claims' precondition, index by index: every index is below the number of the table's rows.
-/
module

public import proofs.«01_k».proof.Proof.Gen.Pre_in_range
public import Idealize.ShloMosaic.Lib.ReduceAll
public import Idealize.ShloMosaic.Lib.IdealHost

@[expose] public section

noncomputable section

namespace Cert.Value

open Idealize.ShloMosaic Cert.Pre_in_range

theorem ofBool_eq_one (p : Bool) : BitVec.ofBool p = 1#1 ↔ p = true := by cases p <;> decide

/-- A conjunction of two bits is 1 only if both are. -/
theorem andi_one (p q : BitVec 1) (h : IntOp.andi p q = 1#1) : p = 1#1 ∧ q = 1#1 := by
  revert p q; decide

/-- A word that is signed non-negative and signed below 1000000 is below 1000000. -/
theorem lt_of_range (v : BitVec 32) (h0 : IntOp.cmpi .sge v 0#32 = 1#1) (h1 : IntOp.cmpi .slt v 1000000#32 = 1#1) : v.toNat < 1000000 := by
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

instance : Subsingleton S_.Idx := ⟨fun a b => funext fun k => k.elim0⟩

/-- The precondition at one index. -/
theorem lt_of_pre {F : FTy → Type} [FloatOps F] [Facts] (a : IVec S4096x200 32) (t : FVec F S1000000x64 .f32)
    (h : fn (F := F) a t = fun _ => 1#1) (j : S4096x200.Idx) : (a j).toNat < 1000000 := by
  have e := congrFun h (Shape.Idx.first Facts.h_S_)
  obtain ⟨e0, e1⟩ := andi_one _ _ e
  exact lt_of_range _ (Host.reduce_andi_all _ _ _ _ _ e0 j) (Host.reduce_andi_all _ _ _ _ _ e1 j)

end Cert.Value

end
-- ==== Proof.Value.Lookup.lean ====
/-
  The value both programs compute, and the reference's: the table's row at each index, times eight.
-/
module

public import proofs.«01_k».proof.Proof.Gen.ReferenceIdeal
public import proofs.«01_k».proof.Proof.Value.Range
public import Idealize.ShloMosaic.Lib.ValueIdxCore
public import Idealize.ShloMosaic.Lib.Pipeline.Value
public import Idealize.ShloMosaic.PureOps.Ideal.Laws

@[expose] public section

noncomputable section

namespace Cert.Value

open Idealize.ShloMosaic Idealize.ShloMosaic.ValueIdx
open Cert.ReferenceIdeal Cert.ReferenceIdeal.Gen

/-- Element (i, j, k) of the result: element k of the table's row at index (i, j), times eight. -/
def lookup (a : S4096x200.Idx → BitVec 32) (t : S1000000x64.Idx → EReal) : S4096x200x64.Idx → EReal := fun y =>
  t (ix2 (n0 := 1000000) (n1 := 64) ⟨(a (ix2 (n0 := 4096) (n1 := 200) (y 0) (y 1))).toNat % 1000000, Nat.mod_lt _ (by decide)⟩ (y 2)) * ((8 : ℝ) : EReal)

/-! ## The constants -/

/-- The f32 patterns of 8 and of 64. -/
theorem ofBits_eight : Ideal.ofBits .f32 0x41000000#32 = ((8 : ℝ) : EReal) := by
  simp [Ideal.ofBits, Ideal.ieee, -EReal.coe_mul]; norm_num
theorem ofBits_sixtyfour : Ideal.ofBits .f32 0x42800000#32 = ((64 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  have h : Real.sqrt 64 = 8 := by
    rw [show (64 : ℝ) = 8 ^ 2 by norm_num]; exact Real.sqrt_sq (by norm_num)
  show (if (64 : ℝ) < 0 then (⊥ : EReal) else ((Real.sqrt 64 : ℝ) : EReal)) = _
  rw [if_neg (by norm_num), h]

/-! ## The reference's indices -/

/-- A word below 1000000 is signed non-negative, at most 999999, and reads signed as it reads unsigned. -/
theorem not_neg (v : BitVec 32) (h : v.toNat < 1000000) : IntOp.cmpi .slt v 0#32 = 0#1 := by
  simp only [IntOp.cmpi, BitVec.slt_eq_decide, BitVec.toInt_eq_toNat_cond, BitVec.toNat_ofNat, Nat.reducePow, Nat.reduceMod]
  rw [decide_eq_false (by omega)]; rfl
theorem nonneg (v : BitVec 32) (h : v.toNat < 1000000) : IntOp.cmpi .sge v 0#32 = 1#1 := by
  simp only [IntOp.cmpi, ofBool_eq_one, BitVec.sle_eq_decide, decide_eq_true_eq, BitVec.toInt_eq_toNat_cond, BitVec.toNat_ofNat, Nat.reducePow, Nat.reduceMod]
  omega
theorem le_last (v : BitVec 32) (h : v.toNat < 1000000) : IntOp.cmpi .sle v 999999#32 = 1#1 := by
  simp only [IntOp.cmpi, ofBool_eq_one, BitVec.sle_eq_decide, decide_eq_true_eq, BitVec.toInt_eq_toNat_cond, BitVec.toNat_ofNat, Nat.reducePow, Nat.reduceMod]
  omega
theorem clamp_eq (v : BitVec 32) (h : v.toNat < 1000000) : min v.toInt.toNat (1000000 - 1) = v.toNat % 1000000 := by
  rw [BitVec.toInt_eq_toNat_cond]
  omega

/-- The reference's index array: a negative index counted from the table's end. -/
abbrev wrapped (a : IVec S4096x200 32) : IVec S4096x200 32 :=
  select (cmpi .slt a (broadcastInDim S4096x200 ![] bcast_S_S4096x200 (constantI S_ 32 0#32)))
    (addi a (broadcastInDim S4096x200 ![] bcast_S_S4096x200 (constantI S_ 32 1000000#32))) a

/-- Indices in range are not wrapped. -/
theorem wrapped_eq (a : IVec S4096x200 32) (ha : ∀ j, (a j).toNat < 1000000) : wrapped a = a := by
  funext j
  show (if IntOp.cmpi .slt (a j) 0#32 = 1#1 then _ else a j) = a j
  rw [not_neg _ (ha j), if_neg (by decide)]

/-- The index array with a unit axis at its end. -/
abbrev unit (a : IVec S4096x200 32) : IVec S4096x200x1 32 := broadcastInDim S4096x200x1 ![0, 1] bcast_S4096x200_S4096x200x1_0_1 a

theorem unit_apply (a : IVec S4096x200 32) (x : S4096x200x1.Idx) : unit a x = a (ix2 (n0 := 4096) (n1 := 200) (x 0) (x 1)) :=
  broadcastInDim_apply _ _ _ _ _ fun b => match b with | ⟨0, _⟩ => rfl | ⟨1, _⟩ => rfl

/-- The reference's mask of the indices within the table. -/
abbrev within (a : IVec S4096x200 32) : IVec S4096x200 1 :=
  Host.reduce IntOp.andi (andi (cmpi .sge (unit a) (broadcastInDim S4096x200x1 ![] bcast_S_S4096x200x1 (constantI S_ 32 0#32)))
    (cmpi .sle (unit a) (broadcastInDim S4096x200x1 ![0, 1, 2] bcast_S1x1x1_S4096x200x1_0_1_2 (broadcastInDim S1x1x1 ![2] bcast_S1_S1x1x1_2 (constantI S1 32 999999#32)))))
    (constantI S_ 1 1#1) reducesTo_S4096x200x1_S4096x200_d2 h_S_

/-- Indices in range are all within the table. -/
theorem within_one (a : IVec S4096x200 32) (ha : ∀ j, (a j).toNat < 1000000) (j : S4096x200.Idx) : within a j = 1#1 := by
  refine Host.reduce_andi_one _ _ _ _ _ rfl fun x => ?_
  have h : (unit a x).toNat < 1000000 := by rw [unit_apply]; exact ha _
  show IntOp.andi (IntOp.cmpi .sge (unit a x) 0#32) (IntOp.cmpi .sle (unit a x) 999999#32) = 1#1
  rw [nonneg _ h, le_last _ h]; decide

/-! ## The reference's rows -/

abbrev rowsDims := gather_S1000000x64_S4096x200x1_S4096x200x64_2_0_n_n_0_2_164

/-- The gather at (i, j, k): element k of the table's row at start index (i, j), read signed and clamped. -/
theorem rows_apply {α : Type} (t : S1000000x64.Idx → α) (u : IVec S4096x200x1 32) (y : S4096x200x64.Idx) :
    Host.gather rowsDims t u y
      = t (ix2 (n0 := 1000000) (n1 := 64) ⟨min (u (ix3 (n0 := 4096) (n1 := 200) (n2 := 1) (y 0) (y 1) 0)).toInt.toNat (1000000 - 1), by omega⟩ (y 2)) := by
  unfold Host.gather
  refine congrArg t (funext fun b => Fin.ext ?_)
  show rowsDims.start y u b + rowsDims.batchCoord y b + rowsDims.offCoord y b = _
  rw [GatherDims.batchCoord_eq_zero _ _ _ List.not_mem_nil, Nat.add_zero]
  have hb : b = (0 : Fin 2) ∨ b = (1 : Fin 2) := match b with | ⟨0, _⟩ => Or.inl rfl | ⟨1, _⟩ => Or.inr rfl
  rcases hb with rfl | rfl
  · rw [GatherDims.offCoord_eq_zero _ _ _ (fun h => ((GatherDims.mem_sKept _ _).mp h).1 (List.mem_singleton.mpr rfl)), Nat.add_zero]
    have e : rowsDims.siIdx y ⟨List.idxOf (0 : Fin 2) rowsDims.startIndexMap, List.idxOf_lt_length_iff.2 (List.mem_singleton.mpr rfl)⟩
        = ix3 (n0 := 4096) (n1 := 200) (n2 := 1) (y 0) (y 1) 0 := by
      funext c
      refine Fin.ext ?_
      match c with
      | ⟨0, _⟩ => rfl
      | ⟨1, _⟩ => rfl
      | ⟨2, _⟩ => rfl
    exact (dif_pos (show (0 : Fin 2) ∈ rowsDims.startIndexMap from List.mem_singleton.mpr rfl)).trans
      (congrArg (fun v : BitVec 32 => min v.toInt.toNat (1000000 - 1)) (congrArg u e))
  · have hs : rowsDims.start y u (1 : Fin 2) = 0 :=
      dif_neg (show (1 : Fin 2) ∉ rowsDims.startIndexMap from fun h => absurd (List.mem_singleton.mp h) (by decide))
    rw [hs, Nat.zero_add]
    exact dif_pos ((GatherDims.mem_sKept _ _).mpr ⟨fun h => absurd (List.mem_singleton.mp h) (by decide), List.not_mem_nil⟩)

/-! ## The reference's value -/

/-- The reference's result as its operations compose. -/
abbrev refOut (a : IVec S4096x200 32) (t : S1000000x64.Idx → Ideal .f32) : S4096x200x64.Idx → Ideal .f32 :=
  mulf (F := Ideal) (φ := .f32) (select (broadcastInDim S4096x200x64 ![0, 1] bcast_S4096x200_S4096x200x64_0_1 (within (wrapped a)))
      (Host.gather rowsDims t (unit (wrapped a)))
      (broadcastInDim S4096x200x64 ![] bcast_S_S4096x200x64 (constant (F := Ideal) S_ .f32 0x7FC00000#32)))
    (broadcastInDim S4096x200x64 ![] bcast_S_S4096x200x64 (Host.sqrt (F := Ideal) (φ := .f32) (constant (F := Ideal) S_ .f32 0x42800000#32)))

/-- A masked array times another, where the mask is set. -/
theorem scaled_apply {S : Shape} (M : IVec S 1) (G B C : S.Idx → Ideal .f32) (y : S.Idx) (h : M y = 1#1) :
    mulf (F := Ideal) (φ := .f32) (select M G B) C y = G y * C y :=
  congrArg (· * C y) (if_pos h : (if M y = 1#1 then G y else B y) = G y)

/-- The factor is 8 everywhere. -/
theorem factor_apply (y : S4096x200x64.Idx) :
    broadcastInDim S4096x200x64 ![] bcast_S_S4096x200x64 (Host.sqrt (F := Ideal) (φ := .f32) (constant (F := Ideal) S_ .f32 0x42800000#32)) y
      = ((8 : ℝ) : EReal) := by
  refine (broadcastInDim_scalar_apply _ _ y).trans ?_
  show Ideal.sqrt (Ideal.ofBits .f32 0x42800000#32) = _
  rw [ofBits_sixtyfour, sqrt_sixtyfour]

/-- From indices in range the reference looks up and scales. -/
theorem refOut_eq (a : IVec S4096x200 32) (t : S1000000x64.Idx → Ideal .f32) (ha : ∀ j, (a j).toNat < 1000000) : refOut a t = lookup a t := by
  unfold refOut
  rw [wrapped_eq a ha]
  funext y
  have hm : broadcastInDim S4096x200x64 ![0, 1] bcast_S4096x200_S4096x200x64_0_1 (within a) y = 1#1 :=
    (broadcastInDim_apply _ _ _ _ (ix2 (n0 := 4096) (n1 := 200) (y 0) (y 1)) fun b => match b with | ⟨0, _⟩ => rfl | ⟨1, _⟩ => rfl).trans (within_one a ha _)
  refine (scaled_apply _ _ _ _ y hm).trans ?_
  rw [factor_apply, rows_apply]
  refine congrArg (fun r : Fin 1000000 => (t (ix2 (n0 := 1000000) (n1 := 64) r (y 2)) : EReal) * ((8 : ℝ) : EReal)) (Fin.ext ?_)
  refine (congrArg (fun v : BitVec 32 => min v.toInt.toNat (1000000 - 1)) (unit_apply a _)).trans ?_
  exact clamp_eq _ (ha _)

end Cert.Value

end
-- ==== Proof.Value.Rows.lean ====
/-
  The kernel's value: what its tiles write, transposed, is the table's row at each index, times eight.
-/
module

public import proofs.«01_k».proof.Proof.KI.Launch
public import proofs.«01_k».proof.Proof.Value.Lookup

@[expose] public section

noncomputable section

namespace Cert.Value

open Idealize.ShloMosaic Idealize.ShloMosaic.ValueIdx
open Cert.KernelIdeal Cert.KernelIdeal.Gen Cert.KernelIdeal.Body

/-- The transposed indices at (j, i). -/
theorem flipIdx_apply (a : S4096x200.Idx → BitVec 32) (j : Fin 200) (i : Fin 4096) : flipIdx a (ix2 j i) = a (ix2 i j) :=
  transpose_apply _ _ _ _ _ fun b => match b with | ⟨0, _⟩ => rfl | ⟨1, _⟩ => rfl

/-- The paired table at row v / 2 and lane 64 (v mod 2) + k is the table at row v and element k. -/
theorem pairRows_apply (t : S1000000x64.Idx → Ideal .f32) (v : ℕ) (hv : v < 1000000) (k : Fin 64) (p : Fin 500000) (q : Fin 128)
    (hp : p.val = v / 2) (hq : q.val = v % 2 * 64 + k.val) : pairRows t (ix2 p q) = t (ix2 (n0 := 1000000) ⟨v, hv⟩ k) := by
  refine shapeCast_apply _ _ _ _ ?_
  rw [Shape.rowMajor_val_two, Shape.rowMajor_val_two]
  show v * 64 + k.val = p.val * 128 + q.val
  omega

/-- What the tiles write at (j, k, i). -/
theorem outOf_apply (a : S4096x200.Idx → BitVec 32) (t : S1000000x64.Idx → Ideal .f32) (ha : ∀ j, (a j).toNat < 1000000)
    (i : Fin 4096) (j : Fin 200) (k : Fin 64) : outOf (flipIdx a) (pairRows t) (ix3 j k i) = lookup a t (ix3 i j k) := by
  have hv : (flipIdx a (ix2 j i)).toNat = (a (ix2 i j)).toNat := congrArg BitVec.toNat (flipIdx_apply a j i)
  have h := ha (ix2 i j)
  have e : pairRows t (ix2 (n0 := 500000) (n1 := 128) ⟨(flipIdx a (ix2 j i)).toNat / 2 % 500000, Nat.mod_lt _ (by decide)⟩
      ⟨(flipIdx a (ix2 j i)).toNat % 2 * 64 + k.val, by omega⟩) = t (ix2 (n0 := 1000000) ⟨(a (ix2 i j)).toNat % 1000000, Nat.mod_lt _ (by decide)⟩ k) :=
    pairRows_apply t _ (Nat.mod_lt _ (by decide)) k _ _ (by show (flipIdx a (ix2 j i)).toNat / 2 % 500000 = _; omega)
      (by show (flipIdx a (ix2 j i)).toNat % 2 * 64 + k.val = _; omega)
  have h8 : ∀ x : Ideal .f32, times8 (F := Ideal) x = (x : EReal) * ((8 : ℝ) : EReal) := fun x => congrArg (fun z : EReal => (x : EReal) * z) ofBits_eight
  exact (h8 _).trans (congrArg (fun z : EReal => z * ((8 : ℝ) : EReal)) e)

/-- From indices in range the kernel looks up and scales. -/
theorem Rm_eq (m : (ℓ : Loc nD τ sig) → Buf (Elt Ideal) ℓ) (ha : PreOK m) (d : Dev nD) :
    Rm m d = lookup (m (aLoc d)) (m (tLoc d)) := by
  funext y
  obtain ⟨i, j, k, rfl⟩ : ∃ (i : Fin 4096) (j : Fin 200) (k : Fin 64), y = ix3 i j k := ⟨y 0, y 1, y 2, eq_ix3 y⟩
  refine Eq.trans ?_ (outOf_apply (m (aLoc d)) (m (tLoc d)) (ha d) i j k)
  exact transpose_apply _ _ _ _ _ fun b => match b with | ⟨0, _⟩ => rfl | ⟨1, _⟩ => rfl | ⟨2, _⟩ => rfl

end Cert.Value

end
-- ==== Proof.lean ====
/-
  The proof of the claims: the kernel runs from indices in range, as printed and read at exact numbers; the reference
  runs from any; from indices in range the two results are equal. The kernel's run is `Body.run_main` (K/Launch.lean and
  its copy KI/Launch.lean); the value both programs compute is `Value.lookup` (Value/Lookup.lean, Value/Rows.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.K.Launch
public import proofs.«01_k».proof.Proof.KI.Launch
public import proofs.«01_k».proof.Proof.Value.Rows
public import Idealize.ShloMosaic.Adequacy
public import Idealize.ShloMosaic.Init

@[expose] public section

noncomputable section

namespace Cert.Proof

open Idealize.ShloMosaic Idealize.SL.Sem

/-- The kernel's precondition puts every index in range. -/
theorem ok_kernel (m : (ℓ : Loc Cert.Kernel.nD Cert.Kernel.τ Cert.Kernel.sig) → Buf (Elt Bits) ℓ)
    (h : Cert.Pre_Kernel m) : Cert.Kernel.Body.PreOK (F := Bits) m := fun d y => Cert.Value.lt_of_pre _ _ (h d) y
theorem ok_kernelIdeal (m : (ℓ : Loc Cert.KernelIdeal.nD Cert.KernelIdeal.τ Cert.KernelIdeal.sig) → Buf (Elt Ideal) ℓ)
    (h : Cert.Pre_KernelIdeal m) : Cert.KernelIdeal.Body.PreOK (F := Ideal) m := fun d y => Cert.Value.lt_of_pre _ _ (h d) y

/-- The kernel runs, leaves its arguments and returns every counter to zero. -/
theorem frame_kernel : Cert.quiescent_Kernel := fun m g h =>
  (θ_run Cert.Kernel.defs _ _).mono (fun _ q => ⟨fun c => ⟨(q.1 c).1, (q.1 c).2.1⟩, q.2⟩)
    (Cert.Kernel.Body.run_main (F := Bits) m g (ok_kernel m h))

/-- So does the kernel at exact numbers. -/
theorem frame_kernelIdeal : Cert.quiescent_KernelIdeal := fun m g h =>
  (θ_run Cert.KernelIdeal.defs _ _).mono (fun _ q => ⟨fun c => ⟨(q.1 c).1, (q.1 c).2.1⟩, q.2⟩)
    (Cert.KernelIdeal.Body.run_main (F := Ideal) m g (ok_kernelIdeal m h))

/-- So does the reference, from any memory; it declares no semaphore. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

theorem frame_reference_in_range : Cert.quiescent_ReferenceIdeal_pre_in_range := fun m g _ => frame_reference m g trivial

/-- From equal arguments, indices in range, the two results are equal: both are the lookup, scaled. -/
theorem values : Cert.algebraic_KernelIdeal_ReferenceIdeal := by
  intro m g m' g' h hm
  have ok := ok_kernelIdeal m h
  refine ⟨fun c => Cert.Value.lookup (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ q c => ⟨(q.1 c).2.2.trans (Cert.Value.Rm_eq m ok c), (q.1 c).1, (q.1 c).2.1⟩)
      (Cert.KernelIdeal.Body.run_main (F := Ideal) m g ok)
  · refine (θ_run Cert.ReferenceIdeal.defs _ _).mono (fun r q c => ⟨(q c).1.trans ?_, (q c).2⟩)
      (Cert.ReferenceIdeal.Value.run (F := Ideal) m' g')
    rw [(hm c).1, (hm c).2]
    exact Cert.Value.refOut_eq _ _ (ok c)

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, values⟩

end Cert.Proof

end
